-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_inputs [hPre_finite_inputs : Cert.Pre_finite_inputs.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_inputs.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_finite_inputs.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_inputs [hPre_finite_inputs : Cert.Pre_finite_inputs.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_inputs.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_finite_inputs.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_finite_gate [hPre_finite_gate : Cert.Pre_finite_gate.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_finite_gate.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9)) (m ((c.tc : Thread Cert.MergeKernelIdeal.nD Cert.MergeKernelIdeal.τ).loc Cert.MergeKernelIdeal.main_arg10)) (m ((c.tc : Thread Cert.MergeKernelIdeal.nD Cert.MergeKernelIdeal.τ).loc Cert.MergeKernelIdeal.main_arg11))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_gate [hPre_finite_gate : Cert.Pre_finite_gate.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_gate.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11))) = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite_inputs [hFfnKernelIdeal : Cert.FfnKernelIdeal.Facts] [hPre_finite_inputs : Cert.Pre_finite_inputs.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_inputs m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_inputs [hFfnReferenceIdeal : Cert.FfnReferenceIdeal.Facts] [hPre_finite_inputs : Cert.Pre_finite_inputs.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_inputs m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ r.2.sem = fun _ => 0)

def quiescent_MergeKernelIdeal_pre_finite_gate [hMergeKernelIdeal : Cert.MergeKernelIdeal.Facts] [hPre_finite_gate : Cert.Pre_finite_gate.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_finite_gate m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_MergeReferenceIdeal_pre_finite_gate [hMergeReferenceIdeal : Cert.MergeReferenceIdeal.Facts] [hPre_finite_gate : Cert.Pre_finite_gate.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_gate m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnKernel_FfnKernelIdeal : Prop :=
  True

def algebraic_FfnKernelIdeal_FfnReferenceIdeal_pre_finite_inputs [hFfnKernelIdeal : Cert.FfnKernelIdeal.Facts] [hFfnReferenceIdeal : Cert.FfnReferenceIdeal.Facts] [hPre_finite_inputs : Cert.Pre_finite_inputs.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_inputs m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MergeKernel_MergeKernelIdeal : Prop :=
  True

def algebraic_MergeKernelIdeal_MergeReferenceIdeal_pre_finite_gate [hMergeKernelIdeal : Cert.MergeKernelIdeal.Facts] [hMergeReferenceIdeal : Cert.MergeReferenceIdeal.Facts] [hPre_finite_gate : Cert.Pre_finite_gate.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_finite_gate m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)) →
    ∃ (v0 : (c : Dev Cert.MergeKernelIdeal.nD) → Buf (Elt Ideal) ((c.tc : Thread Cert.MergeKernelIdeal.nD Cert.MergeKernelIdeal.τ).loc Cert.MergeKernelIdeal.main_v20)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v20) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)) →
    ∃ (v0 : (c : Dev Cert.InprojKernelIdeal.nD) → Buf (Elt Ideal) ((c.tc : Thread Cert.InprojKernelIdeal.nD Cert.InprojKernelIdeal.τ).loc Cert.InprojKernelIdeal.main_v45_0)) (v1 : (c : Dev Cert.InprojKernelIdeal.nD) → Buf (Elt Ideal) ((c.tc : Thread Cert.InprojKernelIdeal.nD Cert.InprojKernelIdeal.τ).loc Cert.InprojKernelIdeal.main_v45_1)) (v2 : (c : Dev Cert.InprojKernelIdeal.nD) → Buf (Elt Ideal) ((c.tc : Thread Cert.InprojKernelIdeal.nD Cert.InprojKernelIdeal.τ).loc Cert.InprojKernelIdeal.main_v45_2)) (v3 : (c : Dev Cert.InprojKernelIdeal.nD) → Buf (Elt Ideal) ((c.tc : Thread Cert.InprojKernelIdeal.nD Cert.InprojKernelIdeal.τ).loc Cert.InprojKernelIdeal.main_v45_3)) (v4 : (c : Dev Cert.InprojKernelIdeal.nD) → Buf (Elt Ideal) ((c.tc : Thread Cert.InprojKernelIdeal.nD Cert.InprojKernelIdeal.τ).loc Cert.InprojKernelIdeal.main_v45_4)) (v5 : (c : Dev Cert.InprojKernelIdeal.nD) → Buf (Elt Ideal) ((c.tc : Thread Cert.InprojKernelIdeal.nD Cert.InprojKernelIdeal.τ).loc Cert.InprojKernelIdeal.main_v45_5)) (v6 : (c : Dev Cert.InprojKernelIdeal.nD) → Buf (Elt Ideal) ((c.tc : Thread Cert.InprojKernelIdeal.nD Cert.InprojKernelIdeal.τ).loc Cert.InprojKernelIdeal.main_v45_6)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v45_0) = v0 c
          ∧ r.2.mem ((c.tc : Thread Cert.InprojKernelIdeal.nD Cert.InprojKernelIdeal.τ).loc Cert.InprojKernelIdeal.main_v45_1) = v1 c
          ∧ r.2.mem ((c.tc : Thread Cert.InprojKernelIdeal.nD Cert.InprojKernelIdeal.τ).loc Cert.InprojKernelIdeal.main_v45_2) = v2 c
          ∧ r.2.mem ((c.tc : Thread Cert.InprojKernelIdeal.nD Cert.InprojKernelIdeal.τ).loc Cert.InprojKernelIdeal.main_v45_3) = v3 c
          ∧ r.2.mem ((c.tc : Thread Cert.InprojKernelIdeal.nD Cert.InprojKernelIdeal.τ).loc Cert.InprojKernelIdeal.main_v45_4) = v4 c
          ∧ r.2.mem ((c.tc : Thread Cert.InprojKernelIdeal.nD Cert.InprojKernelIdeal.τ).loc Cert.InprojKernelIdeal.main_v45_5) = v5 c
          ∧ r.2.mem ((c.tc : Thread Cert.InprojKernelIdeal.nD Cert.InprojKernelIdeal.τ).loc Cert.InprojKernelIdeal.main_v45_6) = v6 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v62) = v0 c
          ∧ r.2.mem ((c.tc : Thread Cert.InprojReferenceIdeal.nD Cert.InprojReferenceIdeal.τ).loc Cert.InprojReferenceIdeal.main_v63) = v1 c
          ∧ r.2.mem ((c.tc : Thread Cert.InprojReferenceIdeal.nD Cert.InprojReferenceIdeal.τ).loc Cert.InprojReferenceIdeal.main_v64) = v2 c
          ∧ r.2.mem ((c.tc : Thread Cert.InprojReferenceIdeal.nD Cert.InprojReferenceIdeal.τ).loc Cert.InprojReferenceIdeal.main_v61) = v3 c
          ∧ r.2.mem ((c.tc : Thread Cert.InprojReferenceIdeal.nD Cert.InprojReferenceIdeal.τ).loc Cert.InprojReferenceIdeal.main_v65) = v4 c
          ∧ r.2.mem ((c.tc : Thread Cert.InprojReferenceIdeal.nD Cert.InprojReferenceIdeal.τ).loc Cert.InprojReferenceIdeal.main_v66) = v5 c
          ∧ r.2.mem ((c.tc : Thread Cert.InprojReferenceIdeal.nD Cert.InprojReferenceIdeal.τ).loc Cert.InprojReferenceIdeal.main_v67) = v6 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hInprojKernel : Cert.InprojKernel.Facts) (hInprojKernelIdeal : Cert.InprojKernelIdeal.Facts) (hInprojReferenceIdeal : Cert.InprojReferenceIdeal.Facts) (hPre_finite_inputs : Cert.Pre_finite_inputs.Facts) (hPre_finite_gate : Cert.Pre_finite_gate.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnKernelIdeal_pre_finite_inputs (hFfnKernelIdeal := hFfnKernelIdeal) (hPre_finite_inputs := hPre_finite_inputs)
    ∧ quiescent_FfnReferenceIdeal (hFfnReferenceIdeal := hFfnReferenceIdeal)
    ∧ quiescent_FfnReferenceIdeal_pre_finite_inputs (hFfnReferenceIdeal := hFfnReferenceIdeal) (hPre_finite_inputs := hPre_finite_inputs)
    ∧ quiescent_MergeKernel (hMergeKernel := hMergeKernel)
    ∧ quiescent_MergeKernelIdeal (hMergeKernelIdeal := hMergeKernelIdeal)
    ∧ quiescent_MergeKernelIdeal_pre_finite_gate (hMergeKernelIdeal := hMergeKernelIdeal) (hPre_finite_gate := hPre_finite_gate)
    ∧ quiescent_MergeReferenceIdeal (hMergeReferenceIdeal := hMergeReferenceIdeal)
    ∧ quiescent_MergeReferenceIdeal_pre_finite_gate (hMergeReferenceIdeal := hMergeReferenceIdeal) (hPre_finite_gate := hPre_finite_gate)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal_pre_finite_inputs (hFfnKernelIdeal := hFfnKernelIdeal) (hFfnReferenceIdeal := hFfnReferenceIdeal) (hPre_finite_inputs := hPre_finite_inputs)
    ∧ preserves_MergeKernel_MergeKernelIdeal
    ∧ algebraic_MergeKernelIdeal_MergeReferenceIdeal_pre_finite_gate (hMergeKernelIdeal := hMergeKernelIdeal) (hMergeReferenceIdeal := hMergeReferenceIdeal) (hPre_finite_gate := hPre_finite_gate)
    ∧ preserves_InprojKernel_InprojKernelIdeal
    ∧ algebraic_InprojKernelIdeal_InprojReferenceIdeal (hInprojKernelIdeal := hInprojKernelIdeal) (hInprojReferenceIdeal := hInprojReferenceIdeal)
-- ==== Pre_finite_gate.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S16x4096x3072 : Shape := ⟨3, ![16, 4096, 3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S16x4096x512 : S_.BroadcastsInDim S16x4096x512 (![] : Fin 0 → Fin S16x4096x512.rank)

variable [Facts]

def fn {F : FTy → Type} [FloatOps F] (main_arg0 : FVec F S16x4096x1024 .f32) (main_arg1 : FVec F S16x4096x512 .bf16) (main_arg2 : FVec F S16x4096x512 .bf16) (main_arg3 : FVec F S16x4096x256 .bf16) (main_arg4 : FVec F S16x4096x256 .bf16) (main_arg5 : FVec F S16x4096x3072 .bf16) (main_arg6 : FVec F S512x1024 .f32) (main_arg7 : FVec F S256x1024 .f32) (main_arg8 : FVec F S256x1024 .f32) (main_arg9 : FVec F S1024x1024 .f32) (main_arg10 : FVec F S1024 .f32) (main_arg11 : FVec F S1024 .f32) : IVec S16x4096x512 1 :=
  let main_v0 : FVec F S16x4096x512 .f32 := (extf .f32 · bitsLt_bf16_f32) main_arg2
  let main_v1 : FVec F S16x4096x512 .f32 := Host.absf main_v0
  let main_cst : FVec F S_ .f32 := constant S_ .f32 0x7F800000#32
  let main_v2 : FVec F S16x4096x512 .f32 := broadcastInDim S16x4096x512 ![] bcast_S_S16x4096x512 main_cst
  let main_v3 : IVec S16x4096x512 1 := cmpf .olt main_v1 main_v2
  main_v3
-- ==== Pre_finite_inputs.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S16x4096x1024 : S_.BroadcastsInDim S16x4096x1024 (![] : Fin 0 → Fin S16x4096x1024.rank)
  bcast_S_S1024x2816 : S_.BroadcastsInDim S1024x2816 (![] : Fin 0 → Fin S1024x2816.rank)

variable [Facts]

def fn {F : FTy → Type} [FloatOps F] (main_arg0 : FVec F S16x4096x1024 .f32) (main_arg1 : FVec F S1024x2816 .f32) (main_arg2 : FVec F S1024x2816 .f32) (main_arg3 : FVec F S2816x1024 .f32) (main_arg4 : FVec F S1024 .f32) (main_arg5 : FVec F S1024 .f32) : IVec S16x4096x1024 1 × IVec S1024x2816 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Kernel.lean ====
abbrev S16x4096x1024 : Shape := ⟨3, ![16, 4096, 1024]⟩
abbrev S16x4096x512 : Shape := ⟨3, ![16, 4096, 512]⟩
abbrev S16x64x512 : Shape := ⟨3, ![16, 64, 512]⟩
abbrev S128 : Shape := ⟨1, ![128]⟩
abbrev S64x256 : Shape := ⟨2, ![64, 256]⟩
abbrev S256x256 : Shape := ⟨2, ![256, 256]⟩
abbrev S256x512 : Shape := ⟨2, ![256, 512]⟩
abbrev S1x128 : Shape := ⟨2, ![1, 128]⟩
abbrev S1x4096x1024 : Shape := ⟨3, ![1, 4096, 1024]⟩
abbrev S1x4096x512 : Shape := ⟨3, ![1, 4096, 512]⟩
abbrev S1x64x512 : Shape := ⟨3, ![1, 64, 512]⟩
abbrev S4096x512 : Shape := ⟨2, ![4096, 512]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S64x512 : Shape := ⟨2, ![64, 512]⟩
abbrev S1x1x256 : Shape := ⟨3, ![1, 1, 256]⟩
abbrev S1x256 : Shape := ⟨2, ![1, 256]⟩
abbrev S64x128 : Shape := ⟨2, ![64, 128]⟩
abbrev S128x256 : Shape := ⟨2, ![128, 256]⟩
abbrev S128x512 : Shape := ⟨2, ![128, 512]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x512, .bf16⟩
  | .hbm, ⟨2, _⟩ => ⟨S16x64x512, .f32⟩
  | .hbm, ⟨3, _⟩ => ⟨S128, .f32⟩
  | .hbm, ⟨4, _⟩ => ⟨S64x256, .f32⟩
  | .hbm, ⟨5, _⟩ => ⟨S64x256, .f32⟩
  | .hbm, ⟨6, _⟩ => ⟨S256x256, .bf16⟩
  | .hbm, ⟨7, _⟩ => ⟨S256x512, .bf16⟩
  | .hbm, ⟨8, _⟩ => ⟨S1x128, .f32⟩
  | .hbm, ⟨9, _⟩ => ⟨S16x4096x512, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x64x512, .f32⟩
  | .local _ .vmem, ⟨5, _⟩ => ⟨S1x64x512, .f32⟩
  | .local _ .vmem, ⟨6, _⟩ => ⟨S1x128, .f32⟩
  | .local _ .vmem, ⟨7, _⟩ => ⟨S64x256, .f32⟩
  | .local _ .vmem, ⟨8, _⟩ => ⟨S64x256, .f32⟩
  | .local _ .vmem, ⟨9, _⟩ => ⟨S256x256, .bf16⟩
  | .local _ .vmem, ⟨10, _⟩ => ⟨S256x512, .bf16⟩
  | .local _ .vmem, ⟨11, _⟩ => ⟨S1x4096x512, .bf16⟩
  | .local _ .vmem, ⟨12, _⟩ => ⟨S1x4096x512, .bf16⟩
  | .local _ .vmem, ⟨13, _⟩ => ⟨S4096x512, .f32⟩
  | .local _ .vmem, ⟨14, _⟩ => ⟨S256x256, .f32⟩
  | .local _ .vmem, ⟨15, _⟩ => ⟨S256x256, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  v11
def k0_off1 (k0_t1 : Fin k0_t1_loop.trips) : Fin 3 → Nat :=
  let c0_9 : Index := 0#32
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  let v12 : BitVec 32 := v11
  let v13 : Index := Scalar.indexCast v12
  let c0_10 : Index := 0#32
  ![0, v13.toNat, 0]
def k0_off2 (k0_t1 : Fin k0_t1_loop.trips) : Fin 3 → Nat :=
  let c0_11 : Index := 0#32
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  let v12 : BitVec 32 := v11
  let v16 : Index := Scalar.indexCast v12
  let c256 : Index := 256#32
  ![0, v16.toNat, 256]
def k0_off3 (k0_t1 : Fin k0_t1_loop.trips) : Fin 3 → Nat :=
  let c0_12 : Index := 0#32
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  let v12 : BitVec 32 := v11
  let v19 : Index := Scalar.indexCast v12
  let c0_13 : Index := 0#32
  ![0, v19.toNat, 0]
def k0_off4 (k0_t1 : Fin k0_t1_loop.trips) : Fin 3 → Nat :=
  let c0_14 : Index := 0#32
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  let v12 : BitVec 32 := v11
  let v22 : Index := Scalar.indexCast v12
  let c512 : Index := 512#32
  ![0, v22.toNat, 512]
def k0_off5 (k0_t1 : Fin k0_t1_loop.trips) : Fin 3 → Nat :=
  let c0_15 : Index := 0#32
  let c0_i32 : BitVec 32 := 0#32
  let c1_i32 : BitVec 32 := 1#32
  let arg13 : BitVec 32 := Scf.iv c0_i32 c1_i32 k0_t1
  let c512_i32 : BitVec 32 := 512#32
  let v11 : BitVec 32 := Scalar.muli arg13 c512_i32
  let v12 : BitVec 32 := v11
  let v25 : Index := Scalar.indexCast v12
  let c768 : Index := 768#32
  ![0, v25.toNat, 768]
def k0_off6 (k0_t1 : Fin k0_t1_loop.trips) (c0_i32_20 : BitVec 32) : Fin 3 → Nat :=
  let c0_21 : Index := 0#32
  let c0_i32 : BitVec 32 := 0#32
  let c1_i32 : BitVec 32 := 1#32
  let arg13 : BitVec 32 := Scf.iv c0_i32 c1_i32 k0_t1
  let c8_i32 : BitVec 32 := 8#32
  let v33 : BitVec 32 := Scalar.muli arg13 c8_i32
  let v34 : BitVec 32 := Scalar.addi v33 c0_i32_20
  let v35 : Index := Scalar.indexCast v34
  let c0_22 : Index := 0#32
  ![0, v35.toNat, 0]
def k0_mult2 (k0_t1 : Fin k0_t1_loop.trips) : BitVec 32 :=
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_145 : BitVec 32 := 512#32
  let v506 : BitVec 32 := Scalar.muli v10 c512_i32_145
  v506
def k0_off7 (k0_t1 : Fin k0_t1_loop.trips) : Fin 3 → Nat :=
  let c0_146 : Index := 0#32
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_145 : BitVec 32 := 512#32
  let v506 : BitVec 32 := Scalar.muli v10 c512_i32_145
  let v507 : BitVec 32 := v506
  let v508 : Index := Scalar.indexCast v507
  let c512_147 : Index := 512#32
  ![0, v508.toNat, 512]
def k0_off8 (k0_t1 : Fin k0_t1_loop.trips) : Fin 3 → Nat :=
  let c0_148 : Index := 0#32
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_145 : BitVec 32 := 512#32
  let v506 : BitVec 32 := Scalar.muli v10 c512_i32_145
  let v507 : BitVec 32 := v506
  let v511 : Index := Scalar.indexCast v507
  let c768_149 : Index := 768#32
  ![0, v511.toNat, 768]
def k0_off9 (k0_t1 : Fin k0_t1_loop.trips) : Fin 3 → Nat :=
  let c0_150 : Index := 0#32
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_145 : BitVec 32 := 512#32
  let v506 : BitVec 32 := Scalar.muli v10 c512_i32_145
  let v507 : BitVec 32 := v506
  let v514 : Index := Scalar.indexCast v507
  let c0_151 : Index := 0#32
  ![0, v514.toNat, 0]
def k0_off10 (k0_t1 : Fin k0_t1_loop.trips) (c7_i32_157 : BitVec 32) : Fin 3 → Nat :=
  let c0_158 : Index := 0#32
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c8_i32_156 : BitVec 32 := 8#32
  let v522 : BitVec 32 := Scalar.muli v10 c8_i32_156
  let v523 : BitVec 32 := Scalar.addi v522 c7_i32_157
  let v524 : Index := Scalar.indexCast v523
  let c256_159 : Index := 256#32
  ![0, v524.toNat, 256]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_214 : BitVec 32 := 512#32
  let v819 : BitVec 32 := Scalar.muli arg13 c512_i32_214
  v819
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32_214 : BitVec 32 := 512#32
  let v819 : BitVec 32 := Scalar.muli arg13 c512_i32_214
  let v820 : BitVec 32 := v819
  let v821 : Index := Scalar.indexCast v820
  let c0_215 : Index := 0#32
  ![v821.toNat, 0]
def k0_mult4 (k0_t1 : Fin k0_t1_loop.trips) : BitVec 32 :=
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_216 : BitVec 32 := 512#32
  let v825 : BitVec 32 := Scalar.muli v10 c512_i32_216
  v825
def k0_off12 (k0_t1 : Fin k0_t1_loop.trips) : Fin 2 → Nat :=
  let c7_i32 : BitVec 32 := 7#32
  let c0_i32 : BitVec 32 := 0#32
  let c1_i32 : BitVec 32 := 1#32
  let arg13 : BitVec 32 := Scf.iv c0_i32 c1_i32 k0_t1
  let v10 : BitVec 32 := Scalar.subi c7_i32 arg13
  let c512_i32_216 : BitVec 32 := 512#32
  let v825 : BitVec 32 := Scalar.muli v10 c512_i32_216
  let v826 : BitVec 32 := v825
  let v827 : Index := Scalar.indexCast v826
  let c0_217 : Index := 0#32
  ![v827.toNat, 0]
@[reducible] def k0_t2_loop : Scf.Loop 32 :=
  let c4_i32_5 : BitVec 32 := 4#32
  let c4_i32_6 : BitVec 32 := 4#32
  let v9 : BitVec 32 := Scalar.addi c4_i32_5 c4_i32_6
  let c1_i32_7 : BitVec 32 := 1#32
  ⟨c4_i32_5, v9, c1_i32_7⟩
def k0_mult5 (k0_t2 : Fin k0_t2_loop.trips) : BitVec 32 :=
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  v11
def k0_off13 (k0_t2 : Fin k0_t2_loop.trips) : Fin 3 → Nat :=
  let c0_9 : Index := 0#32
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  let v12 : BitVec 32 := v11
  let v13 : Index := Scalar.indexCast v12
  let c0_10 : Index := 0#32
  ![0, v13.toNat, 0]
def k0_off14 (k0_t2 : Fin k0_t2_loop.trips) : Fin 3 → Nat :=
  let c0_11 : Index := 0#32
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  let v12 : BitVec 32 := v11
  let v16 : Index := Scalar.indexCast v12
  let c256 : Index := 256#32
  ![0, v16.toNat, 256]
def k0_off15 (k0_t2 : Fin k0_t2_loop.trips) : Fin 3 → Nat :=
  let c0_12 : Index := 0#32
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  let v12 : BitVec 32 := v11
  let v19 : Index := Scalar.indexCast v12
  let c0_13 : Index := 0#32
  ![0, v19.toNat, 0]
def k0_off16 (k0_t2 : Fin k0_t2_loop.trips) : Fin 3 → Nat :=
  let c0_14 : Index := 0#32
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  let v12 : BitVec 32 := v11
  let v22 : Index := Scalar.indexCast v12
  let c512 : Index := 512#32
  ![0, v22.toNat, 512]
def k0_off17 (k0_t2 : Fin k0_t2_loop.trips) : Fin 3 → Nat :=
  let c0_15 : Index := 0#32
  let c4_i32_5 : BitVec 32 := 4#32
  let c1_i32_7 : BitVec 32 := 1#32
  let arg13 : BitVec 32 := Scf.iv c4_i32_5 c1_i32_7 k0_t2
  let c512_i32 : BitVec 32 := 512#32
  let v11 : BitVec 32 := Scalar.muli arg13 c512_i32
  let v12 : BitVec 32 := v11
  let v25 : Index := Scalar.indexCast v12
  let c768 : Index := 768#32
  ![0, v25.toNat, 768]
def k0_off18 (k0_t2 : Fin k0_t2_loop.trips) (c0_i32_20 : BitVec 32) : Fin 3 → Nat :=
  let c0_21 : Index := 0#32
  let c4_i32_5 : BitVec 32 := 4#32
  let c1_i32_7 : BitVec 32 := 1#32
  let arg13 : BitVec 32 := Scf.iv c4_i32_5 c1_i32_7 k0_t2
  let c8_i32 : BitVec 32 := 8#32
  let v33 : BitVec 32 := Scalar.muli arg13 c8_i32
  let v34 : BitVec 32 := Scalar.addi v33 c0_i32_20
  let v35 : Index := Scalar.indexCast v34
  let c0_22 : Index := 0#32
  ![0, v35.toNat, 0]
def k0_mult6 (k0_t2 : Fin k0_t2_loop.trips) : BitVec 32 :=
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_145 : BitVec 32 := 512#32
  let v506 : BitVec 32 := Scalar.muli v10 c512_i32_145
  v506
def k0_off19 (k0_t2 : Fin k0_t2_loop.trips) : Fin 3 → Nat :=
  let c0_146 : Index := 0#32
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_145 : BitVec 32 := 512#32
  let v506 : BitVec 32 := Scalar.muli v10 c512_i32_145
  let v507 : BitVec 32 := v506
  let v508 : Index := Scalar.indexCast v507
  let c512_147 : Index := 512#32
  ![0, v508.toNat, 512]
def k0_off20 (k0_t2 : Fin k0_t2_loop.trips) : Fin 3 → Nat :=
  let c0_148 : Index := 0#32
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_145 : BitVec 32 := 512#32
  let v506 : BitVec 32 := Scalar.muli v10 c512_i32_145
  let v507 : BitVec 32 := v506
  let v511 : Index := Scalar.indexCast v507
  let c768_149 : Index := 768#32
  ![0, v511.toNat, 768]
def k0_off21 (k0_t2 : Fin k0_t2_loop.trips) : Fin 3 → Nat :=
  let c0_150 : Index := 0#32
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_145 : BitVec 32 := 512#32
  let v506 : BitVec 32 := Scalar.muli v10 c512_i32_145
  let v507 : BitVec 32 := v506
  let v514 : Index := Scalar.indexCast v507
  let c0_151 : Index := 0#32
  ![0, v514.toNat, 0]
def k0_off22 (k0_t2 : Fin k0_t2_loop.trips) (c7_i32_157 : BitVec 32) : Fin 3 → Nat :=
  let c0_158 : Index := 0#32
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c8_i32_156 : BitVec 32 := 8#32
  let v522 : BitVec 32 := Scalar.muli v10 c8_i32_156
  let v523 : BitVec 32 := Scalar.addi v522 c7_i32_157
  let v524 : Index := Scalar.indexCast v523
  let c256_159 : Index := 256#32
  ![0, v524.toNat, 256]
def k0_mult7 (k0_t2 : Fin k0_t2_loop.trips) : BitVec 32 :=
  let c4_i32_5 : BitVec 32 := 4#32
  let c1_i32_7 : BitVec 32 := 1#32
  let arg13 : BitVec 32 := Scf.iv c4_i32_5 c1_i32_7 k0_t2
  let c512_i32_214 : BitVec 32 := 512#32
  let v819 : BitVec 32 := Scalar.muli arg13 c512_i32_214
  v819
def k0_off23 (k0_t2 : Fin k0_t2_loop.trips) : Fin 2 → Nat :=
  let c4_i32_5 : BitVec 32 := 4#32
  let c1_i32_7 : BitVec 32 := 1#32
  let arg13 : BitVec 32 := Scf.iv c4_i32_5 c1_i32_7 k0_t2
  let c512_i32_214 : BitVec 32 := 512#32
  let v819 : BitVec 32 := Scalar.muli arg13 c512_i32_214
  let v820 : BitVec 32 := v819
  let v821 : Index := Scalar.indexCast v820
  let c0_215 : Index := 0#32
  ![v821.toNat, 0]
def k0_mult8 (k0_t2 : Fin k0_t2_loop.trips) : BitVec 32 :=
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_238 : BitVec 32 := 512#32
  let v890 : BitVec 32 := Scalar.muli v10 c512_i32_238
  v890
def k0_off24 (k0_t2 : Fin k0_t2_loop.trips) : Fin 2 → Nat :=
  let c7_i32 : BitVec 32 := 7#32
  let c4_i32_5 : BitVec 32 := 4#32
  let c1_i32_7 : BitVec 32 := 1#32
  let arg13 : BitVec 32 := Scf.iv c4_i32_5 c1_i32_7 k0_t2
  let v10 : BitVec 32 := Scalar.subi c7_i32 arg13
  let c512_i32_238 : BitVec 32 := 512#32
  let v890 : BitVec 32 := Scalar.muli v10 c512_i32_238
  let v891 : BitVec 32 := v890
  let v892 : Index := Scalar.indexCast v891
  let c0_239 : Index := 0#32
  ![v892.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x4096x1024 : Shape := ⟨3, ![16, 4096, 1024]⟩
abbrev S16x4096x512 : Shape := ⟨3, ![16, 4096, 512]⟩
abbrev S16x64x512 : Shape := ⟨3, ![16, 64, 512]⟩
abbrev S128 : Shape := ⟨1, ![128]⟩
abbrev S16x4096x256 : Shape := ⟨3, ![16, 4096, 256]⟩
abbrev S16x64x256 : Shape := ⟨3, ![16, 64, 256]⟩
abbrev S32x4096x256 : Shape := ⟨3, ![32, 4096, 256]⟩
abbrev S32x4096x512 : Shape := ⟨3, ![32, 4096, 512]⟩
abbrev S32x64x256 : Shape := ⟨3, ![32, 64, 256]⟩
abbrev S_ : Shape := ⟨0, ![]⟩
abbrev S64x64 : Shape := ⟨2, ![64, 64]⟩
abbrev S32x64x4x64 : Shape := ⟨4, ![32, 64, 4, 64]⟩
abbrev S64x32x4x64 : Shape := ⟨4, ![64, 32, 4, 64]⟩
abbrev S32x4x64x128 : Shape := ⟨4, ![32, 4, 64, 128]⟩
abbrev S32x64x64x4x64 : Shape := ⟨5, ![32, 64, 64, 4, 64]⟩
abbrev S64x32x64x4x64 : Shape := ⟨5, ![64, 32, 64, 4, 64]⟩
abbrev S32x64x64x4x128 : Shape := ⟨5, ![32, 64, 64, 4, 128]⟩
abbrev S64x32x64x4x128 : Shape := ⟨5, ![64, 32, 64, 4, 128]⟩
abbrev S1x32x64x4x64 : Shape := ⟨5, ![1, 32, 64, 4, 64]⟩
abbrev S1x32x64x4x128 : Shape := ⟨5, ![1, 32, 64, 4, 128]⟩
abbrev S32x64x4x128 : Shape := ⟨4, ![32, 64, 4, 128]⟩
abbrev S1x32x4x64 : Shape := ⟨4, ![1, 32, 4, 64]⟩
abbrev S32x4x64 : Shape := ⟨3, ![32, 4, 64]⟩
abbrev S32x4x64x64 : Shape := ⟨4, ![32, 4, 64, 64]⟩
abbrev S32x4x128x64 : Shape := ⟨4, ![32, 4, 128, 64]⟩
abbrev S32x1x4x64 : Shape := ⟨4, ![32, 1, 4, 64]⟩
abbrev S32x4x64x1 : Shape := ⟨4, ![32, 4, 64, 1]⟩
abbrev S32x4096x4x128 : Shape := ⟨4, ![32, 4096, 4, 128]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩

abbrev nBuf : Space → Nat
  | .hbm => 128
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x512, .bf16⟩
  | .hbm, ⟨2, _⟩ => ⟨S16x64x512, .f32⟩
  | .hbm, ⟨3, _⟩ => ⟨S128, .f32⟩
  | .hbm, ⟨4, _⟩ => ⟨S16x4096x1024, .f32⟩
  | .hbm, ⟨5, _⟩ => ⟨S16x4096x512, .f32⟩
  | .hbm, ⟨6, _⟩ => ⟨S16x4096x256, .f32⟩
  | .hbm, ⟨7, _⟩ => ⟨S16x4096x256, .f32⟩
  | .hbm, ⟨8, _⟩ => ⟨S16x4096x256, .f32⟩
  | .hbm, ⟨9, _⟩ => ⟨S16x4096x256, .f32⟩
  | .hbm, ⟨10, _⟩ => ⟨S16x64x256, .f32⟩
  | .hbm, ⟨11, _⟩ => ⟨S16x64x256, .f32⟩
  | .hbm, ⟨12, _⟩ => ⟨S16x4096x256, .f32⟩
  | .hbm, ⟨13, _⟩ => ⟨S32x4096x256, .f32⟩
  | .hbm, ⟨14, _⟩ => ⟨S16x4096x256, .f32⟩
  | .hbm, ⟨15, _⟩ => ⟨S32x4096x256, .f32⟩
  | .hbm, ⟨16, _⟩ => ⟨S16x4096x512, .f32⟩
  | .hbm, ⟨17, _⟩ => ⟨S32x4096x512, .f32⟩
  | .hbm, ⟨18, _⟩ => ⟨S16x64x256, .f32⟩
  | .hbm, ⟨19, _⟩ => ⟨S32x64x256, .f32⟩
  | .hbm, ⟨20, _⟩ => ⟨S_, .i1⟩
  | .hbm, ⟨21, _⟩ => ⟨S64x64, .i1⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S_, .i1⟩
  | .hbm, ⟨29, _⟩ => ⟨S64x64, .i1⟩
  | .hbm, ⟨30, _⟩ => ⟨S64x64, .i1⟩
  | .hbm, ⟨31, _⟩ => ⟨S32x64x4x64, .f32⟩
  | .hbm, ⟨32, _⟩ => ⟨S64x32x4x64, .f32⟩
  | .hbm, ⟨33, _⟩ => ⟨S_, .f32⟩
  | .hbm, ⟨34, _⟩ => ⟨S32x4x64x128, .f32⟩
  | .hbm, ⟨35, _⟩ => ⟨S32x64x64x4x64, .f32⟩
  | .hbm, ⟨36, _⟩ => ⟨S64x32x64x4x64, .f32⟩
  | .hbm, ⟨37, _⟩ => ⟨S32x64x64x4x64, .f32⟩
  | .hbm, ⟨38, _⟩ => ⟨S64x32x64x4x64, .f32⟩
  | .hbm, ⟨39, _⟩ => ⟨S32x64x64x4x128, .f32⟩
  | .hbm, ⟨40, _⟩ => ⟨S64x32x64x4x128, .f32⟩
  | .hbm, ⟨41, _⟩ => ⟨S_, .f32⟩
  | .hbm, ⟨42, _⟩ => ⟨S64x32x64x4x128, .f32⟩
  | .hbm, ⟨43, _⟩ => ⟨S_, .i32⟩
  | .hbm, ⟨44, _⟩ => ⟨S64x32x64x4x64, .f32⟩
  | .hbm, ⟨45, _⟩ => ⟨S64x32x64x4x64, .f32⟩
  | .hbm, ⟨46, _⟩ => ⟨S64x32x64x4x128, .f32⟩
  | .hbm, ⟨47, _⟩ => ⟨S64x32x4x64, .f32⟩
  | .hbm, ⟨48, _⟩ => ⟨S64x64, .i1⟩
  | .hbm, ⟨49, _⟩ => ⟨S_, .i32⟩
  | .hbm, ⟨50, _⟩ => ⟨S32x4x64x128, .f32⟩
  | .hbm, ⟨51, _⟩ => ⟨S64x32x64x4x128, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x32x64x4x64, .f32⟩
  | .hbm, ⟨59, _⟩ => ⟨S32x64x4x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x32x64x4x64, .f32⟩
  | .hbm, ⟨65, _⟩ => ⟨S32x64x4x64, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x32x64x4x128, .f32⟩
  | .hbm, ⟨71, _⟩ => ⟨S32x64x4x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x32x4x64, .f32⟩
  | .hbm, ⟨76, _⟩ => ⟨S32x4x64, .f32⟩
  | .hbm, ⟨77, _⟩ => ⟨S32x4x64x64, .f32⟩
  | .hbm, ⟨78, _⟩ => ⟨S_, .f32⟩
  | .hbm, ⟨79, _⟩ => ⟨S_, .f32⟩
  | .hbm, ⟨80, _⟩ => ⟨S32x4x64x64, .i1⟩
  | .hbm, ⟨81, _⟩ => ⟨S32x4x64x64, .f32⟩
  | .hbm, ⟨82, _⟩ => ⟨S32x4x64x64, .f32⟩
  | .hbm, ⟨83, _⟩ => ⟨S32x4x128x64, .f32⟩
  | .hbm, ⟨84, _⟩ => ⟨S32x64x4x128, .f32⟩
  | .hbm, ⟨85, _⟩ => ⟨S32x4x128x64, .f32⟩
  | .hbm, ⟨86, _⟩ => ⟨S32x64x4x128, .f32⟩
  | .hbm, ⟨87, _⟩ => ⟨S32x1x4x64, .f32⟩
  | .hbm, ⟨88, _⟩ => ⟨S32x64x4x64, .f32⟩
  | .hbm, ⟨89, _⟩ => ⟨S32x64x4x64, .f32⟩
  | .hbm, ⟨90, _⟩ => ⟨S32x4x64x1, .f32⟩
  | .hbm, ⟨91, _⟩ => ⟨S32x4x64x128, .f32⟩
  | .hbm, ⟨92, _⟩ => ⟨S32x4x64x128, .f32⟩
  | .hbm, ⟨93, _⟩ => ⟨S32x4x64x128, .f32⟩
  | .hbm, ⟨94, _⟩ => ⟨S32x4x64x128, .f32⟩
  | .hbm, ⟨95, _⟩ => ⟨S32x64x4x128, .f32⟩
  | .hbm, ⟨96, _⟩ => ⟨S1x32x64x4x128, .f32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S64x32x64x4x128, .f32⟩
  | .hbm, ⟨102, _⟩ => ⟨S_, .i32⟩
  | .hbm, ⟨103, _⟩ => ⟨S_, .i32⟩
  | .hbm, ⟨104, _⟩ => ⟨S32x64x64x4x128, .f32⟩
  | .hbm, ⟨105, _⟩ => ⟨S32x4096x4x128, .f32⟩
  | .hbm, ⟨106, _⟩ => ⟨S16x4096x4x128, .f32⟩
  | .hbm, ⟨107, _⟩ => ⟨S16x4096x4x128, .f32⟩
  | .hbm, ⟨108, _⟩ => ⟨S16x4096x4x128, .f32⟩
  | .hbm, ⟨109, _⟩ => ⟨S16x4096x4x128, .f32⟩
  | .hbm, ⟨110, _⟩ => ⟨S16x4096x4x128, .f32⟩
  | .hbm, ⟨111, _⟩ => ⟨S_, .f32⟩
  | .hbm, ⟨112, _⟩ => ⟨S16x4096x4, .f32⟩
  | .hbm, ⟨113, _⟩ => ⟨S16x4096x4x1, .f32⟩
  | .hbm, ⟨114, _⟩ => ⟨S_, .f32⟩
  | .hbm, ⟨115, _⟩ => ⟨S16x4096x4x1, .f32⟩
  | .hbm, ⟨116, _⟩ => ⟨S16x4096x4x1, .f32⟩
  | .hbm, ⟨117, _⟩ => ⟨S_, .f32⟩
  | .hbm, ⟨118, _⟩ => ⟨S16x4096x4x1, .f32⟩
  | .hbm, ⟨119, _⟩ => ⟨S16x4096x4x1, .f32⟩
  | .hbm, ⟨120, _⟩ => ⟨S16x4096x4x1, .f32⟩
  | .hbm, ⟨121, _⟩ => ⟨S16x4096x4x128, .f32⟩
  | .hbm, ⟨122, _⟩ => ⟨S16x4096x4x128, .f32⟩
  | .hbm, ⟨123, _⟩ => ⟨S1x1x1x128, .f32⟩
  | .hbm, ⟨124, _⟩ => ⟨S16x4096x4x128, .f32⟩
  | .hbm, ⟨125, _⟩ => ⟨S16x4096x4x128, .f32⟩
  | .hbm, ⟨126, _⟩ => ⟨S16x4096x512, .f32⟩
  | .hbm, ⟨127, _⟩ => ⟨S16x4096x512, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_call4_v0 : Ref sig .tc := ⟨.hbm, 22, rfl⟩
abbrev main_call4_c : Ref sig .tc := ⟨.hbm, 23, rfl⟩
abbrev main_call4_v1 : Ref sig .tc := ⟨.hbm, 24, rfl⟩
abbrev main_call4_v2 : Ref sig .tc := ⟨.hbm, 25, rfl⟩
abbrev main_call4_v3 : Ref sig .tc := ⟨.hbm, 26, rfl⟩
abbrev main_call4_v4 : Ref sig .tc := ⟨.hbm, 27, rfl⟩
abbrev main_call4_c_0 : Ref sig .tc := ⟨.hbm, 28, rfl⟩
abbrev main_call4_v5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_0 : Ref sig .tc := ⟨.hbm, 41, rfl⟩
abbrev main_v27 : Ref sig .tc := ⟨.hbm, 42, rfl⟩
abbrev main_c_1 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v28_3 : Ref sig .tc := ⟨.hbm, 47, rfl⟩
abbrev main_v28_4 : Ref sig .tc := ⟨.hbm, 48, rfl⟩
abbrev main_v28_5 : Ref sig .tc := ⟨.hbm, 49, rfl⟩
abbrev main_v28_6 : Ref sig .tc := ⟨.hbm, 50, rfl⟩
abbrev main_v28_7 : Ref sig .tc := ⟨.hbm, 51, rfl⟩
abbrev main_while0c_c_12 : Ref sig .tc := ⟨.hbm, 52, rfl⟩
abbrev main_while0c_v50 : Ref sig .tc := ⟨.hbm, 53, rfl⟩
abbrev main_while0b_call5_c : Ref sig .tc := ⟨.hbm, 54, rfl⟩
abbrev main_while0b_call5_c_0 : Ref sig .tc := ⟨.hbm, 55, rfl⟩
abbrev main_while0b_call5_c_1 : Ref sig .tc := ⟨.hbm, 56, rfl⟩
abbrev main_while0b_call5_c_2 : Ref sig .tc := ⟨.hbm, 57, rfl⟩
abbrev main_while0b_call5_v0 : Ref sig .tc := ⟨.hbm, 58, rfl⟩
abbrev main_while0b_v50 : Ref sig .tc := ⟨.hbm, 59, rfl⟩
abbrev main_while0b_call6_c : Ref sig .tc := ⟨.hbm, 60, rfl⟩
abbrev main_while0b_call6_c_0 : Ref sig .tc := ⟨.hbm, 61, rfl⟩
abbrev main_while0b_call6_c_1 : Ref sig .tc := ⟨.hbm, 62, rfl⟩
abbrev main_while0b_call6_c_2 : Ref sig .tc := ⟨.hbm, 63, rfl⟩
abbrev main_while0b_call6_v0 : Ref sig .tc := ⟨.hbm, 64, rfl⟩
abbrev main_while0b_v51 : Ref sig .tc := ⟨.hbm, 65, rfl⟩
abbrev main_while0b_call7_c : Ref sig .tc := ⟨.hbm, 66, rfl⟩
abbrev main_while0b_call7_c_0 : Ref sig .tc := ⟨.hbm, 67, rfl⟩
abbrev main_while0b_call7_c_1 : Ref sig .tc := ⟨.hbm, 68, rfl⟩
abbrev main_while0b_call7_c_2 : Ref sig .tc := ⟨.hbm, 69, rfl⟩
abbrev main_while0b_call7_v0 : Ref sig .tc := ⟨.hbm, 70, rfl⟩
abbrev main_while0b_v52 : Ref sig .tc := ⟨.hbm, 71, rfl⟩
abbrev main_while0b_call8_c : Ref sig .tc := ⟨.hbm, 72, rfl⟩
abbrev main_while0b_call8_c_0 : Ref sig .tc := ⟨.hbm, 73, rfl⟩
abbrev main_while0b_call8_c_1 : Ref sig .tc := ⟨.hbm, 74, rfl⟩
abbrev main_while0b_call8_v0 : Ref sig .tc := ⟨.hbm, 75, rfl⟩
abbrev main_while0b_v53 : Ref sig .tc := ⟨.hbm, 76, rfl⟩
abbrev main_while0b_v54 : Ref sig .tc := ⟨.hbm, 77, rfl⟩
abbrev main_while0b_cst_12 : Ref sig .tc := ⟨.hbm, 78, rfl⟩
abbrev main_while0b_call9_v0 : Ref sig .tc := ⟨.hbm, 79, rfl⟩
abbrev main_while0b_call9_v1 : Ref sig .tc := ⟨.hbm, 80, rfl⟩
abbrev main_while0b_call9_v2 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_v62 : Ref sig .tc := ⟨.hbm, 89, rfl⟩
abbrev main_while0b_v63 : Ref sig .tc := ⟨.hbm, 90, rfl⟩
abbrev main_while0b_v64 : Ref sig .tc := ⟨.hbm, 91, rfl⟩
abbrev main_while0b_v65 : Ref sig .tc := ⟨.hbm, 92, rfl⟩
abbrev main_while0b_v66 : Ref sig .tc := ⟨.hbm, 93, rfl⟩
abbrev main_while0b_v67 : Ref sig .tc := ⟨.hbm, 94, rfl⟩
abbrev main_while0b_v68 : Ref sig .tc := ⟨.hbm, 95, rfl⟩
abbrev main_while0b_call10_v0 : Ref sig .tc := ⟨.hbm, 96, rfl⟩
abbrev main_while0b_call10_c : Ref sig .tc := ⟨.hbm, 97, rfl⟩
abbrev main_while0b_call10_c_0 : Ref sig .tc := ⟨.hbm, 98, rfl⟩
abbrev main_while0b_call10_c_1 : Ref sig .tc := ⟨.hbm, 99, rfl⟩
abbrev main_while0b_call10_c_2 : Ref sig .tc := ⟨.hbm, 100, rfl⟩
abbrev main_while0b_v69 : Ref sig .tc := ⟨.hbm, 101, rfl⟩
abbrev main_while0b_c_13 : Ref sig .tc := ⟨.hbm, 102, rfl⟩
abbrev main_while0b_v70 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_cst_2 : Ref sig .tc := ⟨.hbm, 111, rfl⟩
abbrev main_v36 : Ref sig .tc := ⟨.hbm, 112, rfl⟩
abbrev main_v37 : Ref sig .tc := ⟨.hbm, 113, rfl⟩
abbrev main_cst_3 : Ref sig .tc := ⟨.hbm, 114, rfl⟩
abbrev main_v38 : Ref sig .tc := ⟨.hbm, 115, rfl⟩
abbrev main_v39 : Ref sig .tc := ⟨.hbm, 116, rfl⟩
abbrev main_cst_4 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]

abbrev main_while0_count : Scf.Loop 32 := ⟨0#32, 64#32, 1#32⟩
-- ==== FfnKernel.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S16x4096x2816 : Shape := ⟨3, ![16, 4096, 2816]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16x4096x2816, .f32⟩
  | .hbm, ⟨7, _⟩ => ⟨S16x4096x2816, .f32⟩
  | .hbm, ⟨8, _⟩ => ⟨S16x4096x2816, .f32⟩
  | .hbm, ⟨9, _⟩ => ⟨S_, .f32⟩
  | .hbm, ⟨10, _⟩ => ⟨S16x4096x2816, .f32⟩
  | .hbm, ⟨11, _⟩ => ⟨S16x4096x2816, .f32⟩
  | .hbm, ⟨12, _⟩ => ⟨S_, .f32⟩
  | .hbm, ⟨13, _⟩ => ⟨S16x4096x2816, .f32⟩
  | .hbm, ⟨14, _⟩ => ⟨S16x4096x2816, .f32⟩
  | .hbm, ⟨15, _⟩ => ⟨S16x4096x2816, .f32⟩
  | .hbm, ⟨16, _⟩ => ⟨S16x4096x2816, .f32⟩
  | .hbm, ⟨17, _⟩ => ⟨S16x4096x2816, .f32⟩
  | .hbm, ⟨18, _⟩ => ⟨S16x4096x1024, .f32⟩
  | .hbm, ⟨19, _⟩ => ⟨S_, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x1024, .f32⟩
  | .hbm, ⟨45, _⟩ => ⟨S16x4096x1024, .f32⟩
  | .hbm, ⟨46, _⟩ => ⟨S1x1x1024, .f32⟩
  | .hbm, ⟨47, _⟩ => ⟨S16x4096x1024, .f32⟩
  | .hbm, ⟨48, _⟩ => ⟨S16x4096x1024, .f32⟩
  | .hbm, ⟨49, _⟩ => ⟨S1x1x1024, .f32⟩
  | .hbm, ⟨50, _⟩ => ⟨S16x4096x1024, .f32⟩
  | .hbm, ⟨51, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== MergeKernel.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S16x4096x3072 : Shape := ⟨3, ![16, 4096, 3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x1024x3072 : Shape := ⟨3, ![1, 1024, 3072]⟩
abbrev S1x256x512 : Shape := ⟨3, ![1, 256, 512]⟩
abbrev S256x512 : Shape := ⟨2, ![256, 512]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 38
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x256, .bf16⟩
  | .hbm, ⟨4, _⟩ => ⟨S16x4096x256, .bf16⟩
  | .hbm, ⟨5, _⟩ => ⟨S16x4096x3072, .bf16⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16x4096x512, .f32⟩
  | .hbm, ⟨13, _⟩ => ⟨S_, .f32⟩
  | .hbm, ⟨14, _⟩ => ⟨S16x4096x512, .f32⟩
  | .hbm, ⟨15, _⟩ => ⟨S16x4096x512, .f32⟩
  | .hbm, ⟨16, _⟩ => ⟨S16x4096x512, .bf16⟩
  | .hbm, ⟨17, _⟩ => ⟨S16x4096x3072, .f32⟩
  | .hbm, ⟨18, _⟩ => ⟨S_, .f32⟩
  | .hbm, ⟨19, _⟩ => ⟨S16x4096x3072, .f32⟩
  | .hbm, ⟨20, _⟩ => ⟨S16x4096x3072, .f32⟩
  | .hbm, ⟨21, _⟩ => ⟨S16x4096x3072, .bf16⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .bf16⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .bf16⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .bf16⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x3072, .bf16⟩
  | .local _ .vmem, ⟨11, _⟩ => ⟨S1x1024x3072, .bf16⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S16x4096x3072 : Shape := ⟨3, ![16, 4096, 3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x256, .bf16⟩
  | .hbm, ⟨4, _⟩ => ⟨S16x4096x256, .bf16⟩
  | .hbm, ⟨5, _⟩ => ⟨S16x4096x3072, .bf16⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16x4096x512, .f32⟩
  | .hbm, ⟨13, _⟩ => ⟨S16x4096x512, .f32⟩
  | .hbm, ⟨14, _⟩ => ⟨S16x4096x256, .f32⟩
  | .hbm, ⟨15, _⟩ => ⟨S16x4096x256, .f32⟩
  | .hbm, ⟨16, _⟩ => ⟨S16x4096x3072, .f32⟩
  | .hbm, ⟨17, _⟩ => ⟨S16x4096x512, .f32⟩
  | .hbm, ⟨18, _⟩ => ⟨S16x4096x512, .f32⟩
  | .hbm, ⟨19, _⟩ => ⟨S_, .f32⟩
  | .hbm, ⟨20, _⟩ => ⟨S16x4096x512, .f32⟩
  | .hbm, ⟨21, _⟩ => ⟨S16x4096x512, .f32⟩
  | .hbm, ⟨22, _⟩ => ⟨S_, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S16x4096x1024, .f32⟩
  | .hbm, ⟨28, _⟩ => ⟨S16x4096x3072, .f32⟩
  | .hbm, ⟨29, _⟩ => ⟨S16x4096x3072, .f32⟩
  | .hbm, ⟨30, _⟩ => ⟨S_, .f32⟩
  | .hbm, ⟨31, _⟩ => ⟨S16x4096x3072, .f32⟩
  | .hbm, ⟨32, _⟩ => ⟨S16x4096x3072, .f32⟩
  | .hbm, ⟨33, _⟩ => ⟨S_, .f32⟩
  | .hbm, ⟨34, _⟩ => ⟨S16x4096x3072, .f32⟩
  | .hbm, ⟨35, _⟩ => ⟨S16x4096x3072, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S_, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S_, .f32⟩
  | .hbm, ⟨61, _⟩ => ⟨S16x4096, .f32⟩
  | .hbm, ⟨62, _⟩ => ⟨S16x4096x1, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x1024, .f32⟩
  | .hbm, ⟨67, _⟩ => ⟨S16x4096x1024, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x4096x1, .f32⟩
  | .hbm, ⟨72, _⟩ => ⟨S16x4096x1024, .f32⟩
  | .hbm, ⟨73, _⟩ => ⟨S16x4096x1024, .f32⟩
  | .hbm, ⟨74, _⟩ => ⟨S1x1x1024, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== InprojKernel.lean ====
abbrev S16x4096x1024 : Shape := ⟨3, ![16, 4096, 1024]⟩
abbrev S1024x5664 : Shape := ⟨2, ![1024, 5664]⟩
abbrev S16x256 : Shape := ⟨2, ![16, 256]⟩
abbrev S256 : Shape := ⟨1, ![256]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S128x512 : Shape := ⟨2, ![128, 512]⟩
abbrev S2 : Shape := ⟨1, ![2]⟩
abbrev S1024x256 : Shape := ⟨2, ![1024, 256]⟩
abbrev S1024x1280 : Shape := ⟨2, ![1024, 1280]⟩
abbrev S1024x1536 : Shape := ⟨2, ![1024, 1536]⟩
abbrev S1024x1024 : Shape := ⟨2, ![1024, 1024]⟩
abbrev S1024x3072 : Shape := ⟨2, ![1024, 3072]⟩
abbrev S512 : Shape := ⟨1, ![512]⟩
abbrev S1x512 : Shape := ⟨2, ![1, 512]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S16x4096x512 : Shape := ⟨3, ![16, 4096, 512]⟩
abbrev S16x64x512 : Shape := ⟨3, ![16, 64, 512]⟩
abbrev S16x4096x256 : Shape := ⟨3, ![16, 4096, 256]⟩
abbrev S16x4096x768 : Shape := ⟨3, ![16, 4096, 768]⟩
abbrev S16x4096x3072 : Shape := ⟨3, ![16, 4096, 3072]⟩
abbrev S1x512x1024 : Shape := ⟨3, ![1, 512, 1024]⟩
abbrev S1x512x512 : Shape := ⟨3, ![1, 512, 512]⟩
abbrev S1x8x512 : Shape := ⟨3, ![1, 8, 512]⟩
abbrev S1x512x256 : Shape := ⟨3, ![1, 512, 256]⟩
abbrev S1x512x768 : Shape := ⟨3, ![1, 512, 768]⟩
abbrev S1x512x3072 : Shape := ⟨3, ![1, 512, 3072]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512x3072 : Shape := ⟨2, ![512, 3072]⟩
abbrev S512x256 : Shape := ⟨2, ![512, 256]⟩
abbrev S8x64x256 : Shape := ⟨3, ![8, 64, 256]⟩
abbrev S8x1x256 : Shape := ⟨3, ![8, 1, 256]⟩
abbrev S8x256 : Shape := ⟨2, ![8, 256]⟩
abbrev S1x8x256 : Shape := ⟨3, ![1, 8, 256]⟩
abbrev S512x768 : Shape := ⟨2, ![512, 768]⟩

abbrev nBuf : Space → Nat
  | .hbm => 77
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S1024x5664, .f32⟩
  | .hbm, ⟨2, _⟩ => ⟨S16x256, .f32⟩
  | .hbm, ⟨3, _⟩ => ⟨S16x256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S1024x128, .f32⟩
  | .hbm, ⟨8, _⟩ => ⟨S1024x32, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S_, .f32⟩
  | .hbm, ⟨13, _⟩ => ⟨S128x512, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x512, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S128x512, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x1280, .f32⟩
  | .hbm, ⟨31, _⟩ => ⟨S1024x1536, .f32⟩
  | .hbm, ⟨32, _⟩ => ⟨S1024x1536, .bf16⟩
  | .hbm, ⟨33, _⟩ => ⟨S1024x128, .bf16⟩
  | .hbm, ⟨34, _⟩ => ⟨S1024x1024, .f32⟩
  | .hbm, ⟨35, _⟩ => ⟨S1024x1024, .bf16⟩
  | .hbm, ⟨36, _⟩ => ⟨S1024x3072, .f32⟩
  | .hbm, ⟨37, _⟩ => ⟨S1024x3072, .bf16⟩
  | .hbm, ⟨38, _⟩ => ⟨S128x512, .bf16⟩
  | .hbm, ⟨39, _⟩ => ⟨S512, .f32⟩
  | .hbm, ⟨40, _⟩ => ⟨S1x512, .f32⟩
  | .hbm, ⟨41, _⟩ => ⟨S64, .i32⟩
  | .hbm, ⟨42, _⟩ => ⟨S1x64, .i32⟩
  | .hbm, ⟨43, _⟩ => ⟨S64x1, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .f32⟩
  | .hbm, ⟨48, _⟩ => ⟨S4x4, .i32⟩
  | .hbm, ⟨49, _⟩ => ⟨S4x4, .i32⟩
  | .hbm, ⟨50, _⟩ => ⟨S_, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S4x4, .f32⟩
  | .hbm, ⟨55, _⟩ => ⟨S4x1x4x1, .f32⟩
  | .hbm, ⟨56, _⟩ => ⟨S1x64x1x64, .f32⟩
  | .hbm, ⟨57, _⟩ => ⟨S4x64x4x64, .f32⟩
  | .hbm, ⟨58, _⟩ => ⟨S4x64x4x64, .f32⟩
  | .hbm, ⟨59, _⟩ => ⟨S4x64x4x64, .f32⟩
  | .hbm, ⟨60, _⟩ => ⟨S256x256, .f32⟩
  | .hbm, ⟨61, _⟩ => ⟨S256x256, .bf16⟩
  | .hbm, ⟨62, _⟩ => ⟨S64x64, .f32⟩
  | .hbm, ⟨63, _⟩ => ⟨S4x1x4x1, .f32⟩
  | .hbm, ⟨64, _⟩ => ⟨S1x64x1x64, .f32⟩
  | .hbm, ⟨65, _⟩ => ⟨S4x64x4x64, .f32⟩
  | .hbm, ⟨66, _⟩ => ⟨S4x64x4x64, .f32⟩
  | .hbm, ⟨67, _⟩ => ⟨S4x64x4x64, .f32⟩
  | .hbm, ⟨68, _⟩ => ⟨S256x256, .f32⟩
  | .hbm, ⟨69, _⟩ => ⟨S256x256, .bf16⟩
  | .hbm, ⟨70, _⟩ => ⟨S16x4096x1024, .bf16⟩
  | .hbm, ⟨71, _⟩ => ⟨S16x4096x512, .bf16⟩
  | .hbm, ⟨72, _⟩ => ⟨S16x4096x512, .bf16⟩
  | .hbm, ⟨73, _⟩ => ⟨S16x64x512, .f32⟩
  | .hbm, ⟨74, _⟩ => ⟨S16x4096x256, .bf16⟩
  | .hbm, ⟨75, _⟩ => ⟨S16x4096x768, .bf16⟩
  | .hbm, ⟨76, _⟩ => ⟨S16x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S1024x128, .bf16⟩
  | .local _ .vmem, ⟨4, _⟩ => ⟨S1024x1024, .bf16⟩
  | .local _ .vmem, ⟨5, _⟩ => ⟨S1024x3072, .bf16⟩
  | .local _ .vmem, ⟨6, _⟩ => ⟨S128x512, .bf16⟩
  | .local _ .vmem, ⟨7, _⟩ => ⟨S1x512, .f32⟩
  | .local _ .vmem, ⟨8, _⟩ => ⟨S256x256, .bf16⟩
  | .local _ .vmem, ⟨9, _⟩ => ⟨S256x256, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x8x512, .f32⟩
  | .local _ .vmem, ⟨17, _⟩ => ⟨S1x8x512, .f32⟩
  | .local _ .vmem, ⟨18, _⟩ => ⟨S1x512x256, .bf16⟩
  | .local _ .vmem, ⟨19, _⟩ => ⟨S1x512x256, .bf16⟩
  | .local _ .vmem, ⟨20, _⟩ => ⟨S1x512x768, .bf16⟩
  | .local _ .vmem, ⟨21, _⟩ => ⟨S1x512x768, .bf16⟩
  | .local _ .vmem, ⟨22, _⟩ => ⟨S1x512x3072, .bf16⟩
  | .local _ .vmem, ⟨23, _⟩ => ⟨S1x512x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev main_v45_3 : Ref sig .tc := ⟨.hbm, 73, rfl⟩
abbrev main_v45_4 : Ref sig .tc := ⟨.hbm, 74, rfl⟩
abbrev main_v45_5 : Ref sig .tc := ⟨.hbm, 75, rfl⟩
abbrev main_v45_6 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InprojReferenceIdeal.lean ====
abbrev S16x4096x1024 : Shape := ⟨3, ![16, 4096, 1024]⟩
abbrev S1024x5664 : Shape := ⟨2, ![1024, 5664]⟩
abbrev S16x256 : Shape := ⟨2, ![16, 256]⟩
abbrev S256 : Shape := ⟨1, ![256]⟩
abbrev S16x4096x5664 : Shape := ⟨3, ![16, 4096, 5664]⟩
abbrev S16x4096x256 : Shape := ⟨3, ![16, 4096, 256]⟩
abbrev S16x4096x512 : Shape := ⟨3, ![16, 4096, 512]⟩
abbrev S16x4096x16 : Shape := ⟨3, ![16, 4096, 16]⟩
abbrev S16x4096x768 : Shape := ⟨3, ![16, 4096, 768]⟩
abbrev S16x4096x3072 : Shape := ⟨3, ![16, 4096, 3072]⟩
abbrev S1x1x256 : Shape := ⟨3, ![1, 1, 256]⟩
abbrev S_ : Shape := ⟨0, ![]⟩
abbrev S16x64x64x256 : Shape := ⟨4, ![16, 64, 64, 256]⟩
abbrev S16x64x1x256 : Shape := ⟨4, ![16, 64, 1, 256]⟩
abbrev S16x64x256 : Shape := ⟨3, ![16, 64, 256]⟩
abbrev S16x64x512 : Shape := ⟨3, ![16, 64, 512]⟩

abbrev nBuf : Space → Nat
  | .hbm => 111
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x5664, .f32⟩
  | .hbm, ⟨2, _⟩ => ⟨S16x256, .f32⟩
  | .hbm, ⟨3, _⟩ => ⟨S16x256, .f32⟩
  | .hbm, ⟨4, _⟩ => ⟨S256, .f32⟩
  | .hbm, ⟨5, _⟩ => ⟨S256, .f32⟩
  | .hbm, ⟨6, _⟩ => ⟨S16x4096x5664, .f32⟩
  | .hbm, ⟨7, _⟩ => ⟨S16x4096x256, .f32⟩
  | .hbm, ⟨8, _⟩ => ⟨S16x4096x256, .f32⟩
  | .hbm, ⟨9, _⟩ => ⟨S16x4096x512, .f32⟩
  | .hbm, ⟨10, _⟩ => ⟨S16x4096x512, .f32⟩
  | .hbm, ⟨11, _⟩ => ⟨S16x4096x16, .f32⟩
  | .hbm, ⟨12, _⟩ => ⟨S16x4096x16, .f32⟩
  | .hbm, ⟨13, _⟩ => ⟨S16x4096x256, .f32⟩
  | .hbm, ⟨14, _⟩ => ⟨S16x4096x768, .f32⟩
  | .hbm, ⟨15, _⟩ => ⟨S16x4096x3072, .f32⟩
  | .hbm, ⟨16, _⟩ => ⟨S16x4096x256, .f32⟩
  | .hbm, ⟨17, _⟩ => ⟨S1x1x256, .f32⟩
  | .hbm, ⟨18, _⟩ => ⟨S16x4096x256, .f32⟩
  | .hbm, ⟨19, _⟩ => ⟨S16x4096x256, .f32⟩
  | .hbm, ⟨20, _⟩ => ⟨S16x4096x256, .f32⟩
  | .hbm, ⟨21, _⟩ => ⟨S_, .f32⟩
  | .hbm, ⟨22, _⟩ => ⟨S16x4096x256, .f32⟩
  | .hbm, ⟨23, _⟩ => ⟨S16x4096x256, .f32⟩
  | .hbm, ⟨24, _⟩ => ⟨S16x4096x256, .f32⟩
  | .hbm, ⟨25, _⟩ => ⟨S16x4096x256, .f32⟩
  | .hbm, ⟨26, _⟩ => ⟨S16x4096x256, .i1⟩
  | .hbm, ⟨27, _⟩ => ⟨S16x4096x256, .f32⟩
  | .hbm, ⟨28, _⟩ => ⟨S16x4096x256, .f32⟩
  | .hbm, ⟨29, _⟩ => ⟨S16x4096x256, .f32⟩
  | .hbm, ⟨30, _⟩ => ⟨S16x4096x256, .f32⟩
  | .hbm, ⟨31, _⟩ => ⟨S16x4096x256, .f32⟩
  | .hbm, ⟨32, _⟩ => ⟨S16x4096x256, .f32⟩
  | .hbm, ⟨33, _⟩ => ⟨S16x4096x256, .f32⟩
  | .hbm, ⟨34, _⟩ => ⟨S16x4096x256, .f32⟩
  | .hbm, ⟨35, _⟩ => ⟨S16x4096x256, .f32⟩
  | .hbm, ⟨36, _⟩ => ⟨S_, .f32⟩
  | .hbm, ⟨37, _⟩ => ⟨S16x4096x256, .f32⟩
  | .hbm, ⟨38, _⟩ => ⟨S16x4096x256, .f32⟩
  | .hbm, ⟨39, _⟩ => ⟨S16x4096x256, .f32⟩
  | .hbm, ⟨40, _⟩ => ⟨S1x1x256, .f32⟩
  | .hbm, ⟨41, _⟩ => ⟨S16x4096x256, .f32⟩
  | .hbm, ⟨42, _⟩ => ⟨S16x4096x256, .f32⟩
  | .hbm, ⟨43, _⟩ => ⟨S16x4096x256, .f32⟩
  | .hbm, ⟨44, _⟩ => ⟨S_, .f32⟩
  | .hbm, ⟨45, _⟩ => ⟨S16x4096x256, .f32⟩
  | .hbm, ⟨46, _⟩ => ⟨S16x4096x256, .f32⟩
  | .hbm, ⟨47, _⟩ => ⟨S16x4096x256, .f32⟩
  | .hbm, ⟨48, _⟩ => ⟨S16x4096x256, .f32⟩
  | .hbm, ⟨49, _⟩ => ⟨S16x4096x256, .i1⟩
  | .hbm, ⟨50, _⟩ => ⟨S16x4096x256, .f32⟩
  | .hbm, ⟨51, _⟩ => ⟨S16x4096x256, .f32⟩
  | .hbm, ⟨52, _⟩ => ⟨S16x4096x256, .f32⟩
  | .hbm, ⟨53, _⟩ => ⟨S16x4096x256, .f32⟩
  | .hbm, ⟨54, _⟩ => ⟨S16x4096x256, .f32⟩
  | .hbm, ⟨55, _⟩ => ⟨S16x4096x256, .f32⟩
  | .hbm, ⟨56, _⟩ => ⟨S16x4096x256, .f32⟩
  | .hbm, ⟨57, _⟩ => ⟨S16x4096x256, .f32⟩
  | .hbm, ⟨58, _⟩ => ⟨S16x4096x256, .f32⟩
  | .hbm, ⟨59, _⟩ => ⟨S_, .f32⟩
  | .hbm, ⟨60, _⟩ => ⟨S16x4096x256, .f32⟩
  | .hbm, ⟨61, _⟩ => ⟨S16x4096x256, .f32⟩
  | .hbm, ⟨62, _⟩ => ⟨S_, .f32⟩
  | .hbm, ⟨63, _⟩ => ⟨S16x4096x256, .f32⟩
  | .hbm, ⟨64, _⟩ => ⟨S16x4096x256, .f32⟩
  | .hbm, ⟨65, _⟩ => ⟨S16x64x64x256, .f32⟩
  | .hbm, ⟨66, _⟩ => ⟨S16x64x64x256, .f32⟩
  | .hbm, ⟨67, _⟩ => ⟨S16x64x64x256, .f32⟩
  | .hbm, ⟨68, _⟩ => ⟨S_, .f32⟩
  | .hbm, ⟨69, _⟩ => ⟨S_, .f32⟩
  | .hbm, ⟨70, _⟩ => ⟨S16x64x64x256, .f32⟩
  | .hbm, ⟨71, _⟩ => ⟨S16x64x64x256, .f32⟩
  | .hbm, ⟨72, _⟩ => ⟨S16x64x64x256, .f32⟩
  | .hbm, ⟨73, _⟩ => ⟨S16x4096x256, .f32⟩
  | .hbm, ⟨74, _⟩ => ⟨S16x64x64x256, .f32⟩
  | .hbm, ⟨75, _⟩ => ⟨S16x64x64x256, .f32⟩
  | .hbm, ⟨76, _⟩ => ⟨S16x64x64x256, .f32⟩
  | .hbm, ⟨77, _⟩ => ⟨S16x4096x256, .f32⟩
  | .hbm, ⟨78, _⟩ => ⟨S16x64x1x256, .f32⟩
  | .hbm, ⟨79, _⟩ => ⟨S16x64x256, .f32⟩
  | .hbm, ⟨80, _⟩ => ⟨S16x64x256, .f32⟩
  | .hbm, ⟨81, _⟩ => ⟨S16x4096x256, .f32⟩
  | .hbm, ⟨82, _⟩ => ⟨S16x4096x256, .f32⟩
  | .hbm, ⟨83, _⟩ => ⟨S16x4096x256, .f32⟩
  | .hbm, ⟨84, _⟩ => ⟨S16x64x64x256, .f32⟩
  | .hbm, ⟨85, _⟩ => ⟨S16x64x64x256, .f32⟩
  | .hbm, ⟨86, _⟩ => ⟨S16x64x64x256, .f32⟩
  | .hbm, ⟨87, _⟩ => ⟨S_, .f32⟩
  | .hbm, ⟨88, _⟩ => ⟨S_, .f32⟩
  | .hbm, ⟨89, _⟩ => ⟨S16x64x64x256, .f32⟩
  | .hbm, ⟨90, _⟩ => ⟨S16x64x64x256, .f32⟩
  | .hbm, ⟨91, _⟩ => ⟨S16x64x64x256, .f32⟩
  | .hbm, ⟨92, _⟩ => ⟨S16x4096x256, .f32⟩
  | .hbm, ⟨93, _⟩ => ⟨S16x64x64x256, .f32⟩
  | .hbm, ⟨94, _⟩ => ⟨S16x64x64x256, .f32⟩
  | .hbm, ⟨95, _⟩ => ⟨S16x64x64x256, .f32⟩
  | .hbm, ⟨96, _⟩ => ⟨S16x4096x256, .f32⟩
  | .hbm, ⟨97, _⟩ => ⟨S16x64x1x256, .f32⟩
  | .hbm, ⟨98, _⟩ => ⟨S16x64x256, .f32⟩
  | .hbm, ⟨99, _⟩ => ⟨S16x64x256, .f32⟩
  | .hbm, ⟨100, _⟩ => ⟨S16x4096x256, .f32⟩
  | .hbm, ⟨101, _⟩ => ⟨S16x4096x256, .f32⟩
  | .hbm, ⟨102, _⟩ => ⟨S16x64x256, .f32⟩
  | .hbm, ⟨103, _⟩ => ⟨S16x4096x1024, .f32⟩
  | .hbm, ⟨104, _⟩ => ⟨S16x64x512, .f32⟩
  | .hbm, ⟨105, _⟩ => ⟨S16x4096x1024, .bf16⟩
  | .hbm, ⟨106, _⟩ => ⟨S16x4096x512, .bf16⟩
  | .hbm, ⟨107, _⟩ => ⟨S16x4096x512, .bf16⟩
  | .hbm, ⟨108, _⟩ => ⟨S16x4096x256, .bf16⟩
  | .hbm, ⟨109, _⟩ => ⟨S16x4096x768, .bf16⟩
  | .hbm, ⟨110, _⟩ => ⟨S16x4096x3072, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v21 : Ref sig .tc := ⟨.hbm, 58, rfl⟩
abbrev main_cst_0 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call2_call0_cst : Ref sig .tc := ⟨.hbm, 68, rfl⟩
abbrev main_call2_call0_v0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call6_call0_cst : Ref sig .tc := ⟨.hbm, 87, rfl⟩
abbrev main_call6_call0_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩

abbrev nD : Nat := 1
abbrev τ : Topo := Topo.v7x

variable {F : FTy → Type} [FloatOps F]
-- ==== Proof.Gla.Run.lean ====
module

public import proofs.«01_k».proof.Proof.Gen.KernelIdeal.Frame.Runs

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole) (arg4 : Memref sig .tc .vmem S1x128 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S256x256 .f32) (harg11 : arg11.IsWhole) (arg12 : Memref sig .tc .vmem S256x256 .f32) (harg12 : arg12.IsWhole)

/-- The first loop's trip stores the same pieces whatever the accumulator held before it. -/
theorem trip1_indep (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f10 f10' : BufTy.Contents (Elt F) arg10.view.ty) (f11 : BufTy.Contents (Elt F) arg11.view.ty) (f12 : BufTy.Contents (Elt F) arg12.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 k f10 f11 f12
      = tripL_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 k f10' f11 f12 := by
  unfold tripL_k0_t1 trip_k0_t1
  rfl

/-- The second loop's trip stores the same pieces whatever the output block held before it. -/
theorem trip2_indep (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (k : Fin k0_t2_loop.trips)
    (f9 f9' : BufTy.Contents (Elt F) arg9.view.ty) (f11 : BufTy.Contents (Elt F) arg11.view.ty) (f12 : BufTy.Contents (Elt F) arg12.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 k f9 f11 f12
      = tripL_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 k f9' f11 f12 := by
  unfold tripL_k0_t2 trip_k0_t2
  rfl

/-- So do all the trips of the first loop before any of them. -/
theorem pb1_indep (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty)
    (g g' : BufTy.Contents (Elt F) arg10.view.ty) (g11 : BufTy.Contents (Elt F) arg11.view.ty) (g12 : BufTy.Contents (Elt F) arg12.view.ty) (k : ℕ) (hk : k ≤ k0_t1_loop.trips) :
    pb_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g g11 g12 k
      = pb_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g' g11 g12 k := by
  induction k with
  | zero => rfl
  | succ k ih =>
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g g11 g12 ⟨k, hk⟩
    have e' := pb_k0_t1_succ (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g' g11 g12 ⟨k, hk⟩
    have ih' : pb_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g g11 g12 (⟨k, hk⟩ : Fin k0_t1_loop.trips).val = pb_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g' g11 g12 (⟨k, hk⟩ : Fin k0_t1_loop.trips).val := ih (by omega)
    refine e.trans (Eq.trans ?_ e'.symm)
    rw [ih', trip1_indep c i arg1 harg1 arg2 harg2 arg3 harg3 arg4 harg4 arg5 harg5 arg6 harg6 arg7 harg7 arg8 harg8 arg9 harg9 arg10 harg10 arg11 harg11 arg12 harg12 X1 X2 X3 X5 X6 X7 X8 ⟨k, hk⟩ _ (arg10.view.writes (Elt F) g' (pb_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 g' g11 g12 (⟨k, hk⟩ : Fin k0_t1_loop.trips).val).1)]

/-- So do all the trips of the second loop before any of them. -/
theorem pb2_indep (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty)
    (g g' : BufTy.Contents (Elt F) arg9.view.ty) (g11 : BufTy.Contents (Elt F) arg11.view.ty) (g12 : BufTy.Contents (Elt F) arg12.view.ty) (k : ℕ) (hk : k ≤ k0_t2_loop.trips) :
    pb_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g g11 g12 k
      = pb_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g' g11 g12 k := by
  induction k with
  | zero => rfl
  | succ k ih =>
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g g11 g12 ⟨k, hk⟩
    have e' := pb_k0_t2_succ (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g' g11 g12 ⟨k, hk⟩
    have ih' : pb_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g g11 g12 (⟨k, hk⟩ : Fin k0_t2_loop.trips).val = pb_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g' g11 g12 (⟨k, hk⟩ : Fin k0_t2_loop.trips).val := ih (by omega)
    refine e.trans (Eq.trans ?_ e'.symm)
    rw [ih', trip2_indep c i arg1 harg1 arg2 harg2 arg3 harg3 arg4 harg4 arg5 harg5 arg6 harg6 arg7 harg7 arg8 harg8 arg9 harg9 arg10 harg10 arg11 harg11 arg12 harg12 X1 X2 X3 X4 X5 X6 X7 X8 X10 ⟨k, hk⟩ _ (arg9.view.writes (Elt F) g' (pb_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 g' g11 g12 (⟨k, hk⟩ : Fin k0_t2_loop.trips).val).1)]

variable (x0 : Vec F S1x4096x1024 .bf16) (x1 : Vec F S1x4096x512 .bf16) (x2 : Vec F S1x64x512 .f32) (x3 : Vec F S1x128 .f32) (x4 : Vec F S64x256 .f32) (x5 : Vec F S64x256 .f32) (x6 : Vec F S256x256 .bf16) (x7 : Vec F S256x512 .bf16)

/-- A state buffer set to zero: the one piece stored there before the loops. -/
def zeroed : List (View.Piece (Elt F) S256x256 .f32) :=
  [⟨Rect.unit ![0, 0] S256x256.size inb_S256x256_S256x256_0_0, k0_pay1 (F := F)⟩]

/-- What the first loop stores into the accumulator and the two states, per buffer, before trip `k`. -/
def half1 (k : ℕ) : List (View.Piece (Elt F) S4096x512 .f32) × List (View.Piece (Elt F) S256x256 .f32) × List (View.Piece (Elt F) S256x256 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) arg10.view.junk
    (arg11.view.writes (Elt F) arg11.view.junk zeroed) (arg12.view.writes (Elt F) arg12.view.junk zeroed) k

/-- What the second loop stores into the output and the two states, per buffer, before trip `k`. -/
def half2 (k : ℕ) : List (View.Piece (Elt F) S1x4096x512 .bf16) × List (View.Piece (Elt F) S256x256 .f32) × List (View.Piece (Elt F) S256x256 .f32) :=
  pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7)
    (arg10.view.writes (Elt F) arg10.view.junk (half1 c i arg1 harg1 arg2 harg2 arg3 harg3 arg4 harg4 arg5 harg5 arg6 harg6 arg7 harg7 arg8 harg8 arg9 harg9 arg10 harg10 arg11 harg11 arg12 harg12 x0 x1 x2 x4 x5 x6 x7 4).1) arg9.view.junk
    (arg11.view.writes (Elt F) arg11.view.junk ((half1 c i arg1 harg1 arg2 harg2 arg3 harg3 arg4 harg4 arg5 harg5 arg6 harg6 arg7 harg7 arg8 harg8 arg9 harg9 arg10 harg10 arg11 harg11 arg12 harg12 x0 x1 x2 x4 x5 x6 x7 4).2.1 ++ zeroed))
    (arg12.view.writes (Elt F) arg12.view.junk ((half1 c i arg1 harg1 arg2 harg2 arg3 harg3 arg4 harg4 arg5 harg5 arg6 harg6 arg7 harg7 arg8 harg8 arg9 harg9 arg10 harg10 arg11 harg11 arg12 harg12 x0 x1 x2 x4 x5 x6 x7 4).2.2 ++ zeroed)) k

/-- The pieces the body stores into the output block, last first. -/
def L9 : List (View.Piece (Elt F) S1x4096x512 .bf16) := (half2 c i arg1 harg1 arg2 harg2 arg3 harg3 arg4 harg4 arg5 harg5 arg6 harg6 arg7 harg7 arg8 harg8 arg9 harg9 arg10 harg10 arg11 harg11 arg12 harg12 x0 x1 x2 x3 x4 x5 x6 x7 4).1

/-- The first loop's stores cover the accumulator. -/
theorem cover10 (y : S4096x512.Idx) : ∃ p ∈ (half1 c i arg1 harg1 arg2 harg2 arg3 harg3 arg4 harg4 arg5 harg5 arg6 harg6 arg7 harg7 arg8 harg8 arg9 harg9 arg10 harg10 arg11 harg11 arg12 harg12 x0 x1 x2 x4 x5 x6 x7 4).1, y ∈ p.1.set :=
  View.cover_of_tiledL (half1 c i arg1 harg1 arg2 harg2 arg3 harg3 arg4 harg4 arg5 harg5 arg6 harg6 arg7 harg7 arg8 harg8 arg9 harg9 arg10 harg10 arg11 harg11 arg12 harg12 x0 x1 x2 x4 x5 x6 x7 4).1 S512x512.size (by sl_kernel_rfl) y

/-- The second loop's stores cover the output block. -/
theorem cover9 (y : S1x4096x512.Idx) : ∃ p ∈ L9 c i arg1 harg1 arg2 harg2 arg3 harg3 arg4 harg4 arg5 harg5 arg6 harg6 arg7 harg7 arg8 harg8 arg9 harg9 arg10 harg10 arg11 harg11 arg12 harg12 x0 x1 x2 x3 x4 x5 x6 x7, y ∈ p.1.set :=
  View.cover_of_tiledL (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) S1x512x512.size (by sl_kernel_rfl) y

/-- The accumulator after the first loop does not depend on what it held before. -/
theorem acc_indep (f : BufTy.Contents (Elt F) arg10.view.ty) :
    arg10.view.writes (Elt F) f (half1 c i arg1 harg1 arg2 harg2 arg3 harg3 arg4 harg4 arg5 harg5 arg6 harg6 arg7 harg7 arg8 harg8 arg9 harg9 arg10 harg10 arg11 harg11 arg12 harg12 x0 x1 x2 x4 x5 x6 x7 4).1
      = arg10.view.writes (Elt F) arg10.view.junk (half1 c i arg1 harg1 arg2 harg2 arg3 harg3 arg4 harg4 arg5 harg5 arg6 harg6 arg7 harg7 arg8 harg8 arg9 harg9 arg10 harg10 arg11 harg11 arg12 harg12 x0 x1 x2 x4 x5 x6 x7 4).1 := by
  rw [← harg10.unread_read (arg10.view.writes (Elt F) f _), ← harg10.unread_read (arg10.view.writes (Elt F) arg10.view.junk _),
    View.read_writes_of_cover _ _ arg10.view arg10.view.junk _ (cover10 c i arg1 harg1 arg2 harg2 arg3 harg3 arg4 harg4 arg5 harg5 arg6 harg6 arg7 harg7 arg8 harg8 arg9 harg9 arg10 harg10 arg11 harg11 arg12 harg12 x0 x1 x2 x4 x5 x6 x7)]

/-- The output's pieces are the same list whatever the accumulator and the output block held before the run. -/
theorem L9_eq (g10 : BufTy.Contents (Elt F) arg10.view.ty) (g9 : BufTy.Contents (Elt F) arg9.view.ty) :
    L9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7)
      (arg10.view.writes (Elt F) g10 (pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) g10 (arg11.view.writes (Elt F) arg11.view.junk zeroed) (arg12.view.writes (Elt F) arg12.view.junk zeroed) (Scf.trips k0_t1_loop.lb k0_t1_loop.ub k0_t1_loop.st)).1) g9
      (arg11.view.writes (Elt F) arg11.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) g10 (arg11.view.writes (Elt F) arg11.view.junk zeroed) (arg12.view.writes (Elt F) arg12.view.junk zeroed) (Scf.trips k0_t1_loop.lb k0_t1_loop.ub k0_t1_loop.st)).2.1 ++ zeroed))
      (arg12.view.writes (Elt F) arg12.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) g10 (arg11.view.writes (Elt F) arg11.view.junk zeroed) (arg12.view.writes (Elt F) arg12.view.junk zeroed) (Scf.trips k0_t1_loop.lb k0_t1_loop.ub k0_t1_loop.st)).2.2 ++ zeroed)) (Scf.trips k0_t2_loop.lb k0_t2_loop.ub k0_t2_loop.st)).1 := by
  have e1 : pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) g10 (arg11.view.writes (Elt F) arg11.view.junk zeroed) (arg12.view.writes (Elt F) arg12.view.junk zeroed) (Scf.trips k0_t1_loop.lb k0_t1_loop.ub k0_t1_loop.st) = half1 c i arg1 harg1 arg2 harg2 arg3 harg3 arg4 harg4 arg5 harg5 arg6 harg6 arg7 harg7 arg8 harg8 arg9 harg9 arg10 harg10 arg11 harg11 arg12 harg12 x0 x1 x2 x4 x5 x6 x7 4 :=
    pb1_indep c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) g10 arg10.view.junk _ _ 4 (le_refl _)
  rw [e1, acc_indep c i arg1 harg1 arg2 harg2 arg3 harg3 arg4 harg4 arg5 harg5 arg6 harg6 arg7 harg7 arg8 harg8 arg9 harg9 arg10 harg10 arg11 harg11 arg12 harg12 x0 x1 x2 x4 x5 x6 x7 g10]
  exact congrArg Prod.fst (pb2_indep c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) _ arg9.view.junk g9 _ _ 4 (le_refl _))

set_option maxHeartbeats 2000000 in
/-- The body on whole staging buffers: the inputs' at their blocks, the output's and the scratch at anything, it runs to
    the inputs' as they were, the output's with `L9` written and the scratch at some contents. -/
theorem run (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7)) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12) K := by
  simp only [cc0_gla_eq_skeleton]; unfold cc0_gla_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists f8
    rw [L9_eq c i arg1 harg1 arg2 harg2 arg3 harg3 arg4 harg4 arg5 harg5 arg6 harg6 arg7 harg7 arg8 harg8 arg9 harg9 arg10 harg10 arg11 harg11 arg12 harg12 x0 x1 x2 x3 x4 x5 x6 x7 fs0 f8]
    iexact H8
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Proof.Gla

end
-- ==== Proof.Gla.Frame.lean ====
module

public import proofs.«01_k».proof.Proof.Gla.Run
public import Idealize.ShloMosaic.Lib.Claim

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after the body: the pieces of `L9` read back. -/
def outBlock (c : Dev nD) (i : grid0.Coords) (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole) (arg4 : Memref sig .tc .vmem S1x128 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S256x256 .f32) (harg11 : arg11.IsWhole) (arg12 : Memref sig .tc .vmem S256x256 .f32) (harg12 : arg12.IsWhole)
    (x0 : Vec F S1x4096x1024 .bf16) (x1 : Vec F S1x4096x512 .bf16) (x2 : Vec F S1x64x512 .f32) (x3 : Vec F S1x128 .f32) (x4 : Vec F S64x256 .f32) (x5 : Vec F S64x256 .f32) (x6 : Vec F S256x256 .bf16) (x7 : Vec F S256x512 .bf16) : Vec F S1x4096x512 .bf16 :=
  VO0_8.read (Elt F) (VO0_8.writes (Elt F) VO0_8.junk (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7))

/-! ## What the outputs hold after each point -/

/-- What the outputs' staging buffers hold after the body at point `t`: the run's contents at
    the point's memrefs and input blocks. -/
def outAt (c : Dev nD) (t : Fin cfg0.N) : Vec F S1x4096x512 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)

/-! ## The pipeline's proof data -/

/-- What the pipeline's proof keeps on core `c`: the arrays as the region finds them; after the body at point `t` each
    input's buffer at its block and the output's at `outAt`; between points the scratch and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outAt m c t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- The body leaves input 0's buffer at its block. -/
theorem after0_0 (c : Dev nD) (t : Fin cfg0.N) : (dats m 0 c).after 0 t = iblk m c 0 t := by dsimp only [dats]
/-- The body leaves input 1's buffer at its block. -/
theorem after0_1 (c : Dev nD) (t : Fin cfg0.N) : (dats m 0 c).after 1 t = iblk m c 1 t := by dsimp only [dats]
/-- The body leaves input 2's buffer at its block. -/
theorem after0_2 (c : Dev nD) (t : Fin cfg0.N) : (dats m 0 c).after 2 t = iblk m c 2 t := by dsimp only [dats]
/-- The body leaves input 3's buffer at its block. -/
theorem after0_3 (c : Dev nD) (t : Fin cfg0.N) : (dats m 0 c).after 3 t = iblk m c 3 t := by dsimp only [dats]
/-- The body leaves input 4's buffer at its block. -/
theorem after0_4 (c : Dev nD) (t : Fin cfg0.N) : (dats m 0 c).after 4 t = iblk m c 4 t := by dsimp only [dats]
/-- The body leaves input 5's buffer at its block. -/
theorem after0_5 (c : Dev nD) (t : Fin cfg0.N) : (dats m 0 c).after 5 t = iblk m c 5 t := by dsimp only [dats]
/-- The body leaves input 6's buffer at its block. -/
theorem after0_6 (c : Dev nD) (t : Fin cfg0.N) : (dats m 0 c).after 6 t = iblk m c 6 t := by dsimp only [dats]
/-- The body leaves input 7's buffer at its block. -/
theorem after0_7 (c : Dev nD) (t : Fin cfg0.N) : (dats m 0 c).after 7 t = iblk m c 7 t := by dsimp only [dats]
/-- The body leaves the output's buffer at `outAt`. -/
theorem after0_8 (c : Dev nD) (t : Fin cfg0.N) : (dats m 0 c).after 8 t = (outAt m c t) := by dsimp only [dats]

/-- Input 0's buffer holds its block when the body starts, fetched at this point or not. -/
theorem before0_0 (c : Dev nD) (t : Fin cfg0.N) (d) : (dats m 0 c).before 0 t d = iblk m c 0 t :=
  before0_0_of m (dats m 0 c) (A_eq m c 0) (after0_0 m c) t d
/-- Input 1's buffer holds its block when the body starts, fetched at this point or not. -/
theorem before0_1 (c : Dev nD) (t : Fin cfg0.N) (d) : (dats m 0 c).before 1 t d = iblk m c 1 t :=
  before0_1_of m (dats m 0 c) (A_eq m c 1) (after0_1 m c) t d
/-- Input 2's buffer holds its block when the body starts, fetched at this point or not. -/
theorem before0_2 (c : Dev nD) (t : Fin cfg0.N) (d) : (dats m 0 c).before 2 t d = iblk m c 2 t :=
  before0_2_of m (dats m 0 c) (A_eq m c 2) (after0_2 m c) t d
/-- Input 3's buffer holds its block when the body starts, fetched at this point or not. -/
theorem before0_3 (c : Dev nD) (t : Fin cfg0.N) (d) : (dats m 0 c).before 3 t d = iblk m c 3 t :=
  before0_3_of m (dats m 0 c) (A_eq m c 3) (after0_3 m c) t d
/-- Input 4's buffer holds its block when the body starts, fetched at this point or not. -/
theorem before0_4 (c : Dev nD) (t : Fin cfg0.N) (d) : (dats m 0 c).before 4 t d = iblk m c 4 t :=
  before0_4_of m (dats m 0 c) (A_eq m c 4) (after0_4 m c) t d
/-- Input 5's buffer holds its block when the body starts, fetched at this point or not. -/
theorem before0_5 (c : Dev nD) (t : Fin cfg0.N) (d) : (dats m 0 c).before 5 t d = iblk m c 5 t :=
  before0_5_of m (dats m 0 c) (A_eq m c 5) (after0_5 m c) t d
/-- Input 6's buffer holds its block when the body starts, fetched at this point or not. -/
theorem before0_6 (c : Dev nD) (t : Fin cfg0.N) (d) : (dats m 0 c).before 6 t d = iblk m c 6 t :=
  before0_6_of m (dats m 0 c) (A_eq m c 6) (after0_6 m c) t d
/-- Input 7's buffer holds its block when the body starts, fetched at this point or not. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outAt
  unfold outBlock
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The run: what every array ends holding, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: it terminates, the pipeline's arrays end at what the points wrote back and every other array as the region
    found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run terminates, the arguments end as they were and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.Gla

end
-- ==== Proof.Gla.Chunk.lean ====
module

public import proofs.«01_k».proof.Proof.Gen.KernelIdeal.Loops

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eight chunks of 64 rows of a superchunk's queries or keys, in order. -/
def rowsK (x : Vec F S1x512x256 .bf16) : ℕ → FVec F S64x256 .bf16
  | 0 => extractStridedSlice S64x256 ![0, 0] (shapeCast S512x256 x shapeCasts_S1x512x256_S512x256) slices_S512x256_o0_0_S64x256
  | 1 => extractStridedSlice S64x256 ![64, 0] (shapeCast S512x256 x shapeCasts_S1x512x256_S512x256) slices_S512x256_o64_0_S64x256
  | 2 => extractStridedSlice S64x256 ![128, 0] (shapeCast S512x256 x shapeCasts_S1x512x256_S512x256) slices_S512x256_o128_0_S64x256
  | 3 => extractStridedSlice S64x256 ![192, 0] (shapeCast S512x256 x shapeCasts_S1x512x256_S512x256) slices_S512x256_o192_0_S64x256
  | 4 => extractStridedSlice S64x256 ![256, 0] (shapeCast S512x256 x shapeCasts_S1x512x256_S512x256) slices_S512x256_o256_0_S64x256
  | 5 => extractStridedSlice S64x256 ![320, 0] (shapeCast S512x256 x shapeCasts_S1x512x256_S512x256) slices_S512x256_o320_0_S64x256
  | 6 => extractStridedSlice S64x256 ![384, 0] (shapeCast S512x256 x shapeCasts_S1x512x256_S512x256) slices_S512x256_o384_0_S64x256
  | _ => extractStridedSlice S64x256 ![448, 0] (shapeCast S512x256 x shapeCasts_S1x512x256_S512x256) slices_S512x256_o448_0_S64x256

/-- The eight chunks of 64 rows of a superchunk's values, in order. -/
def rowsV (x : Vec F S1x512x512 .bf16) : ℕ → FVec F S64x512 .bf16
  | 0 => extractStridedSlice S64x512 ![0, 0] (shapeCast S512x512 x shapeCasts_S1x512x512_S512x512) slices_S512x512_o0_0_S64x512
  | 1 => extractStridedSlice S64x512 ![64, 0] (shapeCast S512x512 x shapeCasts_S1x512x512_S512x512) slices_S512x512_o64_0_S64x512
  | 2 => extractStridedSlice S64x512 ![128, 0] (shapeCast S512x512 x shapeCasts_S1x512x512_S512x512) slices_S512x512_o128_0_S64x512
  | 3 => extractStridedSlice S64x512 ![192, 0] (shapeCast S512x512 x shapeCasts_S1x512x512_S512x512) slices_S512x512_o192_0_S64x512
  | 4 => extractStridedSlice S64x512 ![256, 0] (shapeCast S512x512 x shapeCasts_S1x512x512_S512x512) slices_S512x512_o256_0_S64x512
  | 5 => extractStridedSlice S64x512 ![320, 0] (shapeCast S512x512 x shapeCasts_S1x512x512_S512x512) slices_S512x512_o320_0_S64x512
  | 6 => extractStridedSlice S64x512 ![384, 0] (shapeCast S512x512 x shapeCasts_S1x512x512_S512x512) slices_S512x512_o384_0_S64x512
  | _ => extractStridedSlice S64x512 ![448, 0] (shapeCast S512x512 x shapeCasts_S1x512x512_S512x512) slices_S512x512_o448_0_S64x512

/-- A chunk's queries or keys four times below each other, once per head, each head's copy masked to its own columns. -/
def stack (mkk : FVec F S256x256 .bf16) (x : FVec F S64x256 .bf16) : FVec F S256x256 .bf16 :=
  mulf (concatenate S256x256 0 [⟨S64x256, x⟩, ⟨S64x256, x⟩, ⟨S64x256, x⟩, ⟨S64x256, x⟩] concatenates_S64x256_S64x256_S64x256_S64x256_S256x256_d0) mkk

/-- A chunk's values of the four heads below each other, two heads to the left and two to the right. -/
def spread (v : FVec F S64x512 .bf16) : FVec F S256x256 .bf16 :=
  concatenate S256x256 0
    [⟨S64x256, concatenate S64x256 1 [⟨S64x128, extractStridedSlice S64x128 ![0, 0] v slices_S64x512_o0_0_S64x128⟩, ⟨S64x128, broadcast S64x128 (Scalar.ofBits .bf16 0x0000#16)⟩] concatenates_S64x128_S64x128_S64x256_d1⟩,
     ⟨S64x256, concatenate S64x256 1 [⟨S64x128, extractStridedSlice S64x128 ![0, 128] v slices_S64x512_o0_128_S64x128⟩, ⟨S64x128, broadcast S64x128 (Scalar.ofBits .bf16 0x0000#16)⟩] concatenates_S64x128_S64x128_S64x256_d1⟩,
     ⟨S64x256, concatenate S64x256 1 [⟨S64x128, broadcast S64x128 (Scalar.ofBits .bf16 0x0000#16)⟩, ⟨S64x128, extractStridedSlice S64x128 ![0, 256] v slices_S64x512_o0_256_S64x128⟩] concatenates_S64x128_S64x128_S64x256_d1⟩,
     ⟨S64x256, concatenate S64x256 1 [⟨S64x128, broadcast S64x128 (Scalar.ofBits .bf16 0x0000#16)⟩, ⟨S64x128, extractStridedSlice S64x128 ![0, 384] v slices_S64x512_o0_384_S64x128⟩] concatenates_S64x128_S64x128_S64x256_d1⟩]
    concatenates_S64x256_S64x256_S64x256_S64x256_S256x256_d0

/-- The decay row of a chunk, as a row of 256. -/
def decRow (d : Vec F S1x1x256 .f32) : FVec F S1x256 .f32 := shapeCast S1x256 d shapeCasts_S1x1x256_S1x256

/-- A chunk's keys decayed to the chunk's end. -/
def keysEnd (k : FVec F S64x256 .bf16) (d : Vec F S1x1x256 .f32) : FVec F S64x256 .bf16 :=
  truncf .bf16 (mulf (extf .f32 k bitsLt_bf16_f32) (broadcastTo S64x256 (decRow d) broadcasts_S1x256_S64x256)) bitsLt_bf16_f32

/-- The state after a chunk: decayed, plus the values against the keys decayed to the chunk's end. -/
def stepV (mkk : FVec F S256x256 .bf16) (k : FVec F S64x256 .bf16) (v : FVec F S64x512 .bf16) (d : Vec F S1x1x256 .f32) (st : FVec F S256x256 .f32) : FVec F S256x256 .f32 :=
  addf (mulf (broadcastTo S256x256 (decRow d) broadcasts_S1x256_S256x256) st)
    (matmul dot_S256x256_S256x256_S256x256_0_0_1_1_n_n none (spread v) (stack mkk (keysEnd k d)) (constant S256x256 .f32 0x00000000#32))

/-- A chunk's queries of all heads against the state. -/
def qstate (mkk : FVec F S256x256 .bf16) (q : FVec F S64x256 .bf16) (st : FVec F S256x256 .f32) : FVec F S256x256 .f32 :=
  matmul dot_S256x256_S256x256_S256x256_1_1_0_0_n_n none (stack mkk q) (truncf .bf16 st bitsLt_bf16_f32) (constant S256x256 .f32 0x00000000#32)

/-- What a chunk's queries read from the state before it. -/
def interV (mkk : FVec F S256x256 .bf16) (q : FVec F S64x256 .bf16) (st : FVec F S256x256 .f32) : FVec F S64x512 .f32 :=
  concatenate S64x512 1
    [⟨S64x128, extractStridedSlice S64x128 ![0, 0] (qstate mkk q st) slices_S256x256_o0_0_S64x128⟩,
     ⟨S64x128, extractStridedSlice S64x128 ![64, 0] (qstate mkk q st) slices_S256x256_o64_0_S64x128⟩,
     ⟨S64x128, extractStridedSlice S64x128 ![128, 128] (qstate mkk q st) slices_S256x256_o128_128_S64x128⟩,
     ⟨S64x128, extractStridedSlice S64x128 ![192, 128] (qstate mkk q st) slices_S256x256_o192_128_S64x128⟩]
    concatenates_S64x128_S64x128_S64x128_S64x128_S64x512_d1

/-- The scores of a chunk's queries against its keys, masked. -/
def scoresV (mkk : FVec F S256x256 .bf16) (q k : FVec F S64x256 .bf16) (msk : FVec F S64x256 .f32) : FVec F S64x256 .f32 :=
  mulf (matmul dot_S64x256_S256x256_S64x256_1_1_0_0_n_n none q (stack mkk k) (constant S64x256 .f32 0x00000000#32)) msk

/-- The scores of both directions against the chunk's values. -/
def bothV (mkk : FVec F S256x256 .bf16) (mkv : FVec F S256x512 .bf16) (cml cmu : FVec F S64x256 .f32) (q k qo ko : FVec F S64x256 .bf16) (v : FVec F S64x512 .bf16) : FVec F S128x512 .f32 :=
  matmul dot_S128x256_S256x512_S128x512_1_0_0_1_n_n none
    (truncf .bf16 (concatenate S128x256 0 [⟨S64x256, scoresV mkk q k cml⟩, ⟨S64x256, scoresV mkk qo ko cmu⟩] concatenates_S64x256_S64x256_S128x256_d0) bitsLt_bf16_f32)
    (mulf (concatenate S256x512 0 [⟨S64x512, v⟩, ⟨S64x512, v⟩, ⟨S64x512, v⟩, ⟨S64x512, v⟩] concatenates_S64x512_S64x512_S64x512_S64x512_S256x512_d0) mkv)
    (constant S128x512 .f32 0x00000000#32)

/-- What both directions read from the chunk itself. -/
def intraV (mkk : FVec F S256x256 .bf16) (mkv : FVec F S256x512 .bf16) (cml cmu : FVec F S64x256 .f32) (q k qo ko : FVec F S64x256 .bf16) (v : FVec F S64x512 .bf16) : FVec F S64x512 .f32 :=
  addf (extractStridedSlice S64x512 ![0, 0] (bothV mkk mkv cml cmu q k qo ko v) slices_S128x512_o0_0_S64x512)
    (extractStridedSlice S64x512 ![64, 0] (bothV mkk mkv cml cmu q k qo ko v) slices_S128x512_o64_0_S64x512)

/-- The state after `n` chunks, from the chunks' keys, values and decays in the order they are taken. -/
def stV (mkk : FVec F S256x256 .bf16) (K : ℕ → FVec F S64x256 .bf16) (V : ℕ → FVec F S64x512 .bf16) (D : ℕ → Vec F S1x1x256 .f32) (st : FVec F S256x256 .f32) : ℕ → FVec F S256x256 .f32
  | 0 => st
  | n + 1 => stepV mkk (K n) (V n) (D n) (stV mkk K V D st n)

/-- Eight chunks' results below each other. -/
def gather (o : ℕ → FVec F S64x512 .f32) : FVec F S512x512 .f32 :=
  concatenate S512x512 0 [⟨S64x512, o 0⟩, ⟨S64x512, o 1⟩, ⟨S64x512, o 2⟩, ⟨S64x512, o 3⟩, ⟨S64x512, o 4⟩, ⟨S64x512, o 5⟩, ⟨S64x512, o 6⟩, ⟨S64x512, o 7⟩]
    concatenates_S64x512_S64x512_S64x512_S64x512_S64x512_S64x512_S64x512_S64x512_S512x512_d0

/-- A superchunk's forward result: per chunk what its queries read from the state before it and what both directions read
    from the chunk itself. -/
def superF (mkk : FVec F S256x256 .bf16) (mkv : FVec F S256x512 .bf16) (cml cmu : FVec F S64x256 .f32) (q k qo ko : Vec F S1x512x256 .bf16) (v : Vec F S1x512x512 .bf16)
    (D : ℕ → Vec F S1x1x256 .f32) (st : FVec F S256x256 .f32) : FVec F S512x512 .f32 :=
  gather fun n => addf (interV mkk (rowsK q n) (stV mkk (rowsK k) (rowsV v) D st n))
    (intraV mkk mkv cml cmu (rowsK q n) (rowsK k n) (rowsK qo n) (rowsK ko n) (rowsV v n))

/-- The state of the backward direction after `n` chunks of a superchunk, taken from its last. -/
def stB (mkk : FVec F S256x256 .bf16) (k : Vec F S1x512x256 .bf16) (v : Vec F S1x512x512 .bf16) (D : ℕ → Vec F S1x1x256 .f32) (st : FVec F S256x256 .f32) : ℕ → FVec F S256x256 .f32 :=
  stV mkk (fun n => rowsK k (7 - n)) (fun n => rowsV v (7 - n)) (fun n => D (7 - n)) st

/-- A superchunk's backward result: per chunk what its queries read from the state before it. -/
def superB (mkk : FVec F S256x256 .bf16) (q k : Vec F S1x512x256 .bf16) (v : Vec F S1x512x512 .bf16) (D : ℕ → Vec F S1x1x256 .f32) (st : FVec F S256x256 .f32) : FVec F S512x512 .f32 :=
  gather fun n => interV mkk (rowsK q n) (stB mkk k v D st (7 - n))

/-- One head's columns over their root mean square, scaled. -/
def headNorm (oh : FVec F S512x128 .f32) (g : Vec F S1x128 .f32) : FVec F S512x128 .f32 :=
  mulf (mulf oh (broadcastTo S512x128 (rsqrt (addf (divf (shapeCast S512x1 (multiReduction .add [1] S512 (mulf oh oh) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- A superchunk's result: the sum of what was kept and what is new, each head's columns normalised. -/
def finish (acc new : FVec F S512x512 .f32) (g : Vec F S1x128 .f32) : FVec F S1x512x512 .bf16 :=
  shapeCast S1x512x512 (truncf .bf16 (concatenate S512x512 1
    [⟨S512x128, headNorm (extractStridedSlice S512x128 ![0, 0] (addf acc new) slices_S512x512_o0_0_S512x128) g⟩,
     ⟨S512x128, headNorm (extractStridedSlice S512x128 ![0, 128] (addf acc new) slices_S512x512_o0_128_S512x128) g⟩,
     ⟨S512x128, headNorm (extractStridedSlice S512x128 ![0, 256] (addf acc new) slices_S512x512_o0_256_S512x128) g⟩,
     ⟨S512x128, headNorm (extractStridedSlice S512x128 ![0, 384] (addf acc new) slices_S512x512_o0_384_S512x128) g⟩]
    concatenates_S512x128_S512x128_S512x128_S512x128_S512x512_d1) bitsLt_bf16_f32) shapeCasts_S512x512_S1x512x512

variable (c : Dev nD) (i : grid0.Coords) (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole) (arg4 : Memref sig .tc .vmem S1x128 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S256x256 .f32) (harg11 : arg11.IsWhole) (arg12 : Memref sig .tc .vmem S256x256 .f32) (harg12 : arg12.IsWhole)

/-- The forward decay rows of the superchunk of trip `k` of the first loop. -/
def decF1 (X3 : BufTy.Contents (Elt F) arg3.view.ty) (k : Fin k0_t1_loop.trips) : ℕ → Vec F S1x1x256 .f32
  | 0 => View.readAt (Elt F) arg3.view (Rect.unit (s := S1x64x512) (k0_off6 k 0#32) S1x1x256.size (k0_off6_inb k 0)).toLoadRect X3
  | 1 => View.readAt (Elt F) arg3.view (Rect.unit (s := S1x64x512) (k0_off6 k 1#32) S1x1x256.size (k0_off6_inb k 1)).toLoadRect X3
  | 2 => View.readAt (Elt F) arg3.view (Rect.unit (s := S1x64x512) (k0_off6 k 2#32) S1x1x256.size (k0_off6_inb k 2)).toLoadRect X3
  | 3 => View.readAt (Elt F) arg3.view (Rect.unit (s := S1x64x512) (k0_off6 k 3#32) S1x1x256.size (k0_off6_inb k 3)).toLoadRect X3
  | 4 => View.readAt (Elt F) arg3.view (Rect.unit (s := S1x64x512) (k0_off6 k 4#32) S1x1x256.size (k0_off6_inb k 4)).toLoadRect X3
  | 5 => View.readAt (Elt F) arg3.view (Rect.unit (s := S1x64x512) (k0_off6 k 5#32) S1x1x256.size (k0_off6_inb k 5)).toLoadRect X3
  | 6 => View.readAt (Elt F) arg3.view (Rect.unit (s := S1x64x512) (k0_off6 k 6#32) S1x1x256.size (k0_off6_inb k 6)).toLoadRect X3
  | _ => View.readAt (Elt F) arg3.view (Rect.unit (s := S1x64x512) (k0_off6 k 7#32) S1x1x256.size (k0_off6_inb k 7)).toLoadRect X3

/-- The backward decay rows of the superchunk of trip `k` of the first loop. -/
def decB1 (X3 : BufTy.Contents (Elt F) arg3.view.ty) (k : Fin k0_t1_loop.trips) : ℕ → Vec F S1x1x256 .f32
  | 0 => View.readAt (Elt F) arg3.view (Rect.unit (s := S1x64x512) (k0_off10 k 0#32) S1x1x256.size (k0_off10_inb k 0)).toLoadRect X3
  | 1 => View.readAt (Elt F) arg3.view (Rect.unit (s := S1x64x512) (k0_off10 k 1#32) S1x1x256.size (k0_off10_inb k 1)).toLoadRect X3
  | 2 => View.readAt (Elt F) arg3.view (Rect.unit (s := S1x64x512) (k0_off10 k 2#32) S1x1x256.size (k0_off10_inb k 2)).toLoadRect X3
  | 3 => View.readAt (Elt F) arg3.view (Rect.unit (s := S1x64x512) (k0_off10 k 3#32) S1x1x256.size (k0_off10_inb k 3)).toLoadRect X3
  | 4 => View.readAt (Elt F) arg3.view (Rect.unit (s := S1x64x512) (k0_off10 k 4#32) S1x1x256.size (k0_off10_inb k 4)).toLoadRect X3
  | 5 => View.readAt (Elt F) arg3.view (Rect.unit (s := S1x64x512) (k0_off10 k 5#32) S1x1x256.size (k0_off10_inb k 5)).toLoadRect X3
  | 6 => View.readAt (Elt F) arg3.view (Rect.unit (s := S1x64x512) (k0_off10 k 6#32) S1x1x256.size (k0_off10_inb k 6)).toLoadRect X3
  | _ => View.readAt (Elt F) arg3.view (Rect.unit (s := S1x64x512) (k0_off10 k 7#32) S1x1x256.size (k0_off10_inb k 7)).toLoadRect X3

/-- The forward decay rows of the superchunk of trip `k` of the second loop. -/
def decF2 (X3 : BufTy.Contents (Elt F) arg3.view.ty) (k : Fin k0_t2_loop.trips) : ℕ → Vec F S1x1x256 .f32
  | 0 => View.readAt (Elt F) arg3.view (Rect.unit (s := S1x64x512) (k0_off18 k 0#32) S1x1x256.size (k0_off18_inb k 0)).toLoadRect X3
  | 1 => View.readAt (Elt F) arg3.view (Rect.unit (s := S1x64x512) (k0_off18 k 1#32) S1x1x256.size (k0_off18_inb k 1)).toLoadRect X3
  | 2 => View.readAt (Elt F) arg3.view (Rect.unit (s := S1x64x512) (k0_off18 k 2#32) S1x1x256.size (k0_off18_inb k 2)).toLoadRect X3
  | 3 => View.readAt (Elt F) arg3.view (Rect.unit (s := S1x64x512) (k0_off18 k 3#32) S1x1x256.size (k0_off18_inb k 3)).toLoadRect X3
  | 4 => View.readAt (Elt F) arg3.view (Rect.unit (s := S1x64x512) (k0_off18 k 4#32) S1x1x256.size (k0_off18_inb k 4)).toLoadRect X3
  | 5 => View.readAt (Elt F) arg3.view (Rect.unit (s := S1x64x512) (k0_off18 k 5#32) S1x1x256.size (k0_off18_inb k 5)).toLoadRect X3
  | 6 => View.readAt (Elt F) arg3.view (Rect.unit (s := S1x64x512) (k0_off18 k 6#32) S1x1x256.size (k0_off18_inb k 6)).toLoadRect X3
  | _ => View.readAt (Elt F) arg3.view (Rect.unit (s := S1x64x512) (k0_off18 k 7#32) S1x1x256.size (k0_off18_inb k 7)).toLoadRect X3

/-- The backward decay rows of the superchunk of trip `k` of the second loop. -/
def decB2 (X3 : BufTy.Contents (Elt F) arg3.view.ty) (k : Fin k0_t2_loop.trips) : ℕ → Vec F S1x1x256 .f32
  | 0 => View.readAt (Elt F) arg3.view (Rect.unit (s := S1x64x512) (k0_off22 k 0#32) S1x1x256.size (k0_off22_inb k 0)).toLoadRect X3
  | 1 => View.readAt (Elt F) arg3.view (Rect.unit (s := S1x64x512) (k0_off22 k 1#32) S1x1x256.size (k0_off22_inb k 1)).toLoadRect X3
  | 2 => View.readAt (Elt F) arg3.view (Rect.unit (s := S1x64x512) (k0_off22 k 2#32) S1x1x256.size (k0_off22_inb k 2)).toLoadRect X3
  | 3 => View.readAt (Elt F) arg3.view (Rect.unit (s := S1x64x512) (k0_off22 k 3#32) S1x1x256.size (k0_off22_inb k 3)).toLoadRect X3
  | 4 => View.readAt (Elt F) arg3.view (Rect.unit (s := S1x64x512) (k0_off22 k 4#32) S1x1x256.size (k0_off22_inb k 4)).toLoadRect X3
  | 5 => View.readAt (Elt F) arg3.view (Rect.unit (s := S1x64x512) (k0_off22 k 5#32) S1x1x256.size (k0_off22_inb k 5)).toLoadRect X3
  | 6 => View.readAt (Elt F) arg3.view (Rect.unit (s := S1x64x512) (k0_off22 k 6#32) S1x1x256.size (k0_off22_inb k 6)).toLoadRect X3
  | _ => View.readAt (Elt F) arg3.view (Rect.unit (s := S1x64x512) (k0_off22 k 7#32) S1x1x256.size (k0_off22_inb k 7)).toLoadRect X3

/-- A trip of the first loop stores the superchunk's forward and backward results and both states after it. -/
theorem trip1_eq (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f10 : BufTy.Contents (Elt F) arg10.view.ty) (f11 : BufTy.Contents (Elt F) arg11.view.ty) (f12 : BufTy.Contents (Elt F) arg12.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X5 X6 X7 X8 k f10 f11 f12
      = ([⟨Rect.unit (s := S4096x512) (k0_off12 k) S512x512.size (k0_off12_inb k), shapeCast S512x512 (superB (View.readAt (Elt F) arg7.view (Rect.unit (s := S256x256) ![0, 0] S256x256.size inb_S256x256_S256x256_0_0).toLoadRect X7) (View.readAt (Elt F) arg1.view (Rect.unit (s := S1x4096x1024) (k0_off7 k) S1x512x256.size (k0_off7_inb k)).toLoadRect X1) (View.readAt (Elt F) arg1.view (Rect.unit (s := S1x4096x1024) (k0_off8 k) S1x512x256.size (k0_off8_inb k)).toLoadRect X1) (View.readAt (Elt F) arg2.view (Rect.unit (s := S1x4096x512) (k0_off9 k) S1x512x512.size (k0_off9_inb k)).toLoadRect X2) (decB1 arg3 X3 k) (View.readAt (Elt F) arg12.view (Rect.unit (s := S256x256) ![0, 0] S256x256.size inb_S256x256_S256x256_0_0).toLoadRect f12)) shapeCasts_S512x512_S512x512⟩,
          ⟨Rect.unit (s := S4096x512) (k0_off11 k) S512x512.size (k0_off11_inb k), shapeCast S512x512 (superF (View.readAt (Elt F) arg7.view (Rect.unit (s := S256x256) ![0, 0] S256x256.size inb_S256x256_S256x256_0_0).toLoadRect X7) (View.readAt (Elt F) arg8.view (Rect.unit (s := S256x512) ![0, 0] S256x512.size inb_S256x512_S256x512_0_0).toLoadRect X8) (View.readAt (Elt F) arg5.view (Rect.unit (s := S64x256) ![0, 0] S64x256.size inb_S64x256_S64x256_0_0).toLoadRect X5) (View.readAt (Elt F) arg6.view (Rect.unit (s := S64x256) ![0, 0] S64x256.size inb_S64x256_S64x256_0_0).toLoadRect X6) (View.readAt (Elt F) arg1.view (Rect.unit (s := S1x4096x1024) (k0_off1 k) S1x512x256.size (k0_off1_inb k)).toLoadRect X1) (View.readAt (Elt F) arg1.view (Rect.unit (s := S1x4096x1024) (k0_off2 k) S1x512x256.size (k0_off2_inb k)).toLoadRect X1) (View.readAt (Elt F) arg1.view (Rect.unit (s := S1x4096x1024) (k0_off4 k) S1x512x256.size (k0_off4_inb k)).toLoadRect X1) (View.readAt (Elt F) arg1.view (Rect.unit (s := S1x4096x1024) (k0_off5 k) S1x512x256.size (k0_off5_inb k)).toLoadRect X1) (View.readAt (Elt F) arg2.view (Rect.unit (s := S1x4096x512) (k0_off3 k) S1x512x512.size (k0_off3_inb k)).toLoadRect X2) (decF1 arg3 X3 k) (View.readAt (Elt F) arg11.view (Rect.unit (s := S256x256) ![0, 0] S256x256.size inb_S256x256_S256x256_0_0).toLoadRect f11)) shapeCasts_S512x512_S512x512⟩],
         [⟨Rect.unit (s := S256x256) ![0, 0] S256x256.size inb_S256x256_S256x256_0_0, shapeCast S256x256 (stV (View.readAt (Elt F) arg7.view (Rect.unit (s := S256x256) ![0, 0] S256x256.size inb_S256x256_S256x256_0_0).toLoadRect X7) (rowsK (View.readAt (Elt F) arg1.view (Rect.unit (s := S1x4096x1024) (k0_off2 k) S1x512x256.size (k0_off2_inb k)).toLoadRect X1)) (rowsV (View.readAt (Elt F) arg2.view (Rect.unit (s := S1x4096x512) (k0_off3 k) S1x512x512.size (k0_off3_inb k)).toLoadRect X2)) (decF1 arg3 X3 k) (View.readAt (Elt F) arg11.view (Rect.unit (s := S256x256) ![0, 0] S256x256.size inb_S256x256_S256x256_0_0).toLoadRect f11) 8) shapeCasts_S256x256_S256x256⟩], [⟨Rect.unit (s := S256x256) ![0, 0] S256x256.size inb_S256x256_S256x256_0_0, shapeCast S256x256 (stB (View.readAt (Elt F) arg7.view (Rect.unit (s := S256x256) ![0, 0] S256x256.size inb_S256x256_S256x256_0_0).toLoadRect X7) (View.readAt (Elt F) arg1.view (Rect.unit (s := S1x4096x1024) (k0_off8 k) S1x512x256.size (k0_off8_inb k)).toLoadRect X1) (View.readAt (Elt F) arg2.view (Rect.unit (s := S1x4096x512) (k0_off9 k) S1x512x512.size (k0_off9_inb k)).toLoadRect X2) (decB1 arg3 X3 k) (View.readAt (Elt F) arg12.view (Rect.unit (s := S256x256) ![0, 0] S256x256.size inb_S256x256_S256x256_0_0).toLoadRect f12) 8) shapeCasts_S256x256_S256x256⟩]) := by
  sl_kernel_rfl

/-- A trip of the second loop stores the finished results of the two superchunks it completes and both states after them. -/
theorem trip2_eq (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (k : Fin k0_t2_loop.trips)
    (f9 : BufTy.Contents (Elt F) arg9.view.ty) (f11 : BufTy.Contents (Elt F) arg11.view.ty) (f12 : BufTy.Contents (Elt F) arg12.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 X10 k f9 f11 f12
      = ([⟨Rect.unit (s := S1x4096x512) (k0_off21 k) S1x512x512.size (k0_off21_inb k), finish (View.readAt (Elt F) arg10.view (Rect.unit (s := S4096x512) (k0_off24 k) S512x512.size (k0_off24_inb k)).toLoadRect X10) (superB (View.readAt (Elt F) arg7.view (Rect.unit (s := S256x256) ![0, 0] S256x256.size inb_S256x256_S256x256_0_0).toLoadRect X7) (View.readAt (Elt F) arg1.view (Rect.unit (s := S1x4096x1024) (k0_off19 k) S1x512x256.size (k0_off19_inb k)).toLoadRect X1) (View.readAt (Elt F) arg1.view (Rect.unit (s := S1x4096x1024) (k0_off20 k) S1x512x256.size (k0_off20_inb k)).toLoadRect X1) (View.readAt (Elt F) arg2.view (Rect.unit (s := S1x4096x512) (k0_off21 k) S1x512x512.size (k0_off21_inb k)).toLoadRect X2) (decB2 arg3 X3 k) (View.readAt (Elt F) arg12.view (Rect.unit (s := S256x256) ![0, 0] S256x256.size inb_S256x256_S256x256_0_0).toLoadRect f12)) (View.readAt (Elt F) arg4.view (Rect.unit (s := S1x128) ![0, 0] S1x128.size inb_S1x128_S1x128_0_0).toLoadRect X4)⟩,
          ⟨Rect.unit (s := S1x4096x512) (k0_off15 k) S1x512x512.size (k0_off15_inb k), finish (View.readAt (Elt F) arg10.view (Rect.unit (s := S4096x512) (k0_off23 k) S512x512.size (k0_off23_inb k)).toLoadRect X10) (superF (View.readAt (Elt F) arg7.view (Rect.unit (s := S256x256) ![0, 0] S256x256.size inb_S256x256_S256x256_0_0).toLoadRect X7) (View.readAt (Elt F) arg8.view (Rect.unit (s := S256x512) ![0, 0] S256x512.size inb_S256x512_S256x512_0_0).toLoadRect X8) (View.readAt (Elt F) arg5.view (Rect.unit (s := S64x256) ![0, 0] S64x256.size inb_S64x256_S64x256_0_0).toLoadRect X5) (View.readAt (Elt F) arg6.view (Rect.unit (s := S64x256) ![0, 0] S64x256.size inb_S64x256_S64x256_0_0).toLoadRect X6) (View.readAt (Elt F) arg1.view (Rect.unit (s := S1x4096x1024) (k0_off13 k) S1x512x256.size (k0_off13_inb k)).toLoadRect X1) (View.readAt (Elt F) arg1.view (Rect.unit (s := S1x4096x1024) (k0_off14 k) S1x512x256.size (k0_off14_inb k)).toLoadRect X1) (View.readAt (Elt F) arg1.view (Rect.unit (s := S1x4096x1024) (k0_off16 k) S1x512x256.size (k0_off16_inb k)).toLoadRect X1) (View.readAt (Elt F) arg1.view (Rect.unit (s := S1x4096x1024) (k0_off17 k) S1x512x256.size (k0_off17_inb k)).toLoadRect X1) (View.readAt (Elt F) arg2.view (Rect.unit (s := S1x4096x512) (k0_off15 k) S1x512x512.size (k0_off15_inb k)).toLoadRect X2) (decF2 arg3 X3 k) (View.readAt (Elt F) arg11.view (Rect.unit (s := S256x256) ![0, 0] S256x256.size inb_S256x256_S256x256_0_0).toLoadRect f11)) (View.readAt (Elt F) arg4.view (Rect.unit (s := S1x128) ![0, 0] S1x128.size inb_S1x128_S1x128_0_0).toLoadRect X4)⟩],
         [⟨Rect.unit (s := S256x256) ![0, 0] S256x256.size inb_S256x256_S256x256_0_0, shapeCast S256x256 (stV (View.readAt (Elt F) arg7.view (Rect.unit (s := S256x256) ![0, 0] S256x256.size inb_S256x256_S256x256_0_0).toLoadRect X7) (rowsK (View.readAt (Elt F) arg1.view (Rect.unit (s := S1x4096x1024) (k0_off14 k) S1x512x256.size (k0_off14_inb k)).toLoadRect X1)) (rowsV (View.readAt (Elt F) arg2.view (Rect.unit (s := S1x4096x512) (k0_off15 k) S1x512x512.size (k0_off15_inb k)).toLoadRect X2)) (decF2 arg3 X3 k) (View.readAt (Elt F) arg11.view (Rect.unit (s := S256x256) ![0, 0] S256x256.size inb_S256x256_S256x256_0_0).toLoadRect f11) 8) shapeCasts_S256x256_S256x256⟩], [⟨Rect.unit (s := S256x256) ![0, 0] S256x256.size inb_S256x256_S256x256_0_0, shapeCast S256x256 (stB (View.readAt (Elt F) arg7.view (Rect.unit (s := S256x256) ![0, 0] S256x256.size inb_S256x256_S256x256_0_0).toLoadRect X7) (View.readAt (Elt F) arg1.view (Rect.unit (s := S1x4096x1024) (k0_off20 k) S1x512x256.size (k0_off20_inb k)).toLoadRect X1) (View.readAt (Elt F) arg2.view (Rect.unit (s := S1x4096x512) (k0_off21 k) S1x512x512.size (k0_off21_inb k)).toLoadRect X2) (decB2 arg3 X3 k) (View.readAt (Elt F) arg12.view (Rect.unit (s := S256x256) ![0, 0] S256x256.size inb_S256x256_S256x256_0_0).toLoadRect f12) 8) shapeCasts_S256x256_S256x256⟩]) := by
  sl_kernel_rfl

end Cert.Proof.Gla

end
-- ==== Proof.Gla.Spec.lean ====
module

public import proofs.«01_k».proof.Proof.Gla.Chunk
public import Idealize.ShloMosaic.Lib.Pointwise

@[expose] public section

set_option maxRecDepth 16384

noncomputable section

namespace Cert.Proof.Gla

open Cert.KernelIdeal Cert.KernelIdeal.Gen
open Idealize.ShloMosaic Idealize.ShloMosaic.TcCoe

/-- Column `d` of head `h` among the 256 key columns; also row `d` of block `h` of 64 rows. -/
def ky (h : Fin 4) (d : Fin 64) : Fin 256 := ⟨h.val * 64 + d.val, by omega⟩

/-- Column `e` of head `h` among the 512 value columns. -/
def vl (h : Fin 4) (e : Fin 128) : Fin 512 := ⟨h.val * 128 + e.val, by omega⟩

/-- Row `e` of half `s` of the 256 rows of the state. -/
def hf (s : Fin 2) (e : Fin 128) : Fin 256 := ⟨s.val * 128 + e.val, by omega⟩

/-- A chunk's rows, as a function of row and column. -/
abbrev Rows (n : ℕ) := Fin 64 → Fin n → EReal

/-- The state of one direction: per head, a matrix of 64 key columns by 128 value columns. -/
abbrev Mat := Fin 4 → Fin 64 → Fin 128 → EReal

/-- The state after a chunk. -/
def stepSt (k : Rows 256) (v : Rows 512) (d : Fin 256 → EReal) (S : Mat) : Mat := fun h y e =>
  d (ky h y) * S h y e + ∑ l, (k l (ky h y) * d (ky h y)) * v l (vl h e)

/-- The state before chunk `n`, from zero. -/
def St (K : ℕ → Rows 256) (V : ℕ → Rows 512) (D : ℕ → Fin 256 → EReal) : ℕ → Mat
  | 0 => fun _ _ _ => 0
  | n + 1 => stepSt (K n) (V n) (D n) (St K V D n)

/-- What a chunk's queries read from the state before it. -/
def inter (q : Rows 256) (S : Mat) (l : Fin 64) (h : Fin 4) (e : Fin 128) : EReal := ∑ y, q l (ky h y) * S h y e

/-- What a chunk's queries read from the chunk itself: row `l` sees the rows `m` with `p l m`. -/
def intra (p : Fin 64 → Fin 64 → Prop) [∀ l m, Decidable (p l m)] (q k : Rows 256) (v : Rows 512) (l : Fin 64) (h : Fin 4) (e : Fin 128) : EReal :=
  ∑ m, (if p l m then ∑ y, q l (ky h y) * k m (ky h y) else 0) * v m (vl h e)

/-- Two entries of a matrix at equal positions are equal. -/
theorem app2 {α : Type} {m n : ℕ} (x : (⟨2, ![m, n]⟩ : Shape).Idx → α) {a a' : Fin m} {b b' : Fin n} (ha : a.val = a'.val) (hb : b.val = b'.val) : x (ix2 a b) = x (ix2 a' b') := by
  rw [Fin.ext ha, Fin.ext hb]

/-- Two entries of an array of rank three at equal positions are equal. -/
theorem app3 {α : Type} {k m n : ℕ} (x : (⟨3, ![k, m, n]⟩ : Shape).Idx → α) {i i' : Fin k} {a a' : Fin m} {b b' : Fin n} (hi : i.val = i'.val) (ha : a.val = a'.val) (hb : b.val = b'.val) :
    x (ix3 i a b) = x (ix3 i' a' b') := by
  rw [Fin.ext hi, Fin.ext ha, Fin.ext hb]

/-- A sum over 256 rows is the sum over four blocks of 64. -/
theorem sum_ky (f : Fin 256 → EReal) : ∑ x, f x = ∑ h, ∑ y, f (ky h y) := Fin.sum_univ_tiles 4 64 rfl f

/-- The rows of a chunk, read off an array. -/
def rd {n : ℕ} {t : FTy} (x : FVec Ideal ⟨2, ![64, n]⟩ t) : Rows n := fun l c => x (ix2 l c)

/-- The decay row, read off an array. -/
def rdD (d : Vec Ideal S1x1x256 .f32) : Fin 256 → EReal := fun c => d (ix3 0 0 c)

/-- The state array holds a state: each head's matrix, transposed, in its half of the rows, and zero in the other half. -/
def IsSt (st : FVec Ideal S256x256 .f32) (S : Mat) : Prop :=
  ∀ (s : Fin 2) (e : Fin 128) (h : Fin 4) (y : Fin 64), st (ix2 (hf s e) (ky h y)) = if h.val / 2 = s.val then S h y e else 0

/-- The mask over stacked keys: 1 where the row's head is the column's. -/
def IsMkk (mkk : FVec Ideal S256x256 .bf16) : Prop := ∀ g l h y, mkk (ix2 (ky g l) (ky h y)) = if g = h then 1 else 0

/-- The mask over stacked values: 1 where the row's head is the column's. -/
def IsMkv (mkv : FVec Ideal S256x512 .bf16) : Prop := ∀ g l h e, mkv (ix2 (ky g l) (vl h e)) = if g = h then 1 else 0

/-- A mask over scores: 1 where row `l` sees row `m`. -/
def IsMsk (p : Fin 64 → Fin 64 → Prop) [∀ l m, Decidable (p l m)] (msk : FVec Ideal S64x256 .f32) : Prop :=
  ∀ l h m, msk (ix2 l (ky h m)) = if p l m then 1 else 0

/-- A stacked chunk at a row of block `g` and a column of head `h`. -/
theorem stack_at (mkk : FVec Ideal S256x256 .bf16) (hm : IsMkk mkk) (x : FVec Ideal S64x256 .bf16) (g : Fin 4) (l : Fin 64) (h : Fin 4) (y : Fin 64) :
    stack mkk x (ix2 (ky g l) (ky h y)) = if g = h then x (ix2 l (ky h y)) else 0 := by
  have e : stack mkk x (ix2 (ky g l) (ky h y)) = x (ix2 l (ky h y)) * mkk (ix2 (ky g l) (ky h y)) := by
    pointwise [stack]
    congr 1
    have hv : (ky g l).val = g.val * 64 + l.val := rfl
    split_ifs <;> first | (exfalso; omega) | exact app2 x (by simp only; omega) rfl
  rw [e, hm]; split <;> simp

/-- Four blocks of 64 rows below each other, at a row of block `g`. -/
theorem cat4_at (p : Fin 4 → FVec Ideal S64x256 .bf16) (g : Fin 4) (l : Fin 64) (x : Fin 256) :
    concatenate S256x256 0 [⟨S64x256, p 0⟩, ⟨S64x256, p 1⟩, ⟨S64x256, p 2⟩, ⟨S64x256, p 3⟩] concatenates_S64x256_S64x256_S64x256_S64x256_S256x256_d0 (ix2 (ky g l) x) = p g (ix2 l x) := by
  have hp : ∀ r : Fin 4, r = g → ∀ a : Fin 64, a.val = l.val → p r (ix2 a x) = p g (ix2 l x) := fun r hr a ha => by rw [hr]; exact app2 (p g) ha rfl
  pointwise
  have hv : (ky g l).val = g.val * 64 + l.val := rfl
  split_ifs <;> first | (exfalso; omega) | exact hp _ (Fin.ext (by simp; omega)) _ (by simp only; omega)

/-- The four heads' values in their halves. -/
def piece (v : FVec Ideal S64x512 .bf16) : Fin 4 → FVec Ideal S64x256 .bf16
  | 0 => concatenate S64x256 1 [⟨S64x128, extractStridedSlice S64x128 ![0, 0] v slices_S64x512_o0_0_S64x128⟩, ⟨S64x128, broadcast S64x128 (Scalar.ofBits .bf16 0x0000#16)⟩] concatenates_S64x128_S64x128_S64x256_d1
  | 1 => concatenate S64x256 1 [⟨S64x128, extractStridedSlice S64x128 ![0, 128] v slices_S64x512_o0_128_S64x128⟩, ⟨S64x128, broadcast S64x128 (Scalar.ofBits .bf16 0x0000#16)⟩] concatenates_S64x128_S64x128_S64x256_d1
  | 2 => concatenate S64x256 1 [⟨S64x128, broadcast S64x128 (Scalar.ofBits .bf16 0x0000#16)⟩, ⟨S64x128, extractStridedSlice S64x128 ![0, 256] v slices_S64x512_o0_256_S64x128⟩] concatenates_S64x128_S64x128_S64x256_d1
  | 3 => concatenate S64x256 1 [⟨S64x128, broadcast S64x128 (Scalar.ofBits .bf16 0x0000#16)⟩, ⟨S64x128, extractStridedSlice S64x128 ![0, 384] v slices_S64x512_o0_384_S64x128⟩] concatenates_S64x128_S64x128_S64x256_d1

/-- A head's values at a column of half `s`. -/
theorem piece_at (v : FVec Ideal S64x512 .bf16) (g : Fin 4) (l : Fin 64) (s : Fin 2) (e : Fin 128) :
    piece v g (ix2 l (hf s e)) = if g.val / 2 = s.val then v (ix2 l (vl g e)) else 0 := by
  have hw : (hf s e).val = s.val * 128 + e.val := rfl
  match g with
  | 0 | 1 | 2 | 3 =>
    pointwise [piece]
    rcases (by omega : s.val = 0 ∨ s.val = 1) with hs | hs <;> simp only [hs, hw] <;> simp [vl]

/-- The spread values at a row of block `g` and a column of half `s`. -/
theorem spread_at (v : FVec Ideal S64x512 .bf16) (g : Fin 4) (l : Fin 64) (s : Fin 2) (e : Fin 128) :
    spread v (ix2 (ky g l) (hf s e)) = if g.val / 2 = s.val then v (ix2 l (vl g e)) else 0 :=
  (cat4_at (piece v) g l (hf s e)).trans (piece_at v g l s e)

/-- A step of the state array is a step of the state it holds. -/
theorem stepV_isSt (mkk : FVec Ideal S256x256 .bf16) (hm : IsMkk mkk) (k : FVec Ideal S64x256 .bf16) (v : FVec Ideal S64x512 .bf16) (d : Vec Ideal S1x1x256 .f32)
    (st : FVec Ideal S256x256 .f32) (S : Mat) (hs : IsSt st S) : IsSt (stepV mkk k v d st) (stepSt (rd k) (rd v) (rdD d) S) := by
  intro s e h y
  pointwise [stepV]
  rw [sum_ky, hs, Finset.sum_eq_single h]
  · simp only [stack_at mkk hm, spread_at, stepSt, rd, rdD]
    have ek : ∀ l, keysEnd k d (ix2 l (ky h y)) = k (ix2 l (ky h y)) * d (ix3 0 0 (ky h y)) := fun l => by pointwise [keysEnd, decRow]
    have ed : decRow d (ix2 0 (ky h y)) = d (ix3 0 0 (ky h y)) := by pointwise [decRow]
    split
    · simp [ek, ed, mul_comm]
    · simp
  · intro g _ hg; simp [stack_at mkk hm, hg]
  · simp

/-- The queries of head `h` against the state. -/
theorem qstate_at (mkk : FVec Ideal S256x256 .bf16) (hm : IsMkk mkk) (q : FVec Ideal S64x256 .bf16) (st : FVec Ideal S256x256 .f32) (S : Mat) (hs : IsSt st S)
    (h : Fin 4) (l : Fin 64) (s : Fin 2) (e : Fin 128) (hh : h.val / 2 = s.val) :
    qstate mkk q st (ix2 (ky h l) (hf s e)) = inter (rd q) S l h e := by
  pointwise [qstate]
  rw [sum_ky, Finset.sum_eq_single h]
  · simp [stack_at mkk hm, hs s e, hh, inter, rd]
  · intro g _ hg; simp [stack_at mkk hm, Ne.symm hg]
  · simp

/-- What a chunk's queries read from the state, at an entry. -/
theorem interV_at (mkk : FVec Ideal S256x256 .bf16) (hm : IsMkk mkk) (q : FVec Ideal S64x256 .bf16) (st : FVec Ideal S256x256 .f32) (S : Mat) (hs : IsSt st S)
    (l : Fin 64) (h : Fin 4) (e : Fin 128) : interV mkk q st (ix2 l (vl h e)) = inter (rd q) S l h e := by
  have e0 : interV mkk q st (ix2 l (vl h e)) = qstate mkk q st (ix2 (ky h l) (hf ⟨h.val / 2, by omega⟩ e)) := by
    pointwise [interV]
    have hx : (vl h e).val = h.val * 128 + e.val := rfl
    have hv : (ky h l).val = h.val * 64 + l.val := rfl
    have hw : (hf ⟨h.val / 2, by omega⟩ e).val = h.val / 2 * 128 + e.val := rfl
    split_ifs <;> first | (exfalso; omega) | exact app2 (qstate mkk q st) (by simp only; omega) (by simp only; omega)
  rw [e0]; exact qstate_at mkk hm q st S hs h l _ e rfl

/-- The masked scores at an entry. -/
theorem scoresV_at (mkk : FVec Ideal S256x256 .bf16) (hm : IsMkk mkk) (q k : FVec Ideal S64x256 .bf16) (p : Fin 64 → Fin 64 → Prop) [∀ l m, Decidable (p l m)]
    (msk : FVec Ideal S64x256 .f32) (hp : IsMsk p msk) (l : Fin 64) (h : Fin 4) (m : Fin 64) :
    scoresV mkk q k msk (ix2 l (ky h m)) = if p l m then ∑ y, rd q l (ky h y) * rd k m (ky h y) else 0 := by
  pointwise [scoresV]
  rw [sum_ky, Finset.sum_eq_single h, hp]
  · simp [stack_at mkk hm, rd]
  · intro g _ hg; simp [stack_at mkk hm, Ne.symm hg]
  · simp

/-- What both directions read from the chunk itself, at an entry. -/
theorem intraV_at (mkk : FVec Ideal S256x256 .bf16) (hm : IsMkk mkk) (mkv : FVec Ideal S256x512 .bf16) (hv : IsMkv mkv)
    (p p' : Fin 64 → Fin 64 → Prop) [∀ l m, Decidable (p l m)] [∀ l m, Decidable (p' l m)]
    (cml cmu : FVec Ideal S64x256 .f32) (hl : IsMsk p cml) (hu : IsMsk p' cmu) (q k qo ko : FVec Ideal S64x256 .bf16) (v : FVec Ideal S64x512 .bf16)
    (l : Fin 64) (h : Fin 4) (e : Fin 128) :
    intraV mkk mkv cml cmu q k qo ko v (ix2 l (vl h e)) = intra p (rd q) (rd k) (rd v) l h e + intra p' (rd qo) (rd ko) (rd v) l h e := by
  have ev : ∀ g m, mulf (concatenate S256x512 0 [⟨S64x512, v⟩, ⟨S64x512, v⟩, ⟨S64x512, v⟩, ⟨S64x512, v⟩] concatenates_S64x512_S64x512_S64x512_S64x512_S256x512_d0) mkv (ix2 (ky g m) (vl h e))
      = if g = h then v (ix2 m (vl h e)) else 0 := by
    intro g m
    have e : mulf (concatenate S256x512 0 [⟨S64x512, v⟩, ⟨S64x512, v⟩, ⟨S64x512, v⟩, ⟨S64x512, v⟩] concatenates_S64x512_S64x512_S64x512_S64x512_S256x512_d0) mkv (ix2 (ky g m) (vl h e))
        = v (ix2 m (vl h e)) * mkv (ix2 (ky g m) (vl h e)) := by
      pointwise
      congr 1
      have hv : (ky g m).val = g.val * 64 + m.val := rfl
      split_ifs <;> first | (exfalso; omega) | exact app2 v (by simp only; omega) rfl
    rw [e, hv]; split <;> simp
  have eb : ∀ (P : FVec Ideal S128x256 .f32) (W : FVec Ideal S256x512 .bf16) (r : Fin 128) (c : Fin 512),
      matmul dot_S128x256_S256x512_S128x512_1_0_0_1_n_n none (truncf .bf16 P bitsLt_bf16_f32) W (constant S128x512 .f32 0x00000000#32) (ix2 r c)
        = ∑ g, ∑ m, P (ix2 r (ky g m)) * W (ix2 (ky g m) c) := by
    intro P W r c; rw [← sum_ky (fun x => P (ix2 r x) * W (ix2 x c))]; pointwise
  have e0 : intraV mkk mkv cml cmu q k qo ko v (ix2 l (vl h e))
      = bothV mkk mkv cml cmu q k qo ko v (ix2 ⟨l.val, by omega⟩ (vl h e)) + bothV mkk mkv cml cmu q k qo ko v (ix2 ⟨64 + l.val, by omega⟩ (vl h e)) := by
    pointwise [intraV]
  have s0 : ∀ x, concatenate S128x256 0 [⟨S64x256, scoresV mkk q k cml⟩, ⟨S64x256, scoresV mkk qo ko cmu⟩] concatenates_S64x256_S64x256_S128x256_d0 (ix2 (⟨l.val, by omega⟩ : Fin 128) x)
      = scoresV mkk q k cml (ix2 l x) := by intro x; pointwise
  have s1 : ∀ x, concatenate S128x256 0 [⟨S64x256, scoresV mkk q k cml⟩, ⟨S64x256, scoresV mkk qo ko cmu⟩] concatenates_S64x256_S64x256_S128x256_d0 (ix2 (⟨64 + l.val, by omega⟩ : Fin 128) x)
      = scoresV mkk qo ko cmu (ix2 l x) := by intro x; pointwise
  rw [e0]
  unfold bothV
  rw [eb, eb, Finset.sum_eq_single h, Finset.sum_eq_single h]
  · simp only [ev, s0, s1, scoresV_at mkk hm _ _ p cml hl, scoresV_at mkk hm _ _ p' cmu hu, if_true]; rfl
  · intro g _ hg; simp [ev, hg]
  · simp
  · intro g _ hg; simp [ev, hg]
  · simp

/-- Chunk `n` of a superchunk's queries or keys. -/
theorem rowsK_at (x : Vec Ideal S1x512x256 .bf16) (n : Fin 8) (l : Fin 64) (c : Fin 256) :
    rowsK (F := Ideal) x n.val (ix2 l c) = x (ix3 0 ⟨n.val * 64 + l.val, by omega⟩ c) := by
  have h : ∀ r : ℕ, ∀ hr : r = n.val, rowsK (F := Ideal) x r (ix2 l c) = x (ix3 0 ⟨n.val * 64 + l.val, by omega⟩ c) := by
    intro r hr
    have hn : n.val < 8 := n.isLt
    match r with
    | 0 | 1 | 2 | 3 | 4 | 5 | 6 | 7 => pointwise [rowsK]; exact app3 x rfl (by simp only; omega) rfl
    | m + 8 => omega
  exact h _ rfl

/-- Chunk `n` of a superchunk's values. -/
theorem rowsV_at (x : Vec Ideal S1x512x512 .bf16) (n : Fin 8) (l : Fin 64) (c : Fin 512) :
    rowsV (F := Ideal) x n.val (ix2 l c) = x (ix3 0 ⟨n.val * 64 + l.val, by omega⟩ c) := by
  have h : ∀ r : ℕ, ∀ hr : r = n.val, rowsV (F := Ideal) x r (ix2 l c) = x (ix3 0 ⟨n.val * 64 + l.val, by omega⟩ c) := by
    intro r hr
    have hn : n.val < 8 := n.isLt
    match r with
    | 0 | 1 | 2 | 3 | 4 | 5 | 6 | 7 => pointwise [rowsV]; exact app3 x rfl (by simp only; omega) rfl
    | m + 8 => omega
  exact h _ rfl

/-- Eight chunks' results below each other, at a row of chunk `n`. -/
theorem gather_at (o : ℕ → FVec Ideal S64x512 .f32) (n : Fin 8) (l : Fin 64) (c : Fin 512) :
    gather o (ix2 (⟨n.val * 64 + l.val, by omega⟩ : Fin 512) c) = o n.val (ix2 l c) := by
  pointwise [gather]
  have hv : (⟨n.val * 64 + l.val, by omega⟩ : Fin 512).val = n.val * 64 + l.val := rfl
  have hn : n.val < 8 := n.isLt
  have h : ∀ r, n.val = r → ∀ a : Fin 64, a.val = l.val → o r (ix2 a c) = o n.val (ix2 l c) := fun r hr a ha => by rw [← hr]; exact app2 (o n.val) ha rfl
  split_ifs <;> first | (exfalso; omega) | exact h _ (by omega) _ (by simp only; omega)

end Cert.Proof.Gla

end
-- ==== Proof.Gla.Sup.lean ====
module

public import proofs.«01_k».proof.Proof.Gla.Spec
public import Idealize.ShloMosaic.Lib.Pipeline.ValueKit

@[expose] public section

set_option maxRecDepth 16384

noncomputable section

namespace Cert.Proof.Gla

open Cert.KernelIdeal Cert.KernelIdeal.Gen
open Idealize.ShloMosaic Idealize.ShloMosaic.TcCoe

/-! ## The sequences a batch is made of -/

/-- Part `p` of the first array's columns, chunk `n`: the queries and keys of the forward and of the backward direction, in this order. -/
def gqR (x : Fin 4096 → Fin 1024 → EReal) (p : Fin 4) (n : ℕ) : Rows 256 := fun l c =>
  x ⟨(n * 64 + l.val) % 4096, Nat.mod_lt _ (by omega)⟩ ⟨p.val * 256 + c.val, by omega⟩

/-- The values of chunk `n`. -/
def vR (x : Fin 4096 → Fin 512 → EReal) (n : ℕ) : Rows 512 := fun l c => x ⟨(n * 64 + l.val) % 4096, Nat.mod_lt _ (by omega)⟩ c

/-- The decay of chunk `n`, forward or backward. -/
def dR (x : Fin 64 → Fin 512 → EReal) (p : Fin 2) (n : ℕ) : Fin 256 → EReal := fun c => x ⟨n % 64, Nat.mod_lt _ (by omega)⟩ ⟨p.val * 256 + c.val, by omega⟩

section seq
variable (x : Fin 4096 → Fin 1024 → EReal) (w : Fin 4096 → Fin 512 → EReal) (d : Fin 64 → Fin 512 → EReal)

/-- The forward state before chunk `n`. -/
def SF (n : ℕ) : Mat := St (gqR x 1) (vR w) (dR d 0) n

/-- The backward state after `n` chunks, taken from the last. -/
def SB (n : ℕ) : Mat := St (fun n => gqR x 3 (63 - n)) (fun n => vR w (63 - n)) (fun n => dR d 1 (63 - n)) n

/-- What a forward pass adds at chunk `n`: what the queries read from the state, and what both directions read from the chunk. -/
def newF (n : ℕ) (l : Fin 64) (h : Fin 4) (e : Fin 128) : EReal :=
  inter (gqR x 0 n) (SF x w d n) l h e
    + (intra (fun l m => m ≤ l) (gqR x 0 n) (gqR x 1 n) (vR w n) l h e + intra (fun l m => l ≤ m) (gqR x 2 n) (gqR x 3 n) (vR w n) l h e)

/-- What a backward pass adds at chunk `n`. -/
def newB (n : ℕ) (l : Fin 64) (h : Fin 4) (e : Fin 128) : EReal := inter (gqR x 2 n) (SB x w d (63 - n)) l h e

/-- A head's row over its root mean square, scaled. -/
def rms (o g : Fin 128 → EReal) (e : Fin 128) : EReal :=
  o e * Ideal.rsqrt (Ideal.div (∑ j, o j * o j) (Ideal.ofBits .f32 0x43000000#32) + Ideal.ofBits .f32 0x358637BD#32) * g e

/-- The result at row `l` of chunk `n`, column `e` of head `h`. -/
def outSpec (g : Fin 128 → EReal) (n : ℕ) (l : Fin 64) (h : Fin 4) (e : Fin 128) : EReal :=
  rms (fun e' => newF x w d n l h e' + newB x w d n l h e') g e

end seq

/-! ## A superchunk of eight chunks -/

/-- The state after `n` of a superchunk's chunks. -/
theorem stV_isSt (mkk : FVec Ideal S256x256 .bf16) (hm : IsMkk mkk) (K : ℕ → FVec Ideal S64x256 .bf16) (V : ℕ → FVec Ideal S64x512 .bf16) (D : ℕ → Vec Ideal S1x1x256 .f32)
    (KK : ℕ → Rows 256) (VV : ℕ → Rows 512) (DD : ℕ → Fin 256 → EReal) (N : ℕ)
    (hK : ∀ n < 8, rd (K n) = KK (N + n)) (hV : ∀ n < 8, rd (V n) = VV (N + n)) (hD : ∀ n < 8, rdD (D n) = DD (N + n))
    (st : FVec Ideal S256x256 .f32) (hs : IsSt st (St KK VV DD N)) (n : ℕ) (hn : n ≤ 8) : IsSt (stV mkk K V D st n) (St KK VV DD (N + n)) := by
  induction n with
  | zero => exact hs
  | succ n ih =>
    have h := stepV_isSt mkk hm (K n) (V n) (D n) _ _ (ih (by omega))
    rw [hK n (by omega), hV n (by omega), hD n (by omega)] at h
    exact h

/-- A superchunk's four heads, each normalised. -/
def heads (acc new : FVec Ideal S512x512 .f32) (g : Vec Ideal S1x128 .f32) : Fin 4 → FVec Ideal S512x128 .f32
  | 0 => headNorm (extractStridedSlice S512x128 ![0, 0] (addf acc new) slices_S512x512_o0_0_S512x128) g
  | 1 => headNorm (extractStridedSlice S512x128 ![0, 128] (addf acc new) slices_S512x512_o0_128_S512x128) g
  | 2 => headNorm (extractStridedSlice S512x128 ![0, 256] (addf acc new) slices_S512x512_o0_256_S512x128) g
  | 3 => headNorm (extractStridedSlice S512x128 ![0, 384] (addf acc new) slices_S512x512_o0_384_S512x128) g

/-- A normalised head at an entry. -/
theorem headNorm_at (oh : FVec Ideal S512x128 .f32) (g : Vec Ideal S1x128 .f32) (r : Fin 512) (e : Fin 128) :
    headNorm oh g (ix2 r e) = rms (fun e' => oh (ix2 r e')) (fun e' => g (ix2 0 e')) e := by
  pointwise [headNorm]
  rfl

/-- Four heads' columns beside each other, at a column of head `h`. -/
theorem cols4_at (p : Fin 4 → FVec Ideal S512x128 .f32) (r : Fin 512) (h : Fin 4) (e : Fin 128) :
    concatenate S512x512 1 [⟨S512x128, p 0⟩, ⟨S512x128, p 1⟩, ⟨S512x128, p 2⟩, ⟨S512x128, p 3⟩] concatenates_S512x128_S512x128_S512x128_S512x128_S512x512_d1 (ix2 r (vl h e)) = p h (ix2 r e) := by
  have hp : ∀ a : Fin 4, a = h → ∀ b : Fin 128, b.val = e.val → p a (ix2 r b) = p h (ix2 r e) := fun a ha b hb => by rw [ha]; exact app2 (p h) rfl hb
  pointwise
  have hv : (vl h e).val = h.val * 128 + e.val := rfl
  split_ifs <;> first | (exfalso; omega) | exact hp _ (Fin.ext (by simp; omega)) _ (by simp only; omega)

/-- The stored block's entry is the matrix's. -/
theorem stored_at (X : FVec Ideal S512x512 .f32) (r c : Fin 512) : shapeCast S1x512x512 (truncf .bf16 X bitsLt_bf16_f32) shapeCasts_S512x512_S1x512x512 (ix3 0 r c) = X (ix2 r c) := by
  pointwise

/-- A head at an entry. -/
theorem heads_at (acc new : FVec Ideal S512x512 .f32) (g : Vec Ideal S1x128 .f32) (r : Fin 512) (h : Fin 4) (e : Fin 128) :
    heads acc new g h (ix2 r e) = rms (fun e' => acc (ix2 r (vl h e')) + new (ix2 r (vl h e'))) (fun e' => g (ix2 0 e')) e := by
  match h with
  | 0 | 1 | 2 | 3 =>
    refine (headNorm_at _ g r e).trans ?_
    congr 1
    funext e'
    pointwise
    congr 1 <;> exact app2 _ rfl (by simp [vl])

/-- A finished superchunk at an entry. -/
theorem finish_at (acc new : FVec Ideal S512x512 .f32) (g : Vec Ideal S1x128 .f32) (r : Fin 512) (h : Fin 4) (e : Fin 128) :
    finish acc new g (ix3 0 r (vl h e)) = rms (fun e' => acc (ix2 r (vl h e')) + new (ix2 r (vl h e'))) (fun e' => g (ix2 0 e')) e :=
  (stored_at _ r (vl h e)).trans ((cols4_at (heads acc new g) r h e).trans (heads_at acc new g r h e))

/-! ## Loads -/

variable (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole)
  (x0 : Vec Ideal S1x4096x1024 .bf16) (x1 : Vec Ideal S1x4096x512 .bf16) (x2 : Vec Ideal S1x64x512 .f32)

/-- The first array's block, by row and column. -/
def tok (x0 : Vec Ideal S1x4096x1024 .bf16) : Fin 4096 → Fin 1024 → EReal := fun r c => (x0 : FVec Ideal S1x4096x1024 .bf16) (ix3 0 r c)
/-- The values' block, by row and column. -/
def tokV (x1 : Vec Ideal S1x4096x512 .bf16) : Fin 4096 → Fin 512 → EReal := fun r c => (x1 : FVec Ideal S1x4096x512 .bf16) (ix3 0 r c)
/-- The decays' block, by chunk and column. -/
def tokD (x2 : Vec Ideal S1x64x512 .f32) : Fin 64 → Fin 512 → EReal := fun r c => (x2 : FVec Ideal S1x64x512 .f32) (ix3 0 r c)

/-- A load of queries or keys, chunk by chunk. -/
theorem loadK (o : Fin 3 → ℕ) (inb : ∀ a, o a + S1x512x256.size a ≤ S1x4096x1024.size a) (s : ℕ) (p : Fin 4) (ho : o = ![0, s * 512, p.val * 256]) (hs : s < 8) (n : ℕ) (hn : n < 8) :
    rd (rowsK (F := Ideal) (View.readAt (Elt Ideal) arg1.view (Rect.unit (s := S1x4096x1024) o S1x512x256.size inb).toLoadRect (harg1.unread x0)) n) = gqR (tok x0) p (8 * s + n) := by
  subst ho
  funext l c
  refine (rowsK_at _ ⟨n, hn⟩ l c).trans ?_
  rw [View.readAt_eq_ld, harg1.read_unread]
  refine View.ld_unit_apply_of x0 _ _ inb _ (ix3 0 ⟨((8 * s + n) * 64 + l.val) % 4096, Nat.mod_lt _ (by omega)⟩ ⟨p.val * 256 + c.val, by omega⟩) fun a => ?_
  match a with
  | 0 => rfl
  | 1 => show ((8 * s + n) * 64 + l.val) % 4096 = s * 512 + (n * 64 + l.val); omega
  | 2 => rfl

/-- A load of values, chunk by chunk. -/
theorem loadV (o : Fin 3 → ℕ) (inb : ∀ a, o a + S1x512x512.size a ≤ S1x4096x512.size a) (s : ℕ) (ho : o = ![0, s * 512, 0]) (hs : s < 8) (n : ℕ) (hn : n < 8) :
    rd (rowsV (F := Ideal) (View.readAt (Elt Ideal) arg2.view (Rect.unit (s := S1x4096x512) o S1x512x512.size inb).toLoadRect (harg2.unread x1)) n) = vR (tokV x1) (8 * s + n) := by
  subst ho
  funext l c
  refine (rowsV_at _ ⟨n, hn⟩ l c).trans ?_
  rw [View.readAt_eq_ld, harg2.read_unread]
  refine View.ld_unit_apply_of x1 _ _ inb _ (ix3 0 ⟨((8 * s + n) * 64 + l.val) % 4096, Nat.mod_lt _ (by omega)⟩ c) fun a => ?_
  match a with
  | 0 => rfl
  | 1 => show ((8 * s + n) * 64 + l.val) % 4096 = s * 512 + (n * 64 + l.val); omega
  | 2 => show c.val = 0 + c.val; omega

/-- A load of a decay row. -/
theorem loadD (o : Fin 3 → ℕ) (inb : ∀ a, o a + S1x1x256.size a ≤ S1x64x512.size a) (s : ℕ) (p : Fin 2) (ho : o = ![0, s, p.val * 256]) (hs : s < 64) :
    rdD (View.readAt (Elt Ideal) arg3.view (Rect.unit (s := S1x64x512) o S1x1x256.size inb).toLoadRect (harg3.unread x2)) = dR (tokD x2) p s := by
  subst ho
  funext c
  unfold rdD
  rw [View.readAt_eq_ld, harg3.read_unread]
  refine View.ld_unit_apply_of x2 _ _ inb _ (ix3 0 ⟨s % 64, Nat.mod_lt _ (by omega)⟩ ⟨p.val * 256 + c.val, by omega⟩) fun a => ?_
  match a with
  | 0 => rfl
  | 1 => show s % 64 = s + 0; omega
  | 2 => rfl

/-- A load of a whole matrix. -/
theorem loadAll {n m : ℕ} {t : EltTy} (arg : Memref sig .tc .vmem ⟨2, ![n, m]⟩ t) (harg : arg.IsWhole) (x : Vec Ideal ⟨2, ![n, m]⟩ t)
    (inb : ∀ a, (![0, 0] : Fin 2 → ℕ) a + (⟨2, ![n, m]⟩ : Shape).size a ≤ (⟨2, ![n, m]⟩ : Shape).size a) :
    View.readAt (Elt Ideal) arg.view (Rect.unit (s := ⟨2, ![n, m]⟩) ![0, 0] (⟨2, ![n, m]⟩ : Shape).size inb).toLoadRect (harg.unread x) = x := by
  rw [View.readAt_eq_ld, harg.read_unread]
  exact View.ld_unit_lit inb x (fun a => by match a with | 0 => rfl | 1 => rfl)

/-! ## Where the loops' loads and stores lie -/

/-- Where the first loop finds the forward queries of the trip's rows. -/
theorem off1 : ∀ k : Fin k0_t1_loop.trips, k0_off1 k = ![0, k.val * 512, 0] := by decide +kernel
/-- Where the first loop finds the forward keys of the trip's rows. -/
theorem off2 : ∀ k : Fin k0_t1_loop.trips, k0_off2 k = ![0, k.val * 512, 256] := by decide +kernel
/-- Where the first loop finds the values of the trip's rows. -/
theorem off3 : ∀ k : Fin k0_t1_loop.trips, k0_off3 k = ![0, k.val * 512, 0] := by decide +kernel
/-- Where the first loop finds the backward queries of the trip's rows. -/
theorem off4 : ∀ k : Fin k0_t1_loop.trips, k0_off4 k = ![0, k.val * 512, 512] := by decide +kernel
/-- Where the first loop finds the backward keys of the trip's rows. -/
theorem off5 : ∀ k : Fin k0_t1_loop.trips, k0_off5 k = ![0, k.val * 512, 768] := by decide +kernel
/-- Where the first loop finds the forward decays of the trip's chunk `n`. -/
theorem off6 : ∀ k : Fin k0_t1_loop.trips, ∀ n : Fin 8, k0_off6 k (BitVec.ofNat 32 n.val) = ![0, 8 * k.val + n.val, 0] := by decide +kernel
/-- Where the first loop finds the backward queries of the mirrored rows. -/
theorem off7 : ∀ k : Fin k0_t1_loop.trips, k0_off7 k = ![0, (7 - k.val) * 512, 512] := by decide +kernel
/-- Where the first loop finds the backward keys of the mirrored rows. -/
theorem off8 : ∀ k : Fin k0_t1_loop.trips, k0_off8 k = ![0, (7 - k.val) * 512, 768] := by decide +kernel
/-- Where the first loop finds the values of the mirrored rows. -/
theorem off9 : ∀ k : Fin k0_t1_loop.trips, k0_off9 k = ![0, (7 - k.val) * 512, 0] := by decide +kernel
/-- Where the first loop finds the backward decays of the mirrored rows' chunk `n`. -/
theorem off10 : ∀ k : Fin k0_t1_loop.trips, ∀ n : Fin 8, k0_off10 k (BitVec.ofNat 32 n.val) = ![0, 8 * (7 - k.val) + n.val, 256] := by decide +kernel
/-- Where the first loop finds the trip's rows of what it adds to or writes. -/
theorem off11 : ∀ k : Fin k0_t1_loop.trips, k0_off11 k = ![k.val * 512, 0] := by decide +kernel
/-- Where the first loop finds the mirrored rows of what it adds to or writes. -/
theorem off12 : ∀ k : Fin k0_t1_loop.trips, k0_off12 k = ![(7 - k.val) * 512, 0] := by decide +kernel
/-- Where the second loop finds the forward queries of the trip's rows. -/
theorem off13 : ∀ k : Fin k0_t2_loop.trips, k0_off13 k = ![0, (4 + k.val) * 512, 0] := by decide +kernel
/-- Where the second loop finds the forward keys of the trip's rows. -/
theorem off14 : ∀ k : Fin k0_t2_loop.trips, k0_off14 k = ![0, (4 + k.val) * 512, 256] := by decide +kernel
/-- Where the second loop finds the values of the trip's rows. -/
theorem off15 : ∀ k : Fin k0_t2_loop.trips, k0_off15 k = ![0, (4 + k.val) * 512, 0] := by decide +kernel
/-- Where the second loop finds the backward queries of the trip's rows. -/
theorem off16 : ∀ k : Fin k0_t2_loop.trips, k0_off16 k = ![0, (4 + k.val) * 512, 512] := by decide +kernel
/-- Where the second loop finds the backward keys of the trip's rows. -/
theorem off17 : ∀ k : Fin k0_t2_loop.trips, k0_off17 k = ![0, (4 + k.val) * 512, 768] := by decide +kernel
/-- Where the second loop finds the forward decays of the trip's chunk `n`. -/
theorem off18 : ∀ k : Fin k0_t2_loop.trips, ∀ n : Fin 8, k0_off18 k (BitVec.ofNat 32 n.val) = ![0, 8 * (4 + k.val) + n.val, 0] := by decide +kernel
/-- Where the second loop finds the backward queries of the mirrored rows. -/
theorem off19 : ∀ k : Fin k0_t2_loop.trips, k0_off19 k = ![0, (3 - k.val) * 512, 512] := by decide +kernel
/-- Where the second loop finds the backward keys of the mirrored rows. -/
theorem off20 : ∀ k : Fin k0_t2_loop.trips, k0_off20 k = ![0, (3 - k.val) * 512, 768] := by decide +kernel
/-- Where the second loop finds the values of the mirrored rows. -/
theorem off21 : ∀ k : Fin k0_t2_loop.trips, k0_off21 k = ![0, (3 - k.val) * 512, 0] := by decide +kernel
/-- Where the second loop finds the backward decays of the mirrored rows' chunk `n`. -/
theorem off22 : ∀ k : Fin k0_t2_loop.trips, ∀ n : Fin 8, k0_off22 k (BitVec.ofNat 32 n.val) = ![0, 8 * (3 - k.val) + n.val, 256] := by decide +kernel
/-- Where the second loop finds the trip's rows of what it adds to or writes. -/
theorem off23 : ∀ k : Fin k0_t2_loop.trips, k0_off23 k = ![(4 + k.val) * 512, 0] := by decide +kernel
/-- Where the second loop finds the mirrored rows of what it adds to or writes. -/
theorem off24 : ∀ k : Fin k0_t2_loop.trips, k0_off24 k = ![(3 - k.val) * 512, 0] := by decide +kernel

/-- The decay rows of the trips. -/
theorem decF1_at (k : Fin k0_t1_loop.trips) (n : ℕ) (hn : n < 8) : rdD (decF1 (F := Ideal) arg3 (harg3.unread x2) k n) = dR (tokD x2) 0 (8 * k.val + n) := by
  have hk : k.val < 4 := k.isLt
  match n, hn with
  | 0, _ | 1, _ | 2, _ | 3, _ | 4, _ | 5, _ | 6, _ | 7, _ => exact loadD arg3 harg3 x2 _ _ _ 0 (off6 k ⟨_, ‹_›⟩) (by omega)
/-- The decay rows of the trips. -/
theorem decB1_at (k : Fin k0_t1_loop.trips) (n : ℕ) (hn : n < 8) : rdD (decB1 (F := Ideal) arg3 (harg3.unread x2) k n) = dR (tokD x2) 1 (8 * (7 - k.val) + n) := by
  have hk : k.val < 4 := k.isLt
  match n, hn with
  | 0, _ | 1, _ | 2, _ | 3, _ | 4, _ | 5, _ | 6, _ | 7, _ => exact loadD arg3 harg3 x2 _ _ _ 1 (off10 k ⟨_, ‹_›⟩) (by omega)
/-- The decay rows of the trips. -/
theorem decF2_at (k : Fin k0_t2_loop.trips) (n : ℕ) (hn : n < 8) : rdD (decF2 (F := Ideal) arg3 (harg3.unread x2) k n) = dR (tokD x2) 0 (8 * (4 + k.val) + n) := by
  have hk : k.val < 4 := k.isLt
  match n, hn with
  | 0, _ | 1, _ | 2, _ | 3, _ | 4, _ | 5, _ | 6, _ | 7, _ => exact loadD arg3 harg3 x2 _ _ _ 0 (off18 k ⟨_, ‹_›⟩) (by omega)
/-- The decay rows of the trips. -/
theorem decB2_at (k : Fin k0_t2_loop.trips) (n : ℕ) (hn : n < 8) : rdD (decB2 (F := Ideal) arg3 (harg3.unread x2) k n) = dR (tokD x2) 1 (8 * (3 - k.val) + n) := by
  have hk : k.val < 4 := k.isLt
  match n, hn with
  | 0, _ | 1, _ | 2, _ | 3, _ | 4, _ | 5, _ | 6, _ | 7, _ => exact loadD arg3 harg3 x2 _ _ _ 1 (off22 k ⟨_, ‹_›⟩) (by omega)

end Cert.Proof.Gla

end
-- ==== Proof.Gla.Trips.lean ====
module

public import proofs.«01_k».proof.Proof.Gla.Sup
public import proofs.«01_k».proof.Proof.Gla.Run

@[expose] public section

set_option maxRecDepth 16384

noncomputable section

namespace Cert.Proof.Gla

open Cert.KernelIdeal Cert.KernelIdeal.Gen
open Idealize.ShloMosaic Idealize.ShloMosaic.TcCoe

/-- A superchunk's forward result at an entry. -/
theorem superF_at (mkk : FVec Ideal S256x256 .bf16) (hm : IsMkk mkk) (mkv : FVec Ideal S256x512 .bf16) (hv : IsMkv mkv)
    (cml cmu : FVec Ideal S64x256 .f32) (hl : IsMsk (fun l m => m ≤ l) cml) (hu : IsMsk (fun l m => l ≤ m) cmu)
    (q k qo ko : Vec Ideal S1x512x256 .bf16) (v : Vec Ideal S1x512x512 .bf16) (D : ℕ → Vec Ideal S1x1x256 .f32) (st : FVec Ideal S256x256 .f32)
    (x : Fin 4096 → Fin 1024 → EReal) (w : Fin 4096 → Fin 512 → EReal) (d : Fin 64 → Fin 512 → EReal) (s : ℕ)
    (hq : ∀ n < 8, rd (rowsK (F := Ideal) q n) = gqR x 0 (8 * s + n)) (hk : ∀ n < 8, rd (rowsK (F := Ideal) k n) = gqR x 1 (8 * s + n))
    (hqo : ∀ n < 8, rd (rowsK (F := Ideal) qo n) = gqR x 2 (8 * s + n)) (hko : ∀ n < 8, rd (rowsK (F := Ideal) ko n) = gqR x 3 (8 * s + n))
    (hw : ∀ n < 8, rd (rowsV (F := Ideal) v n) = vR w (8 * s + n)) (hD : ∀ n < 8, rdD (D n) = dR d 0 (8 * s + n))
    (hs : IsSt st (SF x w d (8 * s))) (n : Fin 8) (l : Fin 64) (h : Fin 4) (e : Fin 128) :
    superF (F := Ideal) mkk mkv cml cmu q k qo ko v D st (ix2 (⟨n.val * 64 + l.val, by omega⟩ : Fin 512) (vl h e)) = newF x w d (8 * s + n.val) l h e := by
  unfold superF
  rw [gather_at]
  have e1 := interV_at mkk hm (rowsK (F := Ideal) q n.val) _ _ (stV_isSt mkk hm (rowsK (F := Ideal) k) (rowsV (F := Ideal) v) D _ _ _ (8 * s) hk hw hD st hs n.val (by omega)) l h e
  have e2 := intraV_at mkk hm mkv hv _ _ cml cmu hl hu (rowsK (F := Ideal) q n.val) (rowsK (F := Ideal) k n.val) (rowsK (F := Ideal) qo n.val) (rowsK (F := Ideal) ko n.val) (rowsV (F := Ideal) v n.val) l h e
  rw [hq _ n.isLt] at e1
  rw [hq _ n.isLt, hk _ n.isLt, hqo _ n.isLt, hko _ n.isLt, hw _ n.isLt] at e2
  exact congrArg₂ (· + ·) e1 e2

/-- The backward state after `n` of a superchunk's chunks, taken from its last. -/
theorem stB_isSt (mkk : FVec Ideal S256x256 .bf16) (hm : IsMkk mkk) (k : Vec Ideal S1x512x256 .bf16) (v : Vec Ideal S1x512x512 .bf16) (D : ℕ → Vec Ideal S1x1x256 .f32) (st : FVec Ideal S256x256 .f32)
    (x : Fin 4096 → Fin 1024 → EReal) (w : Fin 4096 → Fin 512 → EReal) (d : Fin 64 → Fin 512 → EReal) (s : ℕ) (hs8 : s < 8)
    (hk : ∀ n < 8, rd (rowsK (F := Ideal) k n) = gqR x 3 (8 * s + n)) (hw : ∀ n < 8, rd (rowsV (F := Ideal) v n) = vR w (8 * s + n)) (hD : ∀ n < 8, rdD (D n) = dR d 1 (8 * s + n))
    (hs : IsSt st (SB x w d (8 * (7 - s)))) (n : ℕ) (hn : n ≤ 8) : IsSt (stB (F := Ideal) mkk k v D st n) (SB x w d (8 * (7 - s) + n)) := by
  have a : ∀ n < 8, 8 * s + (7 - n) = 63 - (8 * (7 - s) + n) := fun n hn => by omega
  refine stV_isSt mkk hm _ _ _ _ _ _ (8 * (7 - s)) (fun n hn => ?_) (fun n hn => ?_) (fun n hn => ?_) st hs n hn
  · rw [hk _ (by omega), a n hn]
  · rw [hw _ (by omega), a n hn]
  · rw [hD _ (by omega), a n hn]

/-- A superchunk's backward result at an entry. -/
theorem superB_at (mkk : FVec Ideal S256x256 .bf16) (hm : IsMkk mkk) (q k : Vec Ideal S1x512x256 .bf16) (v : Vec Ideal S1x512x512 .bf16) (D : ℕ → Vec Ideal S1x1x256 .f32) (st : FVec Ideal S256x256 .f32)
    (x : Fin 4096 → Fin 1024 → EReal) (w : Fin 4096 → Fin 512 → EReal) (d : Fin 64 → Fin 512 → EReal) (s : ℕ) (hs8 : s < 8)
    (hq : ∀ n < 8, rd (rowsK (F := Ideal) q n) = gqR x 2 (8 * s + n))
    (hk : ∀ n < 8, rd (rowsK (F := Ideal) k n) = gqR x 3 (8 * s + n)) (hw : ∀ n < 8, rd (rowsV (F := Ideal) v n) = vR w (8 * s + n)) (hD : ∀ n < 8, rdD (D n) = dR d 1 (8 * s + n))
    (hs : IsSt st (SB x w d (8 * (7 - s)))) (n : Fin 8) (l : Fin 64) (h : Fin 4) (e : Fin 128) :
    superB (F := Ideal) mkk q k v D st (ix2 (⟨n.val * 64 + l.val, by omega⟩ : Fin 512) (vl h e)) = newB x w d (8 * s + n.val) l h e := by
  unfold superB
  rw [gather_at]
  have e1 := interV_at mkk hm (rowsK (F := Ideal) q n.val) _ _ (stB_isSt mkk hm k v D st x w d s hs8 hk hw hD hs (7 - n.val) (by omega)) l h e
  rw [hq _ n.isLt, show 8 * (7 - s) + (7 - n.val) = 63 - (8 * s + n.val) by omega] at e1
  exact e1

/-- A reshape to the same shape changes no entry. -/
theorem same512 (X : FVec Ideal S512x512 .f32) (r c : Fin 512) : shapeCast S512x512 X shapeCasts_S512x512_S512x512 (ix2 r c) = X (ix2 r c) := by pointwise
/-- A reshape to the same shape changes no entry. -/
theorem same256 (X : FVec Ideal S256x256 .f32) (r c : Fin 256) : shapeCast S256x256 X shapeCasts_S256x256_S256x256 (ix2 r c) = X (ix2 r c) := by pointwise

variable (c : Dev nD) (i : grid0.Coords) (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole) (arg4 : Memref sig .tc .vmem S1x128 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S256x256 .f32) (harg11 : arg11.IsWhole) (arg12 : Memref sig .tc .vmem S256x256 .f32) (harg12 : arg12.IsWhole)
variable (x0 : Vec Ideal S1x4096x1024 .bf16) (x1 : Vec Ideal S1x4096x512 .bf16) (x2 : Vec Ideal S1x64x512 .f32) (x3 : Vec Ideal S1x128 .f32) (x4 : Vec Ideal S64x256 .f32) (x5 : Vec Ideal S64x256 .f32) (x6 : Vec Ideal S256x256 .bf16) (x7 : Vec Ideal S256x512 .bf16)
variable (hl : IsMsk (fun l m => m ≤ l) x4) (hu : IsMsk (fun l m => l ≤ m) x5) (hm : IsMkk x6) (hv : IsMkv x7)

include hl hu hm hv in
/-- A trip of the first loop: from the states before its superchunks, the new forward and backward results and the states after them. -/
theorem step1 (k : Fin k0_t1_loop.trips) (f10 : BufTy.Contents (Elt Ideal) arg10.view.ty) (f11 : BufTy.Contents (Elt Ideal) arg11.view.ty) (f12 : BufTy.Contents (Elt Ideal) arg12.view.ty)
    (h11 : IsSt (View.readAt (Elt Ideal) arg11.view (Rect.unit (s := S256x256) ![0, 0] S256x256.size inb_S256x256_S256x256_0_0).toLoadRect f11) (SF (tok x0) (tokV x1) (tokD x2) (8 * k.val))) (h12 : IsSt (View.readAt (Elt Ideal) arg12.view (Rect.unit (s := S256x256) ![0, 0] S256x256.size inb_S256x256_S256x256_0_0).toLoadRect f12) (SB (tok x0) (tokV x1) (tokD x2) (8 * k.val))) :
    ∃ A B : FVec Ideal S512x512 .f32, ∃ C D : FVec Ideal S256x256 .f32,
      tripL_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) k f10 f11 f12
        = ([⟨Rect.unit (s := S4096x512) (k0_off12 k) S512x512.size (k0_off12_inb k), A⟩, ⟨Rect.unit (s := S4096x512) (k0_off11 k) S512x512.size (k0_off11_inb k), B⟩],
           [⟨(Rect.unit (s := S256x256) ![0, 0] S256x256.size inb_S256x256_S256x256_0_0), C⟩], [⟨(Rect.unit (s := S256x256) ![0, 0] S256x256.size inb_S256x256_S256x256_0_0), D⟩])
      ∧ (∀ (n : Fin 8) (l : Fin 64) (h : Fin 4) (e : Fin 128), A (ix2 (⟨n.val * 64 + l.val, by omega⟩ : Fin 512) (vl h e)) = newB (tok x0) (tokV x1) (tokD x2) (8 * (7 - k.val) + n.val) l h e)
      ∧ (∀ (n : Fin 8) (l : Fin 64) (h : Fin 4) (e : Fin 128), B (ix2 (⟨n.val * 64 + l.val, by omega⟩ : Fin 512) (vl h e)) = newF (tok x0) (tokV x1) (tokD x2) (8 * k.val + n.val) l h e)
      ∧ IsSt C (SF (tok x0) (tokV x1) (tokD x2) (8 * k.val + 8)) ∧ IsSt D (SB (tok x0) (tokV x1) (tokD x2) (8 * k.val + 8)) := by
  have hk : k.val < 4 := k.isLt
  have m5 := loadAll arg5 harg5 x4 inb_S64x256_S64x256_0_0
  have m6 := loadAll arg6 harg6 x5 inb_S64x256_S64x256_0_0
  have m7 := loadAll arg7 harg7 x6 inb_S256x256_S256x256_0_0
  have m8 := loadAll arg8 harg8 x7 inb_S256x512_S256x512_0_0
  have q1 := fun n hn => loadK arg1 harg1 x0 _ (k0_off1_inb k) k.val 0 (off1 k) (by omega) n hn
  have q2 := fun n hn => loadK arg1 harg1 x0 _ (k0_off2_inb k) k.val 1 (off2 k) (by omega) n hn
  have q4 := fun n hn => loadK arg1 harg1 x0 _ (k0_off4_inb k) k.val 2 (off4 k) (by omega) n hn
  have q5 := fun n hn => loadK arg1 harg1 x0 _ (k0_off5_inb k) k.val 3 (off5 k) (by omega) n hn
  have q3 := fun n hn => loadV arg2 harg2 x1 _ (k0_off3_inb k) k.val (off3 k) (by omega) n hn
  have q7 := fun n hn => loadK arg1 harg1 x0 _ (k0_off7_inb k) (7 - k.val) 2 (off7 k) (by omega) n hn
  have q8 := fun n hn => loadK arg1 harg1 x0 _ (k0_off8_inb k) (7 - k.val) 3 (off8 k) (by omega) n hn
  have q9 := fun n hn => loadV arg2 harg2 x1 _ (k0_off9_inb k) (7 - k.val) (off9 k) (by omega) n hn
  have dF := fun n hn => decF1_at arg3 harg3 x2 k n hn
  have dB := fun n hn => decB1_at arg3 harg3 x2 k n hn
  have h12' : IsSt (View.readAt (Elt Ideal) arg12.view (Rect.unit (s := S256x256) ![0, 0] S256x256.size inb_S256x256_S256x256_0_0).toLoadRect f12) (SB (tok x0) (tokV x1) (tokD x2) (8 * (7 - (7 - k.val)))) := by rw [show 7 - (7 - k.val) = k.val by omega]; exact h12
  have e := trip1_eq (F := Ideal) c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) k f10 f11 f12
  refine ⟨_, _, _, _, e, fun n l h e' => ?_, fun n l h e' => ?_, fun s e' h y => ?_, fun s e' h y => ?_⟩
  · refine (same512 _ _ _).trans ?_
    rw [m7]
    exact superB_at x6 hm _ _ _ _ _ _ _ _ (7 - k.val) (by omega) q7 q8 q9 dB h12' n l h e'
  · refine (same512 _ _ _).trans ?_
    rw [m5, m6, m7, m8]
    exact superF_at x6 hm x7 hv x4 x5 hl hu _ _ _ _ _ _ _ _ _ _ k.val q1 q2 q4 q5 q3 dF h11 n l h e'
  · refine (same256 _ _ _).trans ?_
    rw [m7]
    exact stV_isSt x6 hm _ _ _ _ _ _ (8 * k.val) q2 q3 dF _ h11 8 (le_refl _) s e' h y
  · refine (same256 _ _ _).trans ?_
    rw [m7]
    have r := stB_isSt x6 hm _ _ _ _ _ _ _ (7 - k.val) (by omega) q8 q9 dB h12' 8 (le_refl _) s e' h y
    rw [show 7 - (7 - k.val) = k.val by omega] at r
    exact r

include hl hu hm hv in
/-- A trip of the second loop: from the states and the accumulator, the finished results of two superchunks and the states after them. -/
theorem step2 (X10 : BufTy.Contents (Elt Ideal) arg10.view.ty) (k : Fin k0_t2_loop.trips) (f9 : BufTy.Contents (Elt Ideal) arg9.view.ty) (f11 : BufTy.Contents (Elt Ideal) arg11.view.ty) (f12 : BufTy.Contents (Elt Ideal) arg12.view.ty)
    (hF : ∀ (n : Fin 8) (l : Fin 64) (h : Fin 4) (e : Fin 128), (View.readAt (Elt Ideal) arg10.view (Rect.unit (s := S4096x512) (k0_off24 k) S512x512.size (k0_off24_inb k)).toLoadRect X10) (ix2 (⟨n.val * 64 + l.val, by omega⟩ : Fin 512) (vl h e)) = newF (tok x0) (tokV x1) (tokD x2) (8 * (3 - k.val) + n.val) l h e)
    (hB : ∀ (n : Fin 8) (l : Fin 64) (h : Fin 4) (e : Fin 128), (View.readAt (Elt Ideal) arg10.view (Rect.unit (s := S4096x512) (k0_off23 k) S512x512.size (k0_off23_inb k)).toLoadRect X10) (ix2 (⟨n.val * 64 + l.val, by omega⟩ : Fin 512) (vl h e)) = newB (tok x0) (tokV x1) (tokD x2) (8 * (4 + k.val) + n.val) l h e)
    (h11 : IsSt (View.readAt (Elt Ideal) arg11.view (Rect.unit (s := S256x256) ![0, 0] S256x256.size inb_S256x256_S256x256_0_0).toLoadRect f11) (SF (tok x0) (tokV x1) (tokD x2) (8 * (4 + k.val)))) (h12 : IsSt (View.readAt (Elt Ideal) arg12.view (Rect.unit (s := S256x256) ![0, 0] S256x256.size inb_S256x256_S256x256_0_0).toLoadRect f12) (SB (tok x0) (tokV x1) (tokD x2) (8 * (4 + k.val)))) :
    ∃ A B : FVec Ideal S1x512x512 .bf16, ∃ C D : FVec Ideal S256x256 .f32,
      tripL_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) X10 k f9 f11 f12
        = ([⟨Rect.unit (s := S1x4096x512) (k0_off21 k) S1x512x512.size (k0_off21_inb k), A⟩, ⟨Rect.unit (s := S1x4096x512) (k0_off15 k) S1x512x512.size (k0_off15_inb k), B⟩],
           [⟨(Rect.unit (s := S256x256) ![0, 0] S256x256.size inb_S256x256_S256x256_0_0), C⟩], [⟨(Rect.unit (s := S256x256) ![0, 0] S256x256.size inb_S256x256_S256x256_0_0), D⟩])
      ∧ (∀ (n : Fin 8) (l : Fin 64) (h : Fin 4) (e : Fin 128), A (ix3 0 (⟨n.val * 64 + l.val, by omega⟩ : Fin 512) (vl h e)) = outSpec (tok x0) (tokV x1) (tokD x2) (fun e' => (x3 : FVec Ideal S1x128 .f32) (ix2 0 e')) (8 * (3 - k.val) + n.val) l h e)
      ∧ (∀ (n : Fin 8) (l : Fin 64) (h : Fin 4) (e : Fin 128), B (ix3 0 (⟨n.val * 64 + l.val, by omega⟩ : Fin 512) (vl h e)) = outSpec (tok x0) (tokV x1) (tokD x2) (fun e' => (x3 : FVec Ideal S1x128 .f32) (ix2 0 e')) (8 * (4 + k.val) + n.val) l h e)
      ∧ IsSt C (SF (tok x0) (tokV x1) (tokD x2) (8 * (4 + k.val) + 8)) ∧ IsSt D (SB (tok x0) (tokV x1) (tokD x2) (8 * (4 + k.val) + 8)) := by
  have hk : k.val < 4 := k.isLt
  have m4 := loadAll arg4 harg4 x3 inb_S1x128_S1x128_0_0
  have m5 := loadAll arg5 harg5 x4 inb_S64x256_S64x256_0_0
  have m6 := loadAll arg6 harg6 x5 inb_S64x256_S64x256_0_0
  have m7 := loadAll arg7 harg7 x6 inb_S256x256_S256x256_0_0
  have m8 := loadAll arg8 harg8 x7 inb_S256x512_S256x512_0_0
  have q1 := fun n hn => loadK arg1 harg1 x0 _ (k0_off13_inb k) (4 + k.val) 0 (off13 k) (by omega) n hn
  have q2 := fun n hn => loadK arg1 harg1 x0 _ (k0_off14_inb k) (4 + k.val) 1 (off14 k) (by omega) n hn
  have q4 := fun n hn => loadK arg1 harg1 x0 _ (k0_off16_inb k) (4 + k.val) 2 (off16 k) (by omega) n hn
  have q5 := fun n hn => loadK arg1 harg1 x0 _ (k0_off17_inb k) (4 + k.val) 3 (off17 k) (by omega) n hn
  have q3 := fun n hn => loadV arg2 harg2 x1 _ (k0_off15_inb k) (4 + k.val) (off15 k) (by omega) n hn
  have q7 := fun n hn => loadK arg1 harg1 x0 _ (k0_off19_inb k) (3 - k.val) 2 (off19 k) (by omega) n hn
  have q8 := fun n hn => loadK arg1 harg1 x0 _ (k0_off20_inb k) (3 - k.val) 3 (off20 k) (by omega) n hn
  have q9 := fun n hn => loadV arg2 harg2 x1 _ (k0_off21_inb k) (3 - k.val) (off21 k) (by omega) n hn
  have dF := fun n hn => decF2_at arg3 harg3 x2 k n hn
  have dB := fun n hn => decB2_at arg3 harg3 x2 k n hn
  have h12' : IsSt (View.readAt (Elt Ideal) arg12.view (Rect.unit (s := S256x256) ![0, 0] S256x256.size inb_S256x256_S256x256_0_0).toLoadRect f12) (SB (tok x0) (tokV x1) (tokD x2) (8 * (7 - (3 - k.val)))) := by rw [show 7 - (3 - k.val) = 4 + k.val by omega]; exact h12
  have e := trip2_eq (F := Ideal) c i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) X10 k f9 f11 f12
  refine ⟨_, _, _, _, e, fun n l h e' => ?_, fun n l h e' => ?_, fun s e' h y => ?_, fun s e' h y => ?_⟩
  · refine (finish_at _ _ _ _ h e').trans ?_
    rw [m4, m7]
    unfold outSpec
    congr 1
    funext j
    rw [hF, superB_at x6 hm _ _ _ _ _ _ _ _ (3 - k.val) (by omega) q7 q8 q9 dB h12' n l h j]
  · refine (finish_at _ _ _ _ h e').trans ?_
    rw [m4, m5, m6, m7, m8]
    unfold outSpec
    congr 1
    funext j
    rw [hB, superF_at x6 hm x7 hv x4 x5 hl hu _ _ _ _ _ _ _ _ _ _ (4 + k.val) q1 q2 q4 q5 q3 dF h11 n l h j, add_comm]
  · refine (same256 _ _ _).trans ?_
    rw [m7]
    exact stV_isSt x6 hm _ _ _ _ _ _ (8 * (4 + k.val)) q2 q3 dF _ h11 8 (le_refl _) s e' h y
  · refine (same256 _ _ _).trans ?_
    rw [m7]
    have r := stB_isSt x6 hm _ _ _ _ _ _ _ (3 - k.val) (by omega) q8 q9 dB h12' 8 (le_refl _) s e' h y
    rw [show 7 - (3 - k.val) = 4 + k.val by omega] at r
    exact r

end Cert.Proof.Gla

end
-- ==== Proof.Gla.Inv.lean ====
module

public import proofs.«01_k».proof.Proof.Gla.Trips

@[expose] public section

set_option maxRecDepth 16384

noncomputable section

namespace Cert.Proof.Gla

open Cert.KernelIdeal Cert.KernelIdeal.Gen
open Idealize.ShloMosaic Idealize.ShloMosaic.TcCoe

/-- An entry under the last piece stored is that piece's. -/
theorem canon_hit {S : Shape} {t : EltTy} (off size : Fin S.rank → ℕ) (inb : ∀ a, off a + size a ≤ S.size a) (w : (⟨S.rank, size⟩ : Shape).Idx → Elt Ideal t) (L : List (View.Piece (Elt Ideal) S t))
    (y : S.Idx) (x : (⟨S.rank, size⟩ : Shape).Idx) (h : ∀ a, (y a).val = off a + (x a).val) :
    View.canon ((⟨Rect.unit off size inb, w⟩ : View.Piece (Elt Ideal) S t) :: L) y = w x := by
  obtain rfl : (Rect.unit off size inb).emb x = y := funext fun a => Fin.ext ((Rect.idx_unit_val off size inb x a).trans (h a).symm)
  exact View.canon_cons_emb (Rect.unit off size inb) w L x

/-- An entry outside the last piece stored is the earlier pieces'. -/
theorem canon_miss {S : Shape} {t : EltTy} (off size : Fin S.rank → ℕ) (inb : ∀ a, off a + size a ≤ S.size a) (w : (⟨S.rank, size⟩ : Shape).Idx → Elt Ideal t) (L : List (View.Piece (Elt Ideal) S t))
    (y : S.Idx) (a : Fin S.rank) (h : ¬ (off a ≤ (y a).val ∧ (y a).val < off a + size a)) :
    View.canon ((⟨Rect.unit off size inb, w⟩ : View.Piece (Elt Ideal) S t) :: L) y = View.canon L y :=
  View.canon_cons_of_not_mem _ L fun hy => h ((Rect.mem_set_unit (inb := inb)).mp hy a)

/-- A state buffer read after a store of the whole of it. -/
theorem read_top (arg : Memref sig .tc .vmem S256x256 .f32) (L M : List (View.Piece (Elt Ideal) S256x256 .f32)) (C : FVec Ideal S256x256 .f32) :
    View.readAt (Elt Ideal) arg.view (Rect.unit (s := S256x256) ![0, 0] S256x256.size inb_S256x256_S256x256_0_0).toLoadRect (arg.view.writes (Elt Ideal) (arg.view.writes (Elt Ideal) arg.view.junk M) ((⟨(Rect.unit (s := S256x256) ![0, 0] S256x256.size inb_S256x256_S256x256_0_0), C⟩ : View.Piece (Elt Ideal) S256x256 .f32) :: L)) = C := by
  have z : ∀ a, (![0, 0] : Fin 2 → ℕ) a = 0 := fun a => by match a with | 0 => rfl | 1 => rfl
  rw [← View.writes_append, List.cons_append, View.readAt_eq_ld, View.read_writes_junk_eq_canon]
  exact (View.ld_unit_lit (S := S256x256) inb_S256x256_S256x256_0_0 _ z).trans (View.canon_cons_unit_lit (S := S256x256) inb_S256x256_S256x256_0_0 C (L ++ M) z)

/-- A state buffer read before any store but the first: zero. -/
theorem read_zeroed (arg : Memref sig .tc .vmem S256x256 .f32) (S : Mat) (hS : S = fun _ _ _ => 0) :
    IsSt (View.readAt (Elt Ideal) arg.view (Rect.unit (s := S256x256) ![0, 0] S256x256.size inb_S256x256_S256x256_0_0).toLoadRect (arg.view.writes (Elt Ideal) arg.view.junk (zeroed (F := Ideal)))) S := by
  have z : ∀ a, (![0, 0] : Fin 2 → ℕ) a = 0 := fun a => by match a with | 0 => rfl | 1 => rfl
  rw [View.readAt_eq_ld, View.read_writes_junk_eq_canon]
  have e : View.ld (View.canon (zeroed (F := Ideal))) (Rect.unit (s := S256x256) ![0, 0] S256x256.size inb_S256x256_S256x256_0_0) = k0_pay1 (F := Ideal) :=
    (View.ld_unit_lit (S := S256x256) inb_S256x256_S256x256_0_0 _ z).trans (View.canon_cons_unit_lit (S := S256x256) inb_S256x256_S256x256_0_0 _ [] z)
  rw [e]
  intro s e h y
  subst hS
  have p : (k0_pay1 (F := Ideal)) (ix2 (hf s e) (ky h y)) = 0 := by pointwise [k0_pay1]
  rw [p]; split <;> rfl

/-- Row `l` of chunk `N`. -/
def row (N : Fin 64) (l : Fin 64) : Fin 4096 := ⟨N.val * 64 + l.val, by omega⟩

variable (c : Dev nD) (i : grid0.Coords) (arg1 : Memref sig .tc .vmem S1x4096x1024 .bf16) (harg1 : arg1.IsWhole) (arg2 : Memref sig .tc .vmem S1x4096x512 .bf16) (harg2 : arg2.IsWhole) (arg3 : Memref sig .tc .vmem S1x64x512 .f32) (harg3 : arg3.IsWhole) (arg4 : Memref sig .tc .vmem S1x128 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S256x256 .bf16) (harg7 : arg7.IsWhole) (arg8 : Memref sig .tc .vmem S256x512 .bf16) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S256x256 .f32) (harg11 : arg11.IsWhole) (arg12 : Memref sig .tc .vmem S256x256 .f32) (harg12 : arg12.IsWhole)
variable (x0 : Vec Ideal S1x4096x1024 .bf16) (x1 : Vec Ideal S1x4096x512 .bf16) (x2 : Vec Ideal S1x64x512 .f32) (x3 : Vec Ideal S1x128 .f32) (x4 : Vec Ideal S64x256 .f32) (x5 : Vec Ideal S64x256 .f32) (x6 : Vec Ideal S256x256 .bf16) (x7 : Vec Ideal S256x512 .bf16)
variable (hl : IsMsk (fun l m => m ≤ l) x4) (hu : IsMsk (fun l m => l ≤ m) x5) (hm : IsMkk x6) (hv : IsMkv x7)

include hl hu hm hv in
/-- Before trip `k` of the first loop: the states are those before chunk `8 k`, and the accumulator holds the new results of the
    superchunks taken so far from either end. -/
theorem inv1 (k : ℕ) (hk : k ≤ 4) :
    IsSt (View.readAt (Elt Ideal) arg11.view (Rect.unit (s := S256x256) ![0, 0] S256x256.size inb_S256x256_S256x256_0_0).toLoadRect (arg11.view.writes (Elt Ideal) (arg11.view.writes (Elt Ideal) arg11.view.junk (zeroed (F := Ideal))) (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.1)) (SF (tok x0) (tokV x1) (tokD x2) (8 * k)) ∧ IsSt (View.readAt (Elt Ideal) arg12.view (Rect.unit (s := S256x256) ![0, 0] S256x256.size inb_S256x256_S256x256_0_0).toLoadRect (arg12.view.writes (Elt Ideal) (arg12.view.writes (Elt Ideal) arg12.view.junk (zeroed (F := Ideal))) (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.2)) (SB (tok x0) (tokV x1) (tokD x2) (8 * k))
      ∧ ∀ (N l : Fin 64) (h : Fin 4) (e : Fin 128), (N.val < 8 * k → View.canon (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1 (ix2 (row N l) (vl h e)) = newF (tok x0) (tokV x1) (tokD x2) N.val l h e)
        ∧ (63 - N.val < 8 * k → View.canon (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1 (ix2 (row N l) (vl h e)) = newB (tok x0) (tokV x1) (tokD x2) N.val l h e) := by
  induction k with
  | zero => exact ⟨read_zeroed arg11 _ rfl, read_zeroed arg12 _ rfl, fun N l h e => ⟨fun hN => absurd hN (by omega), fun hN => absurd hN (by omega)⟩⟩
  | succ k ih =>
    obtain ⟨i11, i12, iy⟩ := ih (by omega)
    obtain ⟨A, B, C, D, e, hA, hB, hC, hD⟩ := step1 c i arg1 harg1 arg2 harg2 arg3 harg3 arg4 harg4 arg5 harg5 arg6 harg6 arg7 harg7 arg8 harg8 arg9 harg9 arg10 harg10 arg11 harg11 arg12 harg12 x0 x1 x2 x4 x5 x6 x7 hl hu hm hv ⟨k, hk⟩
      (arg10.view.writes (Elt Ideal) arg10.view.junk (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1) (arg11.view.writes (Elt Ideal) (arg11.view.writes (Elt Ideal) arg11.view.junk (zeroed (F := Ideal))) (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.1) (arg12.view.writes (Elt Ideal) (arg12.view.writes (Elt Ideal) arg12.view.junk (zeroed (F := Ideal))) (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.2) i11 i12
    have s := pb_k0_t1_succ (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5) (harg7.unread x6) (harg8.unread x7) arg10.view.junk (arg11.view.writes (Elt Ideal) arg11.view.junk (zeroed (F := Ideal))) (arg12.view.writes (Elt Ideal) arg12.view.junk (zeroed (F := Ideal))) ⟨k, hk⟩
    have e' : half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 (k + 1) = (⟨Rect.unit (s := S4096x512) (k0_off12 ⟨k, hk⟩) S512x512.size (k0_off12_inb ⟨k, hk⟩), A⟩ :: ⟨Rect.unit (s := S4096x512) (k0_off11 ⟨k, hk⟩) S512x512.size (k0_off11_inb ⟨k, hk⟩), B⟩ :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1,
        ⟨(Rect.unit (s := S256x256) ![0, 0] S256x256.size inb_S256x256_S256x256_0_0), C⟩ :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.1, ⟨(Rect.unit (s := S256x256) ![0, 0] S256x256.size inb_S256x256_S256x256_0_0), D⟩ :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).2.2) := by
      refine s.trans ?_
      erw [e]
      rfl
    rw [e']
    refine ⟨?_, ?_, fun N l h e => ?_⟩
    · rw [read_top]; exact hC
    · rw [read_top]; exact hD
    · have o11 := off11 ⟨k, hk⟩
      have o12 := off12 ⟨k, hk⟩
      have r0 : ((ix2 (row N l) (vl h e) : S4096x512.Idx) 0).val = N.val * 64 + l.val := rfl
      have hitA : 8 * (7 - k) ≤ N.val → N.val < 8 * (7 - k) + 8 → View.canon ((⟨Rect.unit (s := S4096x512) (k0_off12 ⟨k, hk⟩) S512x512.size (k0_off12_inb ⟨k, hk⟩), A⟩ : View.Piece (Elt Ideal) S4096x512 .f32) :: ⟨Rect.unit (s := S4096x512) (k0_off11 ⟨k, hk⟩) S512x512.size (k0_off11_inb ⟨k, hk⟩), B⟩ :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1) (ix2 (row N l) (vl h e)) = newB (tok x0) (tokV x1) (tokD x2) N.val l h e := by
        intro h1 h2
        refine (canon_hit (S := S4096x512) (t := .f32) (k0_off12 ⟨k, hk⟩) S512x512.size (k0_off12_inb ⟨k, hk⟩) A _ _ (ix2 (⟨(N.val - 8 * (7 - k)) * 64 + l.val, by omega⟩ : Fin 512) (vl h e)) fun a => ?_).trans ?_
        · rw [o12]
          match a with
          | 0 => show N.val * 64 + l.val = (7 - k) * 512 + ((N.val - 8 * (7 - k)) * 64 + l.val); omega
          | 1 => show (vl h e).val = 0 + (vl h e).val; omega
        · refine (hA ⟨N.val - 8 * (7 - k), by omega⟩ l h e).trans ?_
          show newB (tok x0) (tokV x1) (tokD x2) (8 * (7 - k) + (N.val - 8 * (7 - k))) l h e = _
          rw [show 8 * (7 - k) + (N.val - 8 * (7 - k)) = N.val by omega]
      have missA : ¬ (8 * (7 - k) ≤ N.val ∧ N.val < 8 * (7 - k) + 8) → View.canon ((⟨Rect.unit (s := S4096x512) (k0_off12 ⟨k, hk⟩) S512x512.size (k0_off12_inb ⟨k, hk⟩), A⟩ : View.Piece (Elt Ideal) S4096x512 .f32) :: ⟨Rect.unit (s := S4096x512) (k0_off11 ⟨k, hk⟩) S512x512.size (k0_off11_inb ⟨k, hk⟩), B⟩ :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1) (ix2 (row N l) (vl h e))
          = View.canon ((⟨Rect.unit (s := S4096x512) (k0_off11 ⟨k, hk⟩) S512x512.size (k0_off11_inb ⟨k, hk⟩), B⟩ : View.Piece (Elt Ideal) S4096x512 .f32) :: (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 k).1) (ix2 (row N l) (vl h e)) := by
        intro hn
        refine canon_miss _ _ _ _ _ _ 0 ?_
        rw [o12, r0]
        show ¬ ((7 - k) * 512 ≤ N.val * 64 + l.val ∧ N.val * 64 + l.val < (7 - k) * 512 + 512)
        omega
      constructor
      · intro hN
        rw [missA (by omega)]
        by_cases h8 : 8 * k ≤ N.val
        · refine (canon_hit (S := S4096x512) (t := .f32) (k0_off11 ⟨k, hk⟩) S512x512.size (k0_off11_inb ⟨k, hk⟩) B _ _ (ix2 (⟨(N.val - 8 * k) * 64 + l.val, by omega⟩ : Fin 512) (vl h e)) fun a => ?_).trans ?_
          · rw [o11]
            match a with
            | 0 => show N.val * 64 + l.val = k * 512 + ((N.val - 8 * k) * 64 + l.val); omega
            | 1 => show (vl h e).val = 0 + (vl h e).val; omega
          · refine (hB ⟨N.val - 8 * k, by omega⟩ l h e).trans ?_
            show newF (tok x0) (tokV x1) (tokD x2) (8 * k + (N.val - 8 * k)) l h e = _
            rw [show 8 * k + (N.val - 8 * k) = N.val by omega]
        · refine (canon_miss _ _ _ _ _ _ 0 ?_).trans ((iy N l h e).1 (by omega))
          rw [o11, r0]
          show ¬ (k * 512 ≤ N.val * 64 + l.val ∧ N.val * 64 + l.val < k * 512 + 512)
          omega
      · intro hN
        by_cases h8 : N.val < 8 * (7 - k) + 8
        · exact hitA (by omega) h8
        · rw [missA (by omega)]
          refine (canon_miss _ _ _ _ _ _ 0 ?_).trans ((iy N l h e).2 (by omega))
          rw [o11, r0]
          show ¬ (k * 512 ≤ N.val * 64 + l.val ∧ N.val * 64 + l.val < k * 512 + 512)
          omega

/-- A load of the accumulator, at an entry. -/
theorem acc_at (arg : Memref sig .tc .vmem S4096x512 .f32) (L : List (View.Piece (Elt Ideal) S4096x512 .f32)) (off : Fin 2 → ℕ) (inb : ∀ a, off a + S512x512.size a ≤ S4096x512.size a)
    (r : Fin 512) (y : Fin 512) (R : Fin 4096) (h0 : R.val = off 0 + r.val) (h1 : off 1 = 0) :
    View.readAt (Elt Ideal) arg.view (Rect.unit (s := S4096x512) off S512x512.size inb).toLoadRect (arg.view.writes (Elt Ideal) arg.view.junk L) (ix2 r y) = View.canon L (ix2 R y) := by
  rw [View.readAt_eq_ld, View.read_writes_junk_eq_canon]
  refine View.ld_unit_apply_of (View.canon L) off S512x512.size inb (ix2 r y) (ix2 R y) fun a => ?_
  match a with
  | 0 => exact h0
  | 1 => show y.val = off 1 + y.val; omega

include hl hu hm hv in
/-- Before trip `k` of the second loop: the states are those before chunk `32 + 8 k`, and the output holds the finished rows of the
    superchunks taken so far, from the middle to either side. -/
theorem inv2 (k : ℕ) (hk : k ≤ 4) :
    IsSt (View.readAt (Elt Ideal) arg11.view (Rect.unit (s := S256x256) ![0, 0] S256x256.size inb_S256x256_S256x256_0_0).toLoadRect (arg11.view.writes (Elt Ideal) (arg11.view.writes (Elt Ideal) arg11.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.1 ++ zeroed (F := Ideal))) (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.1)) (SF (tok x0) (tokV x1) (tokD x2) (8 * (4 + k))) ∧ IsSt (View.readAt (Elt Ideal) arg12.view (Rect.unit (s := S256x256) ![0, 0] S256x256.size inb_S256x256_S256x256_0_0).toLoadRect (arg12.view.writes (Elt Ideal) (arg12.view.writes (Elt Ideal) arg12.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.2 ++ zeroed (F := Ideal))) (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.2)) (SB (tok x0) (tokV x1) (tokD x2) (8 * (4 + k)))
      ∧ ∀ (N l : Fin 64) (h : Fin 4) (e : Fin 128), (32 - 8 * k ≤ N.val → N.val < 32 + 8 * k → View.canon (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).1 (ix3 (0 : Fin 1) (row N l) (vl h e)) = outSpec (tok x0) (tokV x1) (tokD x2) (fun e' => (x3 : FVec Ideal S1x128 .f32) (ix2 0 e')) N.val l h e) := by
  have j := inv1 c i arg1 harg1 arg2 harg2 arg3 harg3 arg4 harg4 arg5 harg5 arg6 harg6 arg7 harg7 arg8 harg8 arg9 harg9 arg10 harg10 arg11 harg11 arg12 harg12 x0 x1 x2 x4 x5 x6 x7 hl hu hm hv 4 (by omega)
  induction k with
  | zero =>
    refine ⟨?_, ?_, fun N l h e h1 h2 => absurd h2 (by omega)⟩
    · have j1 := j.1
      rw [← View.writes_append] at j1
      exact j1
    · have j2 := j.2.1
      rw [← View.writes_append] at j2
      exact j2
  | succ k ih =>
    obtain ⟨i11, i12, iy⟩ := ih (by omega)
    have hF : ∀ (n : Fin 8) (l : Fin 64) (h : Fin 4) (e : Fin 128), View.readAt (Elt Ideal) arg10.view (Rect.unit (s := S4096x512) (k0_off24 ⟨k, hk⟩) S512x512.size (k0_off24_inb ⟨k, hk⟩)).toLoadRect (arg10.view.writes (Elt Ideal) arg10.view.junk (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).1) (ix2 (⟨n.val * 64 + l.val, by omega⟩ : Fin 512) (vl h e)) = newF (tok x0) (tokV x1) (tokD x2) (8 * (3 - k) + n.val) l h e := by
      intro n l h e
      have o := off24 ⟨k, hk⟩
      refine (acc_at arg10 _ _ (k0_off24_inb ⟨k, hk⟩) _ (vl h e) (row ⟨8 * (3 - k) + n.val, by omega⟩ l) ?_ ?_).trans ((j.2.2 ⟨8 * (3 - k) + n.val, by omega⟩ l h e).1 (by show 8 * (3 - k) + n.val < 8 * 4; omega))
      · rw [o]; show (8 * (3 - k) + n.val) * 64 + l.val = (3 - k) * 512 + (n.val * 64 + l.val); omega
      · rw [o]; rfl
    have hB : ∀ (n : Fin 8) (l : Fin 64) (h : Fin 4) (e : Fin 128), View.readAt (Elt Ideal) arg10.view (Rect.unit (s := S4096x512) (k0_off23 ⟨k, hk⟩) S512x512.size (k0_off23_inb ⟨k, hk⟩)).toLoadRect (arg10.view.writes (Elt Ideal) arg10.view.junk (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).1) (ix2 (⟨n.val * 64 + l.val, by omega⟩ : Fin 512) (vl h e)) = newB (tok x0) (tokV x1) (tokD x2) (8 * (4 + k) + n.val) l h e := by
      intro n l h e
      have o := off23 ⟨k, hk⟩
      refine (acc_at arg10 _ _ (k0_off23_inb ⟨k, hk⟩) _ (vl h e) (row ⟨8 * (4 + k) + n.val, by omega⟩ l) ?_ ?_).trans ((j.2.2 ⟨8 * (4 + k) + n.val, by omega⟩ l h e).2 (by show 63 - (8 * (4 + k) + n.val) < 8 * 4; omega))
      · rw [o]; show (8 * (4 + k) + n.val) * 64 + l.val = (4 + k) * 512 + (n.val * 64 + l.val); omega
      · rw [o]; rfl
    obtain ⟨A, B, C, D, e, hA, hB, hC, hD⟩ := step2 c i arg1 harg1 arg2 harg2 arg3 harg3 arg4 harg4 arg5 harg5 arg6 harg6 arg7 harg7 arg8 harg8 arg9 harg9 arg10 harg10 arg11 harg11 arg12 harg12 x0 x1 x2 x3 x4 x5 x6 x7 hl hu hm hv (arg10.view.writes (Elt Ideal) arg10.view.junk (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).1) ⟨k, hk⟩
      (arg9.view.writes (Elt Ideal) arg9.view.junk (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).1) (arg11.view.writes (Elt Ideal) (arg11.view.writes (Elt Ideal) arg11.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.1 ++ zeroed (F := Ideal))) (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.1) (arg12.view.writes (Elt Ideal) (arg12.view.writes (Elt Ideal) arg12.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.2 ++ zeroed (F := Ideal))) (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.2) hF hB i11 i12
    have s := pb_k0_t2_succ (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) (arg10.view.writes (Elt Ideal) arg10.view.junk (half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).1) arg9.view.junk (arg11.view.writes (Elt Ideal) arg11.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.1 ++ zeroed (F := Ideal))) (arg12.view.writes (Elt Ideal) arg12.view.junk ((half1 (F := Ideal) c i arg1 harg1 arg2 harg2 arg3 harg3 arg4 harg4 arg5 harg5 arg6 harg6 arg7 harg7 arg8 harg8 arg9 harg9 arg10 harg10 arg11 harg11 arg12 harg12 x0 x1 x2 x4 x5 x6 x7 4).2.2 ++ zeroed (F := Ideal))) ⟨k, hk⟩
    have e' : half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (k + 1) = (⟨Rect.unit (s := S1x4096x512) (k0_off21 ⟨k, hk⟩) S1x512x512.size (k0_off21_inb ⟨k, hk⟩), A⟩ :: ⟨Rect.unit (s := S1x4096x512) (k0_off15 ⟨k, hk⟩) S1x512x512.size (k0_off15_inb ⟨k, hk⟩), B⟩ :: (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).1,
        ⟨(Rect.unit (s := S256x256) ![0, 0] S256x256.size inb_S256x256_S256x256_0_0), C⟩ :: (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.1, ⟨(Rect.unit (s := S256x256) ![0, 0] S256x256.size inb_S256x256_S256x256_0_0), D⟩ :: (half2 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 k).2.2) := by
      refine s.trans ?_
      erw [e]
      rfl
    rw [e']
    refine ⟨?_, ?_, fun N l h e h1 h2 => ?_⟩
    · rw [read_top]; exact hC
    · rw [read_top]; exact hD
    · have o15 := off15 ⟨k, hk⟩
      have o21 := off21 ⟨k, hk⟩
      have r0 : ((ix3 (0 : Fin 1) (row N l) (vl h e) : S1x4096x512.Idx) 1).val = N.val * 64 + l.val := rfl
      by_cases a1 : 8 * (3 - k) ≤ N.val ∧ N.val < 8 * (3 - k) + 8
      · refine (canon_hit (S := S1x4096x512) (t := .bf16) (k0_off21 ⟨k, hk⟩) S1x512x512.size (k0_off21_inb ⟨k, hk⟩) A _ _ (ix3 (0 : Fin 1) (⟨(N.val - 8 * (3 - k)) * 64 + l.val, by omega⟩ : Fin 512) (vl h e)) fun a => ?_).trans ?_
        · rw [o21]
          match a with
          | 0 => rfl
          | 1 => show N.val * 64 + l.val = (3 - k) * 512 + ((N.val - 8 * (3 - k)) * 64 + l.val); omega
          | 2 => show (vl h e).val = 0 + (vl h e).val; omega
        · refine (hA ⟨N.val - 8 * (3 - k), by omega⟩ l h e).trans ?_
          show outSpec (tok x0) (tokV x1) (tokD x2) (fun e' => (x3 : FVec Ideal S1x128 .f32) (ix2 0 e')) (8 * (3 - k) + (N.val - 8 * (3 - k))) l h e = _
          rw [show 8 * (3 - k) + (N.val - 8 * (3 - k)) = N.val by omega]
      · refine (canon_miss (S := S1x4096x512) _ _ _ _ _ _ 1 ?_).trans ?_
        · rw [o21, r0]
          show ¬ ((3 - k) * 512 ≤ N.val * 64 + l.val ∧ N.val * 64 + l.val < (3 - k) * 512 + 512)
          omega
        · by_cases a2 : 8 * (4 + k) ≤ N.val ∧ N.val < 8 * (4 + k) + 8
          · refine (canon_hit (S := S1x4096x512) (t := .bf16) (k0_off15 ⟨k, hk⟩) S1x512x512.size (k0_off15_inb ⟨k, hk⟩) B _ _ (ix3 (0 : Fin 1) (⟨(N.val - 8 * (4 + k)) * 64 + l.val, by omega⟩ : Fin 512) (vl h e)) fun a => ?_).trans ?_
            · rw [o15]
              match a with
              | 0 => rfl
              | 1 => show N.val * 64 + l.val = (4 + k) * 512 + ((N.val - 8 * (4 + k)) * 64 + l.val); omega
              | 2 => show (vl h e).val = 0 + (vl h e).val; omega
            · refine (hB ⟨N.val - 8 * (4 + k), by omega⟩ l h e).trans ?_
              show outSpec (tok x0) (tokV x1) (tokD x2) (fun e' => (x3 : FVec Ideal S1x128 .f32) (ix2 0 e')) (8 * (4 + k) + (N.val - 8 * (4 + k))) l h e = _
              rw [show 8 * (4 + k) + (N.val - 8 * (4 + k)) = N.val by omega]
          · refine (canon_miss (S := S1x4096x512) _ _ _ _ _ _ 1 ?_).trans (iy N l h e (by omega) (by omega))
            rw [o15, r0]
            show ¬ ((4 + k) * 512 ≤ N.val * 64 + l.val ∧ N.val * 64 + l.val < (4 + k) * 512 + 512)
            omega

include hl hu hm hv in
/-- What the body leaves in the output, at an entry. -/
theorem L9_at (N l : Fin 64) (h : Fin 4) (e : Fin 128) :
    View.canon (L9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7) (ix3 (0 : Fin 1) (row N l) (vl h e)) = outSpec (tok x0) (tokV x1) (tokD x2) (fun e' => (x3 : FVec Ideal S1x128 .f32) (ix2 0 e')) N.val l h e :=
  (inv2 c i arg1 harg1 arg2 harg2 arg3 harg3 arg4 harg4 arg5 harg5 arg6 harg6 arg7 harg7 arg8 harg8 arg9 harg9 arg10 harg10 arg11 harg11 arg12 harg12 x0 x1 x2 x3 x4 x5 x6 x7 hl hu hm hv 4 (by omega)).2.2 N l h e (by omega) (by have := N.isLt; omega)

end Cert.Proof.Gla

end
-- ==== Proof.Gla.Masks0.lean ====
module

public import proofs.«01_k».proof.KernelIdeal

@[expose] public section

set_option maxRecDepth 100000

namespace Cert.Proof.Gla.Masks

open Cert.KernelIdeal

/-- Rows 0 to 15 of the mask over stacked keys. -/
theorem keys_0 : ∀ a : Fin 16, ∀ b : Fin 256, lit2t (0 + 256 * a.val + b.val) = if (0 + a.val) / 64 = b.val / 64 then 0x3F80#16 else 0#16 := by
  decide +kernel

/-- Rows 128 to 143 of the mask over stacked keys. -/
theorem keys_8 : ∀ a : Fin 16, ∀ b : Fin 256, lit2t (32768 + 256 * a.val + b.val) = if (128 + a.val) / 64 = b.val / 64 then 0x3F80#16 else 0#16 := by
  decide +kernel

/-- Rows 0 to 7 of the mask over stacked values. -/
theorem values_0 : ∀ a : Fin 8, ∀ b : Fin 512, lit3t (0 + 512 * a.val + b.val) = if (0 + a.val) / 64 = b.val / 128 then 0x3F80#16 else 0#16 := by
  decide +kernel

/-- Rows 64 to 71 of the mask over stacked values. -/
theorem values_8 : ∀ a : Fin 8, ∀ b : Fin 512, lit3t (32768 + 512 * a.val + b.val) = if (64 + a.val) / 64 = b.val / 128 then 0x3F80#16 else 0#16 := by
  decide +kernel

/-- Rows 128 to 135 of the mask over stacked values. -/
theorem values_16 : ∀ a : Fin 8, ∀ b : Fin 512, lit3t (65536 + 512 * a.val + b.val) = if (128 + a.val) / 64 = b.val / 128 then 0x3F80#16 else 0#16 := by
  decide +kernel

/-- Rows 192 to 199 of the mask over stacked values. -/
theorem values_24 : ∀ a : Fin 8, ∀ b : Fin 512, lit3t (98304 + 512 * a.val + b.val) = if (192 + a.val) / 64 = b.val / 128 then 0x3F80#16 else 0#16 := by
  decide +kernel

/-- Rows 0 to 15 of the mask over the scores of the forward direction. -/
theorem lower_0 : ∀ a : Fin 16, ∀ b : Fin 256, lit0t (0 + 256 * a.val + b.val) = if b.val % 64 ≤ 0 + a.val then 0x3F800000#32 else 0#32 := by
  decide +kernel

end Cert.Proof.Gla.Masks
-- ==== Proof.Gla.Masks4.lean ====
module

public import proofs.«01_k».proof.Proof.Gla.Masks0

@[expose] public section

set_option maxRecDepth 100000

namespace Cert.Proof.Gla.Masks

open Cert.KernelIdeal

/-- Rows 64 to 79 of the mask over stacked keys. -/
theorem keys_4 : ∀ a : Fin 16, ∀ b : Fin 256, lit2t (16384 + 256 * a.val + b.val) = if (64 + a.val) / 64 = b.val / 64 then 0x3F80#16 else 0#16 := by
  decide +kernel

/-- Rows 192 to 207 of the mask over stacked keys. -/
theorem keys_12 : ∀ a : Fin 16, ∀ b : Fin 256, lit2t (49152 + 256 * a.val + b.val) = if (192 + a.val) / 64 = b.val / 64 then 0x3F80#16 else 0#16 := by
  decide +kernel

/-- Rows 32 to 39 of the mask over stacked values. -/
theorem values_4 : ∀ a : Fin 8, ∀ b : Fin 512, lit3t (16384 + 512 * a.val + b.val) = if (32 + a.val) / 64 = b.val / 128 then 0x3F80#16 else 0#16 := by
  decide +kernel

/-- Rows 96 to 103 of the mask over stacked values. -/
theorem values_12 : ∀ a : Fin 8, ∀ b : Fin 512, lit3t (49152 + 512 * a.val + b.val) = if (96 + a.val) / 64 = b.val / 128 then 0x3F80#16 else 0#16 := by
  decide +kernel

/-- Rows 160 to 167 of the mask over stacked values. -/
theorem values_20 : ∀ a : Fin 8, ∀ b : Fin 512, lit3t (81920 + 512 * a.val + b.val) = if (160 + a.val) / 64 = b.val / 128 then 0x3F80#16 else 0#16 := by
  decide +kernel

/-- Rows 224 to 231 of the mask over stacked values. -/
theorem values_28 : ∀ a : Fin 8, ∀ b : Fin 512, lit3t (114688 + 512 * a.val + b.val) = if (224 + a.val) / 64 = b.val / 128 then 0x3F80#16 else 0#16 := by
  decide +kernel

/-- Rows 0 to 15 of the mask over the scores of the backward direction. -/
theorem upper_0 : ∀ a : Fin 16, ∀ b : Fin 256, lit1t (0 + 256 * a.val + b.val) = if 0 + a.val ≤ b.val % 64 then 0x3F800000#32 else 0#32 := by
  decide +kernel

end Cert.Proof.Gla.Masks
-- ==== Proof.Gla.Masks1.lean ====
module

public import proofs.«01_k».proof.KernelIdeal

@[expose] public section

set_option maxRecDepth 100000

namespace Cert.Proof.Gla.Masks

open Cert.KernelIdeal

/-- Rows 16 to 31 of the mask over stacked keys. -/
theorem keys_1 : ∀ a : Fin 16, ∀ b : Fin 256, lit2t (4096 + 256 * a.val + b.val) = if (16 + a.val) / 64 = b.val / 64 then 0x3F80#16 else 0#16 := by
  decide +kernel

/-- Rows 144 to 159 of the mask over stacked keys. -/
theorem keys_9 : ∀ a : Fin 16, ∀ b : Fin 256, lit2t (36864 + 256 * a.val + b.val) = if (144 + a.val) / 64 = b.val / 64 then 0x3F80#16 else 0#16 := by
  decide +kernel

/-- Rows 8 to 15 of the mask over stacked values. -/
theorem values_1 : ∀ a : Fin 8, ∀ b : Fin 512, lit3t (4096 + 512 * a.val + b.val) = if (8 + a.val) / 64 = b.val / 128 then 0x3F80#16 else 0#16 := by
  decide +kernel

/-- Rows 72 to 79 of the mask over stacked values. -/
theorem values_9 : ∀ a : Fin 8, ∀ b : Fin 512, lit3t (36864 + 512 * a.val + b.val) = if (72 + a.val) / 64 = b.val / 128 then 0x3F80#16 else 0#16 := by
  decide +kernel

/-- Rows 136 to 143 of the mask over stacked values. -/
theorem values_17 : ∀ a : Fin 8, ∀ b : Fin 512, lit3t (69632 + 512 * a.val + b.val) = if (136 + a.val) / 64 = b.val / 128 then 0x3F80#16 else 0#16 := by
  decide +kernel

/-- Rows 200 to 207 of the mask over stacked values. -/
theorem values_25 : ∀ a : Fin 8, ∀ b : Fin 512, lit3t (102400 + 512 * a.val + b.val) = if (200 + a.val) / 64 = b.val / 128 then 0x3F80#16 else 0#16 := by
  decide +kernel

/-- Rows 16 to 31 of the mask over the scores of the forward direction. -/
theorem lower_1 : ∀ a : Fin 16, ∀ b : Fin 256, lit0t (4096 + 256 * a.val + b.val) = if b.val % 64 ≤ 16 + a.val then 0x3F800000#32 else 0#32 := by
  decide +kernel

end Cert.Proof.Gla.Masks
-- ==== Proof.Gla.Masks5.lean ====
module

public import proofs.«01_k».proof.Proof.Gla.Masks1

@[expose] public section

set_option maxRecDepth 100000

namespace Cert.Proof.Gla.Masks

open Cert.KernelIdeal

/-- Rows 80 to 95 of the mask over stacked keys. -/
theorem keys_5 : ∀ a : Fin 16, ∀ b : Fin 256, lit2t (20480 + 256 * a.val + b.val) = if (80 + a.val) / 64 = b.val / 64 then 0x3F80#16 else 0#16 := by
  decide +kernel

/-- Rows 208 to 223 of the mask over stacked keys. -/
theorem keys_13 : ∀ a : Fin 16, ∀ b : Fin 256, lit2t (53248 + 256 * a.val + b.val) = if (208 + a.val) / 64 = b.val / 64 then 0x3F80#16 else 0#16 := by
  decide +kernel

/-- Rows 40 to 47 of the mask over stacked values. -/
theorem values_5 : ∀ a : Fin 8, ∀ b : Fin 512, lit3t (20480 + 512 * a.val + b.val) = if (40 + a.val) / 64 = b.val / 128 then 0x3F80#16 else 0#16 := by
  decide +kernel

/-- Rows 104 to 111 of the mask over stacked values. -/
theorem values_13 : ∀ a : Fin 8, ∀ b : Fin 512, lit3t (53248 + 512 * a.val + b.val) = if (104 + a.val) / 64 = b.val / 128 then 0x3F80#16 else 0#16 := by
  decide +kernel

/-- Rows 168 to 175 of the mask over stacked values. -/
theorem values_21 : ∀ a : Fin 8, ∀ b : Fin 512, lit3t (86016 + 512 * a.val + b.val) = if (168 + a.val) / 64 = b.val / 128 then 0x3F80#16 else 0#16 := by
  decide +kernel

/-- Rows 232 to 239 of the mask over stacked values. -/
theorem values_29 : ∀ a : Fin 8, ∀ b : Fin 512, lit3t (118784 + 512 * a.val + b.val) = if (232 + a.val) / 64 = b.val / 128 then 0x3F80#16 else 0#16 := by
  decide +kernel

/-- Rows 16 to 31 of the mask over the scores of the backward direction. -/
theorem upper_1 : ∀ a : Fin 16, ∀ b : Fin 256, lit1t (4096 + 256 * a.val + b.val) = if 16 + a.val ≤ b.val % 64 then 0x3F800000#32 else 0#32 := by
  decide +kernel

end Cert.Proof.Gla.Masks
-- ==== Proof.Gla.Masks2.lean ====
module

public import proofs.«01_k».proof.KernelIdeal

@[expose] public section

set_option maxRecDepth 100000

namespace Cert.Proof.Gla.Masks

open Cert.KernelIdeal

/-- Rows 32 to 47 of the mask over stacked keys. -/
theorem keys_2 : ∀ a : Fin 16, ∀ b : Fin 256, lit2t (8192 + 256 * a.val + b.val) = if (32 + a.val) / 64 = b.val / 64 then 0x3F80#16 else 0#16 := by
  decide +kernel

/-- Rows 160 to 175 of the mask over stacked keys. -/
theorem keys_10 : ∀ a : Fin 16, ∀ b : Fin 256, lit2t (40960 + 256 * a.val + b.val) = if (160 + a.val) / 64 = b.val / 64 then 0x3F80#16 else 0#16 := by
  decide +kernel

/-- Rows 16 to 23 of the mask over stacked values. -/
theorem values_2 : ∀ a : Fin 8, ∀ b : Fin 512, lit3t (8192 + 512 * a.val + b.val) = if (16 + a.val) / 64 = b.val / 128 then 0x3F80#16 else 0#16 := by
  decide +kernel

/-- Rows 80 to 87 of the mask over stacked values. -/
theorem values_10 : ∀ a : Fin 8, ∀ b : Fin 512, lit3t (40960 + 512 * a.val + b.val) = if (80 + a.val) / 64 = b.val / 128 then 0x3F80#16 else 0#16 := by
  decide +kernel

/-- Rows 144 to 151 of the mask over stacked values. -/
theorem values_18 : ∀ a : Fin 8, ∀ b : Fin 512, lit3t (73728 + 512 * a.val + b.val) = if (144 + a.val) / 64 = b.val / 128 then 0x3F80#16 else 0#16 := by
  decide +kernel

/-- Rows 208 to 215 of the mask over stacked values. -/
theorem values_26 : ∀ a : Fin 8, ∀ b : Fin 512, lit3t (106496 + 512 * a.val + b.val) = if (208 + a.val) / 64 = b.val / 128 then 0x3F80#16 else 0#16 := by
  decide +kernel

/-- Rows 32 to 47 of the mask over the scores of the forward direction. -/
theorem lower_2 : ∀ a : Fin 16, ∀ b : Fin 256, lit0t (8192 + 256 * a.val + b.val) = if b.val % 64 ≤ 32 + a.val then 0x3F800000#32 else 0#32 := by
  decide +kernel

end Cert.Proof.Gla.Masks
-- ==== Proof.Gla.Masks6.lean ====
module

public import proofs.«01_k».proof.Proof.Gla.Masks2

@[expose] public section

set_option maxRecDepth 100000

namespace Cert.Proof.Gla.Masks

open Cert.KernelIdeal

/-- Rows 96 to 111 of the mask over stacked keys. -/
theorem keys_6 : ∀ a : Fin 16, ∀ b : Fin 256, lit2t (24576 + 256 * a.val + b.val) = if (96 + a.val) / 64 = b.val / 64 then 0x3F80#16 else 0#16 := by
  decide +kernel

/-- Rows 224 to 239 of the mask over stacked keys. -/
theorem keys_14 : ∀ a : Fin 16, ∀ b : Fin 256, lit2t (57344 + 256 * a.val + b.val) = if (224 + a.val) / 64 = b.val / 64 then 0x3F80#16 else 0#16 := by
  decide +kernel

/-- Rows 48 to 55 of the mask over stacked values. -/
theorem values_6 : ∀ a : Fin 8, ∀ b : Fin 512, lit3t (24576 + 512 * a.val + b.val) = if (48 + a.val) / 64 = b.val / 128 then 0x3F80#16 else 0#16 := by
  decide +kernel

/-- Rows 112 to 119 of the mask over stacked values. -/
theorem values_14 : ∀ a : Fin 8, ∀ b : Fin 512, lit3t (57344 + 512 * a.val + b.val) = if (112 + a.val) / 64 = b.val / 128 then 0x3F80#16 else 0#16 := by
  decide +kernel

/-- Rows 176 to 183 of the mask over stacked values. -/
theorem values_22 : ∀ a : Fin 8, ∀ b : Fin 512, lit3t (90112 + 512 * a.val + b.val) = if (176 + a.val) / 64 = b.val / 128 then 0x3F80#16 else 0#16 := by
  decide +kernel

/-- Rows 240 to 247 of the mask over stacked values. -/
theorem values_30 : ∀ a : Fin 8, ∀ b : Fin 512, lit3t (122880 + 512 * a.val + b.val) = if (240 + a.val) / 64 = b.val / 128 then 0x3F80#16 else 0#16 := by
  decide +kernel

/-- Rows 32 to 47 of the mask over the scores of the backward direction. -/
theorem upper_2 : ∀ a : Fin 16, ∀ b : Fin 256, lit1t (8192 + 256 * a.val + b.val) = if 32 + a.val ≤ b.val % 64 then 0x3F800000#32 else 0#32 := by
  decide +kernel

end Cert.Proof.Gla.Masks
-- ==== Proof.Gla.Masks3.lean ====
module

public import proofs.«01_k».proof.KernelIdeal

@[expose] public section

set_option maxRecDepth 100000

namespace Cert.Proof.Gla.Masks

open Cert.KernelIdeal

/-- Rows 48 to 63 of the mask over stacked keys. -/
theorem keys_3 : ∀ a : Fin 16, ∀ b : Fin 256, lit2t (12288 + 256 * a.val + b.val) = if (48 + a.val) / 64 = b.val / 64 then 0x3F80#16 else 0#16 := by
  decide +kernel

/-- Rows 176 to 191 of the mask over stacked keys. -/
theorem keys_11 : ∀ a : Fin 16, ∀ b : Fin 256, lit2t (45056 + 256 * a.val + b.val) = if (176 + a.val) / 64 = b.val / 64 then 0x3F80#16 else 0#16 := by
  decide +kernel

/-- Rows 24 to 31 of the mask over stacked values. -/
theorem values_3 : ∀ a : Fin 8, ∀ b : Fin 512, lit3t (12288 + 512 * a.val + b.val) = if (24 + a.val) / 64 = b.val / 128 then 0x3F80#16 else 0#16 := by
  decide +kernel

/-- Rows 88 to 95 of the mask over stacked values. -/
theorem values_11 : ∀ a : Fin 8, ∀ b : Fin 512, lit3t (45056 + 512 * a.val + b.val) = if (88 + a.val) / 64 = b.val / 128 then 0x3F80#16 else 0#16 := by
  decide +kernel

/-- Rows 152 to 159 of the mask over stacked values. -/
theorem values_19 : ∀ a : Fin 8, ∀ b : Fin 512, lit3t (77824 + 512 * a.val + b.val) = if (152 + a.val) / 64 = b.val / 128 then 0x3F80#16 else 0#16 := by
  decide +kernel

/-- Rows 216 to 223 of the mask over stacked values. -/
theorem values_27 : ∀ a : Fin 8, ∀ b : Fin 512, lit3t (110592 + 512 * a.val + b.val) = if (216 + a.val) / 64 = b.val / 128 then 0x3F80#16 else 0#16 := by
  decide +kernel

/-- Rows 48 to 63 of the mask over the scores of the forward direction. -/
theorem lower_3 : ∀ a : Fin 16, ∀ b : Fin 256, lit0t (12288 + 256 * a.val + b.val) = if b.val % 64 ≤ 48 + a.val then 0x3F800000#32 else 0#32 := by
  decide +kernel

end Cert.Proof.Gla.Masks
-- ==== Proof.Gla.Masks7.lean ====
module

public import proofs.«01_k».proof.Proof.Gla.Masks3

@[expose] public section

set_option maxRecDepth 100000

namespace Cert.Proof.Gla.Masks

open Cert.KernelIdeal

/-- Rows 112 to 127 of the mask over stacked keys. -/
theorem keys_7 : ∀ a : Fin 16, ∀ b : Fin 256, lit2t (28672 + 256 * a.val + b.val) = if (112 + a.val) / 64 = b.val / 64 then 0x3F80#16 else 0#16 := by
  decide +kernel

/-- Rows 240 to 255 of the mask over stacked keys. -/
theorem keys_15 : ∀ a : Fin 16, ∀ b : Fin 256, lit2t (61440 + 256 * a.val + b.val) = if (240 + a.val) / 64 = b.val / 64 then 0x3F80#16 else 0#16 := by
  decide +kernel

/-- Rows 56 to 63 of the mask over stacked values. -/
theorem values_7 : ∀ a : Fin 8, ∀ b : Fin 512, lit3t (28672 + 512 * a.val + b.val) = if (56 + a.val) / 64 = b.val / 128 then 0x3F80#16 else 0#16 := by
  decide +kernel

/-- Rows 120 to 127 of the mask over stacked values. -/
theorem values_15 : ∀ a : Fin 8, ∀ b : Fin 512, lit3t (61440 + 512 * a.val + b.val) = if (120 + a.val) / 64 = b.val / 128 then 0x3F80#16 else 0#16 := by
  decide +kernel

/-- Rows 184 to 191 of the mask over stacked values. -/
theorem values_23 : ∀ a : Fin 8, ∀ b : Fin 512, lit3t (94208 + 512 * a.val + b.val) = if (184 + a.val) / 64 = b.val / 128 then 0x3F80#16 else 0#16 := by
  decide +kernel

/-- Rows 248 to 255 of the mask over stacked values. -/
theorem values_31 : ∀ a : Fin 8, ∀ b : Fin 512, lit3t (126976 + 512 * a.val + b.val) = if (248 + a.val) / 64 = b.val / 128 then 0x3F80#16 else 0#16 := by
  decide +kernel

/-- Rows 48 to 63 of the mask over the scores of the backward direction. -/
theorem upper_3 : ∀ a : Fin 16, ∀ b : Fin 256, lit1t (12288 + 256 * a.val + b.val) = if 48 + a.val ≤ b.val % 64 then 0x3F800000#32 else 0#32 := by
  decide +kernel

end Cert.Proof.Gla.Masks
-- ==== Proof.Gla.Consts.lean ====
module

public import proofs.«01_k».proof.Proof.Gla.Masks4
public import proofs.«01_k».proof.Proof.Gla.Masks5
public import proofs.«01_k».proof.Proof.Gla.Masks6
public import proofs.«01_k».proof.Proof.Gla.Masks7
public import proofs.«01_k».proof.Proof.Gla.Spec

@[expose] public section

set_option maxRecDepth 16384

noncomputable section

namespace Cert.Proof.Gla.Masks

open Cert.KernelIdeal Cert.Proof.Gla
open Idealize.ShloMosaic Idealize.ShloMosaic.Tactic

/-- A table known on the rows `s` to `s + k` of width `w`, at one of those rows. -/
theorem glue {α : Type} (T : Nat → α) (P : Nat → Nat → α) (w s base : Nat) {k : Nat}
    (e : ∀ a : Fin k, ∀ b : Fin w, T (base + w * a.val + b.val) = P (s + a.val) b.val) (hb : base = w * s)
    (r : Nat) (h1 : s ≤ r) (h2 : r < s + k) (b : Fin w) : T (r * w + b.val) = P r b.val := by
  have q : T (base + w * (r - s) + b.val) = P (s + (r - s)) b.val := e ⟨r - s, by omega⟩ b
  have n : s + (r - s) = r := by omega
  have n2 : base + w * (r - s) + b.val = r * w + b.val := by
    rw [hb, ← Nat.mul_add, n, Nat.mul_comm]
  rwa [n2, n] at q

/-- The mask over stacked keys, everywhere. -/
theorem keys (r : Fin 256) (b : Fin 256) : lit2t (r.val * 256 + b.val) = if r.val / 64 = b.val / 64 then 0x3F80#16 else 0#16 := by
  rcases (by omega : r.val / 16 = 0 ∨ r.val / 16 = 1 ∨ r.val / 16 = 2 ∨ r.val / 16 = 3 ∨ r.val / 16 = 4 ∨ r.val / 16 = 5 ∨ r.val / 16 = 6 ∨ r.val / 16 = 7 ∨ r.val / 16 = 8 ∨ r.val / 16 = 9 ∨ r.val / 16 = 10 ∨ r.val / 16 = 11 ∨ r.val / 16 = 12 ∨ r.val / 16 = 13 ∨ r.val / 16 = 14 ∨ r.val / 16 = 15) with h | h | h | h | h | h | h | h | h | h | h | h | h | h | h | h
  · exact glue lit2t (fun r b => if r / 64 = b / 64 then 0x3F80#16 else 0#16) 256 0 0 keys_0 rfl r.val (by omega) (by omega) b
  · exact glue lit2t (fun r b => if r / 64 = b / 64 then 0x3F80#16 else 0#16) 256 16 4096 keys_1 rfl r.val (by omega) (by omega) b
  · exact glue lit2t (fun r b => if r / 64 = b / 64 then 0x3F80#16 else 0#16) 256 32 8192 keys_2 rfl r.val (by omega) (by omega) b
  · exact glue lit2t (fun r b => if r / 64 = b / 64 then 0x3F80#16 else 0#16) 256 48 12288 keys_3 rfl r.val (by omega) (by omega) b
  · exact glue lit2t (fun r b => if r / 64 = b / 64 then 0x3F80#16 else 0#16) 256 64 16384 keys_4 rfl r.val (by omega) (by omega) b
  · exact glue lit2t (fun r b => if r / 64 = b / 64 then 0x3F80#16 else 0#16) 256 80 20480 keys_5 rfl r.val (by omega) (by omega) b
  · exact glue lit2t (fun r b => if r / 64 = b / 64 then 0x3F80#16 else 0#16) 256 96 24576 keys_6 rfl r.val (by omega) (by omega) b
  · exact glue lit2t (fun r b => if r / 64 = b / 64 then 0x3F80#16 else 0#16) 256 112 28672 keys_7 rfl r.val (by omega) (by omega) b
  · exact glue lit2t (fun r b => if r / 64 = b / 64 then 0x3F80#16 else 0#16) 256 128 32768 keys_8 rfl r.val (by omega) (by omega) b
  · exact glue lit2t (fun r b => if r / 64 = b / 64 then 0x3F80#16 else 0#16) 256 144 36864 keys_9 rfl r.val (by omega) (by omega) b
  · exact glue lit2t (fun r b => if r / 64 = b / 64 then 0x3F80#16 else 0#16) 256 160 40960 keys_10 rfl r.val (by omega) (by omega) b
  · exact glue lit2t (fun r b => if r / 64 = b / 64 then 0x3F80#16 else 0#16) 256 176 45056 keys_11 rfl r.val (by omega) (by omega) b
  · exact glue lit2t (fun r b => if r / 64 = b / 64 then 0x3F80#16 else 0#16) 256 192 49152 keys_12 rfl r.val (by omega) (by omega) b
  · exact glue lit2t (fun r b => if r / 64 = b / 64 then 0x3F80#16 else 0#16) 256 208 53248 keys_13 rfl r.val (by omega) (by omega) b
  · exact glue lit2t (fun r b => if r / 64 = b / 64 then 0x3F80#16 else 0#16) 256 224 57344 keys_14 rfl r.val (by omega) (by omega) b
  · exact glue lit2t (fun r b => if r / 64 = b / 64 then 0x3F80#16 else 0#16) 256 240 61440 keys_15 rfl r.val (by omega) (by omega) b

/-- The mask over stacked values, everywhere. -/
theorem values (r : Fin 256) (b : Fin 512) : lit3t (r.val * 512 + b.val) = if r.val / 64 = b.val / 128 then 0x3F80#16 else 0#16 := by
  rcases (by omega : r.val / 8 = 0 ∨ r.val / 8 = 1 ∨ r.val / 8 = 2 ∨ r.val / 8 = 3 ∨ r.val / 8 = 4 ∨ r.val / 8 = 5 ∨ r.val / 8 = 6 ∨ r.val / 8 = 7 ∨ r.val / 8 = 8 ∨ r.val / 8 = 9 ∨ r.val / 8 = 10 ∨ r.val / 8 = 11 ∨ r.val / 8 = 12 ∨ r.val / 8 = 13 ∨ r.val / 8 = 14 ∨ r.val / 8 = 15 ∨ r.val / 8 = 16 ∨ r.val / 8 = 17 ∨ r.val / 8 = 18 ∨ r.val / 8 = 19 ∨ r.val / 8 = 20 ∨ r.val / 8 = 21 ∨ r.val / 8 = 22 ∨ r.val / 8 = 23 ∨ r.val / 8 = 24 ∨ r.val / 8 = 25 ∨ r.val / 8 = 26 ∨ r.val / 8 = 27 ∨ r.val / 8 = 28 ∨ r.val / 8 = 29 ∨ r.val / 8 = 30 ∨ r.val / 8 = 31) with h | h | h | h | h | h | h | h | h | h | h | h | h | h | h | h | h | h | h | h | h | h | h | h | h | h | h | h | h | h | h | h
  · exact glue lit3t (fun r b => if r / 64 = b / 128 then 0x3F80#16 else 0#16) 512 0 0 values_0 rfl r.val (by omega) (by omega) b
  · exact glue lit3t (fun r b => if r / 64 = b / 128 then 0x3F80#16 else 0#16) 512 8 4096 values_1 rfl r.val (by omega) (by omega) b
  · exact glue lit3t (fun r b => if r / 64 = b / 128 then 0x3F80#16 else 0#16) 512 16 8192 values_2 rfl r.val (by omega) (by omega) b
  · exact glue lit3t (fun r b => if r / 64 = b / 128 then 0x3F80#16 else 0#16) 512 24 12288 values_3 rfl r.val (by omega) (by omega) b
  · exact glue lit3t (fun r b => if r / 64 = b / 128 then 0x3F80#16 else 0#16) 512 32 16384 values_4 rfl r.val (by omega) (by omega) b
  · exact glue lit3t (fun r b => if r / 64 = b / 128 then 0x3F80#16 else 0#16) 512 40 20480 values_5 rfl r.val (by omega) (by omega) b
  · exact glue lit3t (fun r b => if r / 64 = b / 128 then 0x3F80#16 else 0#16) 512 48 24576 values_6 rfl r.val (by omega) (by omega) b
  · exact glue lit3t (fun r b => if r / 64 = b / 128 then 0x3F80#16 else 0#16) 512 56 28672 values_7 rfl r.val (by omega) (by omega) b
  · exact glue lit3t (fun r b => if r / 64 = b / 128 then 0x3F80#16 else 0#16) 512 64 32768 values_8 rfl r.val (by omega) (by omega) b
  · exact glue lit3t (fun r b => if r / 64 = b / 128 then 0x3F80#16 else 0#16) 512 72 36864 values_9 rfl r.val (by omega) (by omega) b
  · exact glue lit3t (fun r b => if r / 64 = b / 128 then 0x3F80#16 else 0#16) 512 80 40960 values_10 rfl r.val (by omega) (by omega) b
  · exact glue lit3t (fun r b => if r / 64 = b / 128 then 0x3F80#16 else 0#16) 512 88 45056 values_11 rfl r.val (by omega) (by omega) b
  · exact glue lit3t (fun r b => if r / 64 = b / 128 then 0x3F80#16 else 0#16) 512 96 49152 values_12 rfl r.val (by omega) (by omega) b
  · exact glue lit3t (fun r b => if r / 64 = b / 128 then 0x3F80#16 else 0#16) 512 104 53248 values_13 rfl r.val (by omega) (by omega) b
  · exact glue lit3t (fun r b => if r / 64 = b / 128 then 0x3F80#16 else 0#16) 512 112 57344 values_14 rfl r.val (by omega) (by omega) b
  · exact glue lit3t (fun r b => if r / 64 = b / 128 then 0x3F80#16 else 0#16) 512 120 61440 values_15 rfl r.val (by omega) (by omega) b
  · exact glue lit3t (fun r b => if r / 64 = b / 128 then 0x3F80#16 else 0#16) 512 128 65536 values_16 rfl r.val (by omega) (by omega) b
  · exact glue lit3t (fun r b => if r / 64 = b / 128 then 0x3F80#16 else 0#16) 512 136 69632 values_17 rfl r.val (by omega) (by omega) b
  · exact glue lit3t (fun r b => if r / 64 = b / 128 then 0x3F80#16 else 0#16) 512 144 73728 values_18 rfl r.val (by omega) (by omega) b
  · exact glue lit3t (fun r b => if r / 64 = b / 128 then 0x3F80#16 else 0#16) 512 152 77824 values_19 rfl r.val (by omega) (by omega) b
  · exact glue lit3t (fun r b => if r / 64 = b / 128 then 0x3F80#16 else 0#16) 512 160 81920 values_20 rfl r.val (by omega) (by omega) b
  · exact glue lit3t (fun r b => if r / 64 = b / 128 then 0x3F80#16 else 0#16) 512 168 86016 values_21 rfl r.val (by omega) (by omega) b
  · exact glue lit3t (fun r b => if r / 64 = b / 128 then 0x3F80#16 else 0#16) 512 176 90112 values_22 rfl r.val (by omega) (by omega) b
  · exact glue lit3t (fun r b => if r / 64 = b / 128 then 0x3F80#16 else 0#16) 512 184 94208 values_23 rfl r.val (by omega) (by omega) b
  · exact glue lit3t (fun r b => if r / 64 = b / 128 then 0x3F80#16 else 0#16) 512 192 98304 values_24 rfl r.val (by omega) (by omega) b
  · exact glue lit3t (fun r b => if r / 64 = b / 128 then 0x3F80#16 else 0#16) 512 200 102400 values_25 rfl r.val (by omega) (by omega) b
  · exact glue lit3t (fun r b => if r / 64 = b / 128 then 0x3F80#16 else 0#16) 512 208 106496 values_26 rfl r.val (by omega) (by omega) b
  · exact glue lit3t (fun r b => if r / 64 = b / 128 then 0x3F80#16 else 0#16) 512 216 110592 values_27 rfl r.val (by omega) (by omega) b
  · exact glue lit3t (fun r b => if r / 64 = b / 128 then 0x3F80#16 else 0#16) 512 224 114688 values_28 rfl r.val (by omega) (by omega) b
  · exact glue lit3t (fun r b => if r / 64 = b / 128 then 0x3F80#16 else 0#16) 512 232 118784 values_29 rfl r.val (by omega) (by omega) b
  · exact glue lit3t (fun r b => if r / 64 = b / 128 then 0x3F80#16 else 0#16) 512 240 122880 values_30 rfl r.val (by omega) (by omega) b
  · exact glue lit3t (fun r b => if r / 64 = b / 128 then 0x3F80#16 else 0#16) 512 248 126976 values_31 rfl r.val (by omega) (by omega) b

/-- The mask over the scores of the forward direction, everywhere. -/
theorem lower (r : Fin 64) (b : Fin 256) : lit0t (r.val * 256 + b.val) = if b.val % 64 ≤ r.val then 0x3F800000#32 else 0#32 := by
  rcases (by omega : r.val / 16 = 0 ∨ r.val / 16 = 1 ∨ r.val / 16 = 2 ∨ r.val / 16 = 3) with h | h | h | h
  · exact glue lit0t (fun r b => if b % 64 ≤ r then 0x3F800000#32 else 0#32) 256 0 0 lower_0 rfl r.val (by omega) (by omega) b
  · exact glue lit0t (fun r b => if b % 64 ≤ r then 0x3F800000#32 else 0#32) 256 16 4096 lower_1 rfl r.val (by omega) (by omega) b
  · exact glue lit0t (fun r b => if b % 64 ≤ r then 0x3F800000#32 else 0#32) 256 32 8192 lower_2 rfl r.val (by omega) (by omega) b
  · exact glue lit0t (fun r b => if b % 64 ≤ r then 0x3F800000#32 else 0#32) 256 48 12288 lower_3 rfl r.val (by omega) (by omega) b

/-- The mask over the scores of the backward direction, everywhere. -/
theorem upper (r : Fin 64) (b : Fin 256) : lit1t (r.val * 256 + b.val) = if r.val ≤ b.val % 64 then 0x3F800000#32 else 0#32 := by
  rcases (by omega : r.val / 16 = 0 ∨ r.val / 16 = 1 ∨ r.val / 16 = 2 ∨ r.val / 16 = 3) with h | h | h | h
  · exact glue lit1t (fun r b => if r ≤ b % 64 then 0x3F800000#32 else 0#32) 256 0 0 upper_0 rfl r.val (by omega) (by omega) b
  · exact glue lit1t (fun r b => if r ≤ b % 64 then 0x3F800000#32 else 0#32) 256 16 4096 upper_1 rfl r.val (by omega) (by omega) b
  · exact glue lit1t (fun r b => if r ≤ b % 64 then 0x3F800000#32 else 0#32) 256 32 8192 upper_2 rfl r.val (by omega) (by omega) b
  · exact glue lit1t (fun r b => if r ≤ b % 64 then 0x3F800000#32 else 0#32) 256 48 12288 upper_3 rfl r.val (by omega) (by omega) b

/-- The number a chosen bfloat16 pattern denotes. -/
theorem pick_bf16 (p : Prop) [Decidable p] : Ideal.ofBits .bf16 (if p then 0x3F80#16 else 0#16) = if p then 1 else 0 := by
  split <;> simp

/-- The number a chosen float32 pattern denotes. -/
theorem pick_f32 (p : Prop) [Decidable p] : Ideal.ofBits .f32 (if p then 0x3F800000#32 else 0#32) = if p then 1 else 0 := by
  split <;> simp

/-- The head of a stacked key. -/
theorem ky_head (g : Fin 4) (l : Fin 64) : (ky g l).val / 64 = g.val := by
  show (g.val * 64 + l.val) / 64 = g.val
  omega

/-- The position of a stacked key in its chunk. -/
theorem ky_row (g : Fin 4) (l : Fin 64) : (ky g l).val % 64 = l.val := by
  show (g.val * 64 + l.val) % 64 = l.val
  omega

/-- The head of a stacked value's column. -/
theorem vl_head (g : Fin 4) (e : Fin 128) : (vl g e).val / 128 = g.val := by
  show (g.val * 128 + e.val) / 128 = g.val
  omega

/-- The mask over stacked keys is 1 where the heads agree. -/
theorem isMkk : IsMkk (fun i => FloatOps.ofBits .bf16 (lit2 (S256x256.rowMajor i))) := by
  intro g l h y
  have n : (S256x256.rowMajor (ix2 (ky g l) (ky h y))).val = (ky g l).val * 256 + (ky h y).val := by
    rw [Shape.rowMajor_val_two]
    rfl
  have q : lit2 (S256x256.rowMajor (ix2 (ky g l) (ky h y))) = if g = h then 0x3F80#16 else 0#16 := by
    refine (congrArg lit2t n).trans ((keys (ky g l) (ky h y)).trans ?_)
    rw [ky_head, ky_head]
    exact if_congr Fin.val_inj rfl rfl
  exact (congrArg (Ideal.ofBits .bf16) q).trans (pick_bf16 _)

/-- The mask over stacked values is 1 where the heads agree. -/
theorem isMkv : IsMkv (fun i => FloatOps.ofBits .bf16 (lit3 (S256x512.rowMajor i))) := by
  intro g l h e
  have n : (S256x512.rowMajor (ix2 (ky g l) (vl h e))).val = (ky g l).val * 512 + (vl h e).val := by
    rw [Shape.rowMajor_val_two]
    rfl
  have q : lit3 (S256x512.rowMajor (ix2 (ky g l) (vl h e))) = if g = h then 0x3F80#16 else 0#16 := by
    refine (congrArg lit3t n).trans ((values (ky g l) (vl h e)).trans ?_)
    rw [ky_head, vl_head]
    exact if_congr Fin.val_inj rfl rfl
  exact (congrArg (Ideal.ofBits .bf16) q).trans (pick_bf16 _)

/-- The first mask over scores is 1 where the row is at or after the key. -/
theorem isLower : IsMsk (fun l m => m ≤ l) (fun i => FloatOps.ofBits .f32 (lit0 (S64x256.rowMajor i))) := by
  intro l h m
  have n : (S64x256.rowMajor (ix2 l (ky h m))).val = l.val * 256 + (ky h m).val := by
    rw [Shape.rowMajor_val_two]
    rfl
  have q : lit0 (S64x256.rowMajor (ix2 l (ky h m))) = if m ≤ l then 0x3F800000#32 else 0#32 := by
    refine (congrArg lit0t n).trans ((lower l (ky h m)).trans ?_)
    rw [ky_row]
    rfl
  exact (congrArg (Ideal.ofBits .f32) q).trans (pick_f32 _)

/-- The second mask over scores is 1 where the row is at or before the key. -/
theorem isUpper : IsMsk (fun l m => l ≤ m) (fun i => FloatOps.ofBits .f32 (lit1 (S64x256.rowMajor i))) := by
  intro l h m
  have n : (S64x256.rowMajor (ix2 l (ky h m))).val = l.val * 256 + (ky h m).val := by
    rw [Shape.rowMajor_val_two]
    rfl
  have q : lit1 (S64x256.rowMajor (ix2 l (ky h m))) = if l ≤ m then 0x3F800000#32 else 0#32 := by
    refine (congrArg lit1t n).trans ((upper l (ky h m)).trans ?_)
    rw [ky_row]
    rfl
  exact (congrArg (Ideal.ofBits .f32) q).trans (pick_f32 _)

end Cert.Proof.Gla.Masks

end
-- ==== Proof.Gla.Ref.lean ====
module

public import proofs.«01_k».proof.Proof.Gen.ReferenceIdeal.Step
public import proofs.«01_k».proof.Proof.Gla.Spec
public import Idealize.ShloMosaic.Lib.DynamicIndex
public import Idealize.ShloMosaic.Lib.WordCmp

@[expose] public section

set_option maxRecDepth 16384

noncomputable section

namespace Cert.Proof.Gla.Ref

open Cert.ReferenceIdeal Cert.ReferenceIdeal.Gen Cert.ReferenceIdeal.Step
open Idealize.ShloMosaic Idealize.ShloMosaic.TcCoe

/-- A trip's number, as the word the loop counts in, read back. -/
theorem toInt_trip : ∀ j : Fin 64, (BitVec.ofNat 32 j.val).toInt = (j.val : ℤ) := by decide +kernel

/-- The queries a trip takes. -/
theorem b5_at (j : ℕ) (hj : j < 64) (s : State Ideal) (b : Fin 32) (l : Fin 64) (h : Fin 4) (y : Fin 64) :
    (show FVec Ideal S32x64x4x64 .f32 from b5 j s) (ix4 b l h y) = (show FVec Ideal S64x32x64x4x64 .f32 from s.main_v28_0) (ix5 ⟨j, hj⟩ b l h y) := by
  have o : (S64x32x64x4x64 : Shape).Slices ![j, 0, 0, 0, 0] S1x32x64x4x64 := ⟨rfl, fun a => by
    match a with
    | 0 => show j + 1 ≤ 64; omega
    | 1 => exact le_refl _
    | 2 => exact le_refl _
    | 3 => exact le_refl _
    | 4 => exact le_refl _
  ⟩
  have e : b4 j s = extractStridedSlice S1x32x64x4x64 ![j, 0, 0, 0, 0] (show FVec Ideal S64x32x64x4x64 .f32 from s.main_v28_0) o :=
    Host.dynamicSlice_eq_extractStridedSlice _ _ _ _ _ o fun a => by
      match a with
      | 0 => exact toInt_trip ⟨j, hj⟩
      | 1 => rfl
      | 2 => rfl
      | 3 => rfl
      | 4 => rfl
  unfold b5
  rw [e]
  pointwise []

/-- The keys a trip takes. -/
theorem b11_at (j : ℕ) (hj : j < 64) (s : State Ideal) (b : Fin 32) (l : Fin 64) (h : Fin 4) (y : Fin 64) :
    (show FVec Ideal S32x64x4x64 .f32 from b11 j s) (ix4 b l h y) = (show FVec Ideal S64x32x64x4x64 .f32 from s.main_v28_1) (ix5 ⟨j, hj⟩ b l h y) := by
  have o : (S64x32x64x4x64 : Shape).Slices ![j, 0, 0, 0, 0] S1x32x64x4x64 := ⟨rfl, fun a => by
    match a with
    | 0 => show j + 1 ≤ 64; omega
    | 1 => exact le_refl _
    | 2 => exact le_refl _
    | 3 => exact le_refl _
    | 4 => exact le_refl _
  ⟩
  have e : b10 j s = extractStridedSlice S1x32x64x4x64 ![j, 0, 0, 0, 0] (show FVec Ideal S64x32x64x4x64 .f32 from s.main_v28_1) o :=
    Host.dynamicSlice_eq_extractStridedSlice _ _ _ _ _ o fun a => by
      match a with
      | 0 => exact toInt_trip ⟨j, hj⟩
      | 1 => rfl
      | 2 => rfl
      | 3 => rfl
      | 4 => rfl
  unfold b11
  rw [e]
  pointwise []

/-- The values a trip takes. -/
theorem b17_at (j : ℕ) (hj : j < 64) (s : State Ideal) (b : Fin 32) (l : Fin 64) (h : Fin 4) (e : Fin 128) :
    (show FVec Ideal S32x64x4x128 .f32 from b17 j s) (ix4 b l h e) = (show FVec Ideal S64x32x64x4x128 .f32 from s.main_v28_2) (ix5 ⟨j, hj⟩ b l h e) := by
  have o : (S64x32x64x4x128 : Shape).Slices ![j, 0, 0, 0, 0] S1x32x64x4x128 := ⟨rfl, fun a => by
    match a with
    | 0 => show j + 1 ≤ 64; omega
    | 1 => exact le_refl _
    | 2 => exact le_refl _
    | 3 => exact le_refl _
    | 4 => exact le_refl _
  ⟩
  have e : b16 j s = extractStridedSlice S1x32x64x4x128 ![j, 0, 0, 0, 0] (show FVec Ideal S64x32x64x4x128 .f32 from s.main_v28_2) o :=
    Host.dynamicSlice_eq_extractStridedSlice _ _ _ _ _ o fun a => by
      match a with
      | 0 => exact toInt_trip ⟨j, hj⟩
      | 1 => rfl
      | 2 => rfl
      | 3 => rfl
      | 4 => rfl
  unfold b17
  rw [e]
  pointwise []

/-- The decays a trip takes. -/
theorem b22_at (j : ℕ) (hj : j < 64) (s : State Ideal) (b : Fin 32) (h : Fin 4) (y : Fin 64) :
    (show FVec Ideal S32x4x64 .f32 from b22 j s) (ix3 b h y) = (show FVec Ideal S64x32x4x64 .f32 from s.main_v28_3) (ix4 ⟨j, hj⟩ b h y) := by
  have o : (S64x32x4x64 : Shape).Slices ![j, 0, 0, 0] S1x32x4x64 := ⟨rfl, fun a => by
    match a with
    | 0 => show j + 1 ≤ 64; omega
    | 1 => exact le_refl _
    | 2 => exact le_refl _
    | 3 => exact le_refl _
  ⟩
  have e : b21 j s = extractStridedSlice S1x32x4x64 ![j, 0, 0, 0] (show FVec Ideal S64x32x4x64 .f32 from s.main_v28_3) o :=
    Host.dynamicSlice_eq_extractStridedSlice _ _ _ _ _ o fun a => by
      match a with
      | 0 => exact toInt_trip ⟨j, hj⟩
      | 1 => rfl
      | 2 => rfl
      | 3 => rfl
  unfold b22
  rw [e]
  pointwise []

/-- The outputs after a trip: the trip's chunk is new. -/
theorem b47_at (j : ℕ) (hj : j < 64) (s : State Ideal) (n : Fin 64) (b : Fin 32) (l : Fin 64) (h : Fin 4) (e : Fin 128) :
    (show FVec Ideal S64x32x64x4x128 .f32 from b47 j s) (ix5 n b l h e) = if n.val = j then (show FVec Ideal S32x64x4x128 .f32 from b41 j s) (ix4 b l h e) else (show FVec Ideal S64x32x64x4x128 .f32 from s.main_v28_7) (ix5 n b l h e) := by
  have o : (S64x32x64x4x128 : Shape).Slices ![j, 0, 0, 0, 0] S1x32x64x4x128 := ⟨rfl, fun a => by
    match a with
    | 0 => show j + 1 ≤ 64; omega
    | 1 => exact le_refl _
    | 2 => exact le_refl _
    | 3 => exact le_refl _
    | 4 => exact le_refl _
  ⟩
  have e' : b47 j s = updateSlice (show FVec Ideal S64x32x64x4x128 .f32 from s.main_v28_7) (show FVec Ideal S1x32x64x4x128 .f32 from b42 j s) ![j, 0, 0, 0, 0] o :=
    WordCmp.dynamicUpdateSlice_eq_update _ _ _ _ _ o fun a => by
      match a with
      | 0 => exact toInt_trip ⟨j, hj⟩
      | 1 => rfl
      | 2 => rfl
      | 3 => rfl
      | 4 => rfl
  rw [e']
  pointwise [b42]
  split_ifs <;> first | rfl | (exfalso; omega)

/-- The causal mask. -/
theorem mask_at (l m : Fin 64) : (show IVec S64x64 1 from K_main_v17 (F := Ideal)) (ix2 l m) = if m ≤ l then 1#1 else 0#1 := by
  revert l m
  decide +kernel

/-- A chunk's queries, of the sequence at place `b`. -/
def cq (s : State Ideal) (b : Fin 32) (n : ℕ) : Rows 256 := fun l c =>
  (show FVec Ideal S64x32x64x4x64 .f32 from s.main_v28_0) (ix5 ⟨n % 64, Nat.mod_lt _ (by omega)⟩ b l ⟨c.val / 64, by omega⟩ ⟨c.val % 64, Nat.mod_lt _ (by omega)⟩)

/-- A chunk's keys. -/
def ck (s : State Ideal) (b : Fin 32) (n : ℕ) : Rows 256 := fun l c =>
  (show FVec Ideal S64x32x64x4x64 .f32 from s.main_v28_1) (ix5 ⟨n % 64, Nat.mod_lt _ (by omega)⟩ b l ⟨c.val / 64, by omega⟩ ⟨c.val % 64, Nat.mod_lt _ (by omega)⟩)

/-- A chunk's values. -/
def cv (s : State Ideal) (b : Fin 32) (n : ℕ) : Rows 512 := fun l c =>
  (show FVec Ideal S64x32x64x4x128 .f32 from s.main_v28_2) (ix5 ⟨n % 64, Nat.mod_lt _ (by omega)⟩ b l ⟨c.val / 128, by omega⟩ ⟨c.val % 128, Nat.mod_lt _ (by omega)⟩)

/-- A chunk's decays. -/
def cd (s : State Ideal) (b : Fin 32) (n : ℕ) : Fin 256 → EReal := fun c =>
  (show FVec Ideal S64x32x4x64 .f32 from s.main_v28_3) (ix4 ⟨n % 64, Nat.mod_lt _ (by omega)⟩ b ⟨c.val / 64, by omega⟩ ⟨c.val % 64, Nat.mod_lt _ (by omega)⟩)

/-- The state of the sequence at place `b`. -/
def cs (s : State Ideal) (b : Fin 32) : Mat := fun h y e => (show FVec Ideal S32x4x64x128 .f32 from s.main_v28_6) (ix4 b h y e)

/-- A stacked key's head. -/
theorem ky_div (h : Fin 4) (y : Fin 64) : (⟨(ky h y).val / 64, by have := (ky h y).isLt; omega⟩ : Fin 4) = h := Fin.ext (by show (h.val * 64 + y.val) / 64 = h.val; omega)
/-- A stacked key's place in its head. -/
theorem ky_mod (h : Fin 4) (y : Fin 64) : (⟨(ky h y).val % 64, Nat.mod_lt _ (by omega)⟩ : Fin 64) = y := Fin.ext (by show (h.val * 64 + y.val) % 64 = y.val; omega)
/-- A stacked value's head. -/
theorem vl_div (h : Fin 4) (e : Fin 128) : (⟨(vl h e).val / 128, by have := (vl h e).isLt; omega⟩ : Fin 4) = h := Fin.ext (by show (h.val * 128 + e.val) / 128 = h.val; omega)
/-- A stacked value's place in its head. -/
theorem vl_mod (h : Fin 4) (e : Fin 128) : (⟨(vl h e).val % 128, Nat.mod_lt _ (by omega)⟩ : Fin 128) = e := Fin.ext (by show (h.val * 128 + e.val) % 128 = e.val; omega)
/-- A trip below 64 is itself modulo 64. -/
theorem trip_mod (j : ℕ) (hj : j < 64) : (⟨j % 64, Nat.mod_lt _ (by omega)⟩ : Fin 64) = ⟨j, hj⟩ := Fin.ext (Nat.mod_eq_of_lt hj)

/-- The queries trip `j` slices. -/
theorem cq_at (j : ℕ) (hj : j < 64) (s : State Ideal) (b : Fin 32) (l : Fin 64) (h : Fin 4) (y : Fin 64) : (show FVec Ideal S32x64x4x64 .f32 from b5 j s) (ix4 b l h y) = cq s b j l (ky h y) := by
  unfold cq; rw [ky_div, ky_mod, trip_mod j hj]; exact b5_at j hj s b l h y
/-- The keys trip `j` slices. -/
theorem ck_at (j : ℕ) (hj : j < 64) (s : State Ideal) (b : Fin 32) (l : Fin 64) (h : Fin 4) (y : Fin 64) : (show FVec Ideal S32x64x4x64 .f32 from b11 j s) (ix4 b l h y) = ck s b j l (ky h y) := by
  unfold ck; rw [ky_div, ky_mod, trip_mod j hj]; exact b11_at j hj s b l h y
/-- The values trip `j` slices. -/
theorem cv_at (j : ℕ) (hj : j < 64) (s : State Ideal) (b : Fin 32) (l : Fin 64) (h : Fin 4) (e : Fin 128) : (show FVec Ideal S32x64x4x128 .f32 from b17 j s) (ix4 b l h e) = cv s b j l (vl h e) := by
  unfold cv; rw [vl_div, vl_mod, trip_mod j hj]; exact b17_at j hj s b l h e
/-- The decays trip `j` slices. -/
theorem cd_at (j : ℕ) (hj : j < 64) (s : State Ideal) (b : Fin 32) (h : Fin 4) (y : Fin 64) : (show FVec Ideal S32x4x64 .f32 from b22 j s) (ix3 b h y) = cd s b j (ky h y) := by
  unfold cd; rw [ky_div, ky_mod, trip_mod j hj]; exact b22_at j hj s b h y

/-- The state after a trip. -/
theorem b40_at (j : ℕ) (hj : j < 64) (s : State Ideal) (b : Fin 32) (h : Fin 4) (y : Fin 64) (e : Fin 128) :
    (show FVec Ideal S32x4x64x128 .f32 from b40 j s) (ix4 b h y e) = stepSt (ck s b j) (cv s b j) (cd s b j) (cs s b) h y e := by
  unfold stepSt
  simp only [← ck_at j hj, ← cv_at j hj, ← cd_at j hj]
  pointwise [b40, b39, b38, b37, b36, b35, b34, b33, cs]
  done

/-- A trip's results. -/
theorem b41_at (j : ℕ) (hj : j < 64) (s : State Ideal) (b : Fin 32) (l : Fin 64) (h : Fin 4) (e : Fin 128) :
    (show FVec Ideal S32x64x4x128 .f32 from b41 j s) (ix4 b l h e) = intra (fun l m => m ≤ l) (cq s b j) (ck s b j) (cv s b j) l h e + inter (cq s b j) (cs s b) l h e := by
  unfold intra inter
  simp only [← cq_at j hj, ← ck_at j hj, ← cv_at j hj]
  pointwise [b41, b32, b31, b30, b29, b28, b27, b26, b25, b24, b23, cs, mask_at]
  refine congrArg₂ (· + ·) (Finset.sum_congr rfl fun x _ => ?_) (Finset.sum_congr rfl fun x _ => mul_comm _ _)
  split_ifs
  · exact mul_comm _ _
  · exact (zero_mul _).symm

/-- The state before trip `k`. -/
def trips (s : State Ideal) : ℕ → State Ideal
  | 0 => s
  | k + 1 => step k (trips s k)

/-- The scan: before trip `k` the inputs are what they were, the state is that before chunk `k`, and the chunks before `k` have their results. -/
theorem scan (s : State Ideal) (h0 : ∀ b, cs s b = fun _ _ _ => 0) (k : ℕ) (hk : k ≤ 64) :
    cq (trips s k) = cq s ∧ ck (trips s k) = ck s ∧ cv (trips s k) = cv s ∧ cd (trips s k) = cd s
      ∧ (∀ b, cs (trips s k) b = St (ck s b) (cv s b) (cd s b) k)
      ∧ ∀ (n : Fin 64) (b : Fin 32) (l : Fin 64) (h : Fin 4) (e : Fin 128), n.val < k → (show FVec Ideal S64x32x64x4x128 .f32 from (trips s k).main_v28_7) (ix5 n b l h e)
        = intra (fun l m => m ≤ l) (cq s b n) (ck s b n) (cv s b n) l h e + inter (cq s b n) (St (ck s b) (cv s b) (cd s b) n) l h e := by
  induction k with
  | zero => exact ⟨rfl, rfl, rfl, rfl, h0, fun n _ _ _ _ hn => absurd hn (by omega)⟩
  | succ k ih =>
    obtain ⟨iq, ik, iv, id, is, io⟩ := ih (by omega)
    refine ⟨iq, ik, iv, id, fun b => ?_, fun n b l h e hn => ?_⟩
    · funext h y e
      refine (b40_at k hk (trips s k) b h y e).trans ?_
      rw [ik, iv, id, is b]
      rfl
    · refine (b47_at k hk (trips s k) n b l h e).trans ?_
      split_ifs with e1
      · refine (b41_at k hk (trips s k) b l h e).trans ?_
        rw [iq, ik, iv, is b, e1]
      · exact io n b l h e (by omega)

/-- Rows taken in reverse. -/
def rev {n : ℕ} (x : Rows n) : Rows n := fun l c => x (Fin.rev l) c

/-- A chunk's rows reversed add the same to the state. -/
theorem stepSt_rev (k : Rows 256) (v : Rows 512) (d : Fin 256 → EReal) (S : Mat) : stepSt (rev k) (rev v) d S = stepSt k v d S := by
  funext h y e
  unfold stepSt rev
  exact congrArg (d (ky h y) * S h y e + ·) (Equiv.sum_comp Fin.revPerm fun l => (k l (ky h y) * d (ky h y)) * v l (vl h e))

/-- So the state does not see the rows' order. -/
theorem St_rev (K : ℕ → Rows 256) (V : ℕ → Rows 512) (D : ℕ → Fin 256 → EReal) (n : ℕ) : St (fun n => rev (K n)) (fun n => rev (V n)) D n = St K V D n := by
  induction n with
  | zero => rfl
  | succ n ih => unfold St; rw [ih, stepSt_rev]

/-- What a reversed chunk reads from the state: the same rows in the other order. -/
theorem inter_rev (q : Rows 256) (S : Mat) (l : Fin 64) (h : Fin 4) (e : Fin 128) : inter (rev q) S l h e = inter q S (Fin.rev l) h e := rfl

/-- What a reversed chunk reads from itself: the rows at or after, in place of those at or before. -/
theorem intra_rev (q k : Rows 256) (v : Rows 512) (l : Fin 64) (h : Fin 4) (e : Fin 128) :
    intra (fun l m => m ≤ l) (rev q) (rev k) (rev v) l h e = intra (fun l m => l ≤ m) q k v (Fin.rev l) h e := by
  unfold intra rev
  refine Eq.trans (Finset.sum_congr rfl fun m _ => ?_) (Equiv.sum_comp Fin.revPerm fun m => (if Fin.rev l ≤ m then ∑ y, q (Fin.rev l) (ky h y) * k m (ky h y) else 0) * v m (vl h e))
  show _ = (if Fin.rev l ≤ Fin.rev m then _ else _) * _
  exact congrArg₂ (· * ·) (if_congr Fin.rev_le_rev.symm rfl rfl) rfl

end Cert.Proof.Gla.Ref

end
-- ==== Proof.Gla.Init.lean ====
module

public import proofs.«01_k».proof.Proof.Gla.Ref
public import proofs.«01_k».proof.Proof.Gla.Sup

@[expose] public section

set_option maxRecDepth 16384

noncomputable section

namespace Cert.Proof.Gla.Ref

open Cert.ReferenceIdeal Cert.ReferenceIdeal.Gen Cert.ReferenceIdeal.Step
open Idealize.ShloMosaic Idealize.ShloMosaic.TcCoe

variable (a0 : FVec Ideal S16x4096x1024 .bf16) (a1 : FVec Ideal S16x4096x512 .bf16) (a2 : FVec Ideal S16x64x512 .f32)

/-- Batch `b` of the first array. -/
def bx (b : Fin 16) : Fin 4096 → Fin 1024 → EReal := fun r c => a0 (ix3 b r c)
/-- Batch `b` of the values. -/
def bw (b : Fin 16) : Fin 4096 → Fin 512 → EReal := fun r c => a1 (ix3 b r c)
/-- Batch `b` of the decays. -/
def bd (b : Fin 16) : Fin 64 → Fin 512 → EReal := fun r c => a2 (ix3 b r c)

/-- The place of batch `b`'s sequence. -/
def fwd (b : Fin 16) : Fin 32 := ⟨b.val, by omega⟩
/-- The place of its reverse. -/
def bwd (b : Fin 16) : Fin 32 := ⟨16 + b.val, by omega⟩

/-- Row `l` of chunk `n`. -/
def pos (n l : Fin 64) : Fin 4096 := ⟨n.val * 64 + l.val, by omega⟩

/-- The chunks come first. -/
theorem swap64 (Y : FVec Ideal S32x64x64x4x64 .f32) (n : Fin 64) (b : Fin 32) (l : Fin 64) (h : Fin 4) (y : Fin 64) :
    transpose S64x32x64x4x64 [1, 0, 2, 3, 4] Y transposes_S32x64x64x4x64_S64x32x64x4x64_1_0_2_3_4 (ix5 n b l h y) = Y (ix5 b n l h y) := by
  pointwise []

/-- The chunks come first. -/
theorem swap128 (Y : FVec Ideal S32x64x64x4x128 .f32) (n : Fin 64) (b : Fin 32) (l : Fin 64) (h : Fin 4) (y : Fin 128) :
    transpose S64x32x64x4x128 [1, 0, 2, 3, 4] Y transposes_S32x64x64x4x128_S64x32x64x4x128_1_0_2_3_4 (ix5 n b l h y) = Y (ix5 b n l h y) := by
  pointwise []

/-- The chunks come first. -/
theorem swapD (Y : FVec Ideal S32x64x4x64 .f32) (n : Fin 64) (b : Fin 32) (h : Fin 4) (y : Fin 64) :
    transpose S64x32x4x64 [1, 0, 2, 3] Y transposes_S32x64x4x64_S64x32x4x64_1_0_2_3 (ix4 n b h y) = Y (ix4 b n h y) := by
  pointwise []

/-- The chunks of the queries are its rows. -/
theorem cq_cut (n : Fin 64) (b : Fin 32) (l : Fin 64) (h : Fin 4) (y : Fin 64) :
    (show FVec Ideal S64x32x64x4x64 .f32 from A_main_v22 (F := Ideal) a0 a1 a2) (ix5 n b l h y) = (show FVec Ideal S32x4096x256 .f32 from A_main_v9 (F := Ideal) a0 a1 a2) (ix3 b (pos n l) (ky h y)) := by
  unfold A_main_v22 A_main_v21
  generalize A_main_v9 (F := Ideal) a0 a1 a2 = X
  refine Eq.trans (swap64 _ n b l h y) (shapeCast_apply (X : FVec Ideal S32x4096x256 .f32) shapeCasts_S32x4096x256_S32x64x64x4x64 (ix5 b n l h y) (ix3 b (pos n l) (ky h y)) ?_)
  · refine (Shape.rowMajor_val_three _).trans (Eq.trans ?_ (Shape.rowMajor_val_five _).symm)
    show (b.val * 4096 + (n.val * 64 + l.val)) * 256 + (h.val * 64 + y.val) = (((b.val * 64 + n.val) * 64 + l.val) * 4 + h.val) * 64 + y.val
    omega

/-- The first half of the queries. -/
theorem cq_first (b : Fin 16) (r : Fin 4096) (c : Fin 256) :
    (show FVec Ideal S32x4096x256 .f32 from A_main_v9 (F := Ideal) a0 a1 a2) (ix3 (fwd b) r c) = a0 (ix3 b r (⟨0 * 256 + c.val, by omega⟩ : Fin 1024)) := by
  unfold fwd
  pointwise [A_main_v9, A_main_v2, A_main_v0]

/-- The second half of the queries: in reverse. -/
theorem cq_second (b : Fin 16) (r : Fin 4096) (c : Fin 256) :
    (show FVec Ideal S32x4096x256 .f32 from A_main_v9 (F := Ideal) a0 a1 a2) (ix3 (bwd b) r c) = a0 (ix3 b (Fin.rev r) (⟨2 * 256 + c.val, by omega⟩ : Fin 1024)) := by
  unfold bwd
  pointwise [A_main_v9, A_main_v8, A_main_v4, A_main_v0]
  simp

/-- The chunks of the keys are its rows. -/
theorem ck_cut (n : Fin 64) (b : Fin 32) (l : Fin 64) (h : Fin 4) (y : Fin 64) :
    (show FVec Ideal S64x32x64x4x64 .f32 from A_main_v24 (F := Ideal) a0 a1 a2) (ix5 n b l h y) = (show FVec Ideal S32x4096x256 .f32 from A_main_v11 (F := Ideal) a0 a1 a2) (ix3 b (pos n l) (ky h y)) := by
  unfold A_main_v24 A_main_v23
  generalize A_main_v11 (F := Ideal) a0 a1 a2 = X
  refine Eq.trans (swap64 _ n b l h y) (shapeCast_apply (X : FVec Ideal S32x4096x256 .f32) shapeCasts_S32x4096x256_S32x64x64x4x64 (ix5 b n l h y) (ix3 b (pos n l) (ky h y)) ?_)
  · refine (Shape.rowMajor_val_three _).trans (Eq.trans ?_ (Shape.rowMajor_val_five _).symm)
    show (b.val * 4096 + (n.val * 64 + l.val)) * 256 + (h.val * 64 + y.val) = (((b.val * 64 + n.val) * 64 + l.val) * 4 + h.val) * 64 + y.val
    omega

/-- The first half of the keys. -/
theorem ck_first (b : Fin 16) (r : Fin 4096) (c : Fin 256) :
    (show FVec Ideal S32x4096x256 .f32 from A_main_v11 (F := Ideal) a0 a1 a2) (ix3 (fwd b) r c) = a0 (ix3 b r (⟨1 * 256 + c.val, by omega⟩ : Fin 1024)) := by
  unfold fwd
  pointwise [A_main_v11, A_main_v3, A_main_v0]

/-- The second half of the keys: in reverse. -/
theorem ck_second (b : Fin 16) (r : Fin 4096) (c : Fin 256) :
    (show FVec Ideal S32x4096x256 .f32 from A_main_v11 (F := Ideal) a0 a1 a2) (ix3 (bwd b) r c) = a0 (ix3 b (Fin.rev r) (⟨3 * 256 + c.val, by omega⟩ : Fin 1024)) := by
  unfold bwd
  pointwise [A_main_v11, A_main_v10, A_main_v5, A_main_v0]
  simp

/-- The chunks of the values are its rows. -/
theorem cv_cut (n : Fin 64) (b : Fin 32) (l : Fin 64) (h : Fin 4) (e : Fin 128) :
    (show FVec Ideal S64x32x64x4x128 .f32 from A_main_v26 (F := Ideal) a0 a1 a2) (ix5 n b l h e) = (show FVec Ideal S32x4096x512 .f32 from A_main_v13 (F := Ideal) a0 a1 a2) (ix3 b (pos n l) (vl h e)) := by
  unfold A_main_v26 A_main_v25
  generalize A_main_v13 (F := Ideal) a0 a1 a2 = X
  refine Eq.trans (swap128 _ n b l h e) (shapeCast_apply (X : FVec Ideal S32x4096x512 .f32) shapeCasts_S32x4096x512_S32x64x64x4x128 (ix5 b n l h e) (ix3 b (pos n l) (vl h e)) ?_)
  · refine (Shape.rowMajor_val_three _).trans (Eq.trans ?_ (Shape.rowMajor_val_five _).symm)
    show (b.val * 4096 + (n.val * 64 + l.val)) * 512 + (h.val * 128 + e.val) = (((b.val * 64 + n.val) * 64 + l.val) * 4 + h.val) * 128 + e.val
    omega

/-- The first half of the values. -/
theorem cv_first (b : Fin 16) (r : Fin 4096) (c : Fin 512) :
    (show FVec Ideal S32x4096x512 .f32 from A_main_v13 (F := Ideal) a0 a1 a2) (ix3 (fwd b) r c) = a1 (ix3 b r c) := by
  unfold fwd
  pointwise [A_main_v13, A_main_v1]

/-- The second half of the values: in reverse. -/
theorem cv_second (b : Fin 16) (r : Fin 4096) (c : Fin 512) :
    (show FVec Ideal S32x4096x512 .f32 from A_main_v13 (F := Ideal) a0 a1 a2) (ix3 (bwd b) r c) = a1 (ix3 b (Fin.rev r) c) := by
  unfold bwd
  pointwise [A_main_v13, A_main_v12, A_main_v1]
  simp

/-- The chunks of the decays are its rows. -/
theorem cd_cut (n : Fin 64) (b : Fin 32) (h : Fin 4) (y : Fin 64) :
    (show FVec Ideal S64x32x4x64 .f32 from A_main_v19 (F := Ideal) a0 a1 a2) (ix4 n b h y) = (show FVec Ideal S32x64x256 .f32 from A_main_v15 (F := Ideal) a0 a1 a2) (ix3 b n (ky h y)) := by
  unfold A_main_v19 A_main_v18
  generalize A_main_v15 (F := Ideal) a0 a1 a2 = X
  refine Eq.trans (swapD _ n b h y) (shapeCast_apply (X : FVec Ideal S32x64x256 .f32) shapeCasts_S32x64x256_S32x64x4x64 (ix4 b n h y) (ix3 b n (ky h y)) ?_)
  · refine (Shape.rowMajor_val_three _).trans (Eq.trans ?_ (Shape.rowMajor_val_four _).symm)
    show (b.val * 64 + n.val) * 256 + (h.val * 64 + y.val) = ((b.val * 64 + n.val) * 4 + h.val) * 64 + y.val
    omega

/-- The first half of the decays. -/
theorem cd_first (b : Fin 16) (r : Fin 64) (c : Fin 256) :
    (show FVec Ideal S32x64x256 .f32 from A_main_v15 (F := Ideal) a0 a1 a2) (ix3 (fwd b) r c) = a2 (ix3 b r (⟨0 * 256 + c.val, by omega⟩ : Fin 512)) := by
  unfold fwd
  pointwise [A_main_v15, A_main_v6]

/-- The second half of the decays: in reverse. -/
theorem cd_second (b : Fin 16) (r : Fin 64) (c : Fin 256) :
    (show FVec Ideal S32x64x256 .f32 from A_main_v15 (F := Ideal) a0 a1 a2) (ix3 (bwd b) r c) = a2 (ix3 b (Fin.rev r) (⟨1 * 256 + c.val, by omega⟩ : Fin 512)) := by
  unfold bwd
  pointwise [A_main_v15, A_main_v14, A_main_v7]
  simp

/-- The queries of chunk `n` of batch `b`'s sequence. -/
theorem cq_fwd (b : Fin 16) (n : ℕ) (hn : n < 64) : cq (init (F := Ideal) a0 a1 a2) (fwd b) n = gqR (bx a0 b) 0 n := by
  funext l c
  refine (cq_cut a0 a1 a2 ⟨n % 64, Nat.mod_lt _ (by omega)⟩ (fwd b) l ⟨c.val / 64, by omega⟩ ⟨c.val % 64, Nat.mod_lt _ (by omega)⟩).trans ?_
  refine (cq_first a0 a1 a2 b _ _).trans ?_
  refine app3 _ rfl ?_ ?_
  · show n % 64 * 64 + l.val = (n * 64 + l.val) % 4096
    omega
  · show 0 * 256 + (c.val / 64 * 64 + c.val % 64) = 0 * 256 + c.val
    omega

/-- The queries of chunk `n` of its reverse: the chunk from the other end, its rows reversed. -/
theorem cq_bwd (b : Fin 16) (n : ℕ) (hn : n < 64) : cq (init (F := Ideal) a0 a1 a2) (bwd b) n = rev (gqR (bx a0 b) 2 (63 - n)) := by
  funext l c
  refine (cq_cut a0 a1 a2 ⟨n % 64, Nat.mod_lt _ (by omega)⟩ (bwd b) l ⟨c.val / 64, by omega⟩ ⟨c.val % 64, Nat.mod_lt _ (by omega)⟩).trans ?_
  refine (cq_second a0 a1 a2 b _ _).trans ?_
  refine app3 _ rfl ?_ ?_
  · rw [Fin.val_rev]
    show 4096 - (n % 64 * 64 + l.val + 1) = ((63 - n) * 64 + (Fin.rev l).val) % 4096
    rw [Fin.val_rev]
    omega
  · show 2 * 256 + (c.val / 64 * 64 + c.val % 64) = 2 * 256 + c.val
    omega

/-- The keys of chunk `n` of batch `b`'s sequence. -/
theorem ck_fwd (b : Fin 16) (n : ℕ) (hn : n < 64) : ck (init (F := Ideal) a0 a1 a2) (fwd b) n = gqR (bx a0 b) 1 n := by
  funext l c
  refine (ck_cut a0 a1 a2 ⟨n % 64, Nat.mod_lt _ (by omega)⟩ (fwd b) l ⟨c.val / 64, by omega⟩ ⟨c.val % 64, Nat.mod_lt _ (by omega)⟩).trans ?_
  refine (ck_first a0 a1 a2 b _ _).trans ?_
  refine app3 _ rfl ?_ ?_
  · show n % 64 * 64 + l.val = (n * 64 + l.val) % 4096
    omega
  · show 1 * 256 + (c.val / 64 * 64 + c.val % 64) = 1 * 256 + c.val
    omega

/-- The keys of chunk `n` of its reverse: the chunk from the other end, its rows reversed. -/
theorem ck_bwd (b : Fin 16) (n : ℕ) (hn : n < 64) : ck (init (F := Ideal) a0 a1 a2) (bwd b) n = rev (gqR (bx a0 b) 3 (63 - n)) := by
  funext l c
  refine (ck_cut a0 a1 a2 ⟨n % 64, Nat.mod_lt _ (by omega)⟩ (bwd b) l ⟨c.val / 64, by omega⟩ ⟨c.val % 64, Nat.mod_lt _ (by omega)⟩).trans ?_
  refine (ck_second a0 a1 a2 b _ _).trans ?_
  refine app3 _ rfl ?_ ?_
  · rw [Fin.val_rev]
    show 4096 - (n % 64 * 64 + l.val + 1) = ((63 - n) * 64 + (Fin.rev l).val) % 4096
    rw [Fin.val_rev]
    omega
  · show 3 * 256 + (c.val / 64 * 64 + c.val % 64) = 3 * 256 + c.val
    omega

/-- The values of chunk `n` of batch `b`'s sequence. -/
theorem cv_fwd (b : Fin 16) (n : ℕ) (hn : n < 64) : cv (init (F := Ideal) a0 a1 a2) (fwd b) n = vR (bw a1 b) n := by
  funext l c
  refine (cv_cut a0 a1 a2 ⟨n % 64, Nat.mod_lt _ (by omega)⟩ (fwd b) l ⟨c.val / 128, by omega⟩ ⟨c.val % 128, Nat.mod_lt _ (by omega)⟩).trans ?_
  refine (cv_first a0 a1 a2 b _ _).trans ?_
  refine app3 _ rfl ?_ ?_
  · show n % 64 * 64 + l.val = (n * 64 + l.val) % 4096
    omega
  · show c.val / 128 * 128 + c.val % 128 = c.val
    omega

/-- The values of chunk `n` of its reverse: the chunk from the other end, its rows reversed. -/
theorem cv_bwd (b : Fin 16) (n : ℕ) (hn : n < 64) : cv (init (F := Ideal) a0 a1 a2) (bwd b) n = rev (vR (bw a1 b) (63 - n)) := by
  funext l c
  refine (cv_cut a0 a1 a2 ⟨n % 64, Nat.mod_lt _ (by omega)⟩ (bwd b) l ⟨c.val / 128, by omega⟩ ⟨c.val % 128, Nat.mod_lt _ (by omega)⟩).trans ?_
  refine (cv_second a0 a1 a2 b _ _).trans ?_
  refine app3 _ rfl ?_ ?_
  · rw [Fin.val_rev]
    show 4096 - (n % 64 * 64 + l.val + 1) = ((63 - n) * 64 + (Fin.rev l).val) % 4096
    rw [Fin.val_rev]
    omega
  · show (c.val / 128 * 128 + c.val % 128) = c.val
    omega

/-- The decays of chunk `n` of batch `b`'s sequence. -/
theorem cd_fwd (b : Fin 16) (n : ℕ) (hn : n < 64) : cd (init (F := Ideal) a0 a1 a2) (fwd b) n = dR (bd a2 b) 0 n := by
  funext c
  refine (cd_cut a0 a1 a2 ⟨n % 64, Nat.mod_lt _ (by omega)⟩ (fwd b) ⟨c.val / 64, by omega⟩ ⟨c.val % 64, Nat.mod_lt _ (by omega)⟩).trans ?_
  refine (cd_first a0 a1 a2 b _ _).trans ?_
  refine app3 _ rfl rfl ?_
  show 0 * 256 + (c.val / 64 * 64 + c.val % 64) = 0 * 256 + c.val
  omega

/-- The decays of chunk `n` of its reverse: the chunk from the other end. -/
theorem cd_bwd (b : Fin 16) (n : ℕ) (hn : n < 64) : cd (init (F := Ideal) a0 a1 a2) (bwd b) n = dR (bd a2 b) 1 (63 - n) := by
  funext c
  refine (cd_cut a0 a1 a2 ⟨n % 64, Nat.mod_lt _ (by omega)⟩ (bwd b) ⟨c.val / 64, by omega⟩ ⟨c.val % 64, Nat.mod_lt _ (by omega)⟩).trans ?_
  refine (cd_second a0 a1 a2 b _ _).trans ?_
  refine app3 _ rfl ?_ ?_
  · rw [Fin.val_rev]
    show 64 - (n % 64 + 1) = (63 - n) % 64
    omega
  · show 1 * 256 + (c.val / 64 * 64 + c.val % 64) = 1 * 256 + c.val
    omega

end Cert.Proof.Gla.Ref

end
-- ==== Proof.Gla.Out.lean ====
module

public import proofs.«01_k».proof.Proof.Gla.Init

@[expose] public section

set_option maxRecDepth 16384

noncomputable section

namespace Cert.Proof.Gla.Ref

open Cert.ReferenceIdeal Cert.ReferenceIdeal.Gen Cert.ReferenceIdeal.Step
open Idealize.ShloMosaic Idealize.ShloMosaic.TcCoe

/-- The results of all chunks as sequences of rows. -/
def seqs (O : FVec Ideal S64x32x64x4x128 .f32) : FVec Ideal S32x4096x4x128 .f32 :=
  shapeCast _ (transpose S32x64x64x4x128 [1, 0, 2, 3, 4] O transposes_S64x32x64x4x128_S32x64x64x4x128_1_0_2_3_4) shapeCasts_S32x64x64x4x128_S32x4096x4x128

/-- The two directions added, the backward one put in order. -/
def both (W : FVec Ideal S32x4096x4x128 .f32) : FVec Ideal S16x4096x4x128 .f32 :=
  addf (extractStridedSlice S16x4096x4x128 ![0, 0, 0, 0] W slices_S32x4096x4x128_S16x4096x4x128_0_0_0_0) (Host.reverse [1] (extractStridedSlice S16x4096x4x128 ![16, 0, 0, 0] W slices_S32x4096x4x128_S16x4096x4x128_16_0_0_0))

/-- Each head's row over its root mean square, scaled. -/
def normed (Z : FVec Ideal S16x4096x4x128 .f32) (g : FVec Ideal S128 .f32) : FVec Ideal S16x4096x4x128 .f32 :=
  mulf (mulf Z (broadcastInDim S16x4096x4x128 ![0, 1, 2, 3] bcast_S16x4096x4x1_S16x4096x4x128_0_1_2_3 (Host.rsqrt (addf (Host.divf (broadcastInDim S16x4096x4x1 ![0, 1, 2] bcast_S16x4096x4_S16x4096x4x1_0_1_2 (Host.reduceAdd (mulf Z Z) (constant S_ .f32 0x00000000#32) reducesTo_S16x4096x4x128_S16x4096x4_d3 h_S_)) (broadcastInDim S16x4096x4x1 ![] bcast_S_S16x4096x4x1 (constant S_ .f32 0x43000000#32))) (broadcastInDim S16x4096x4x1 ![] bcast_S_S16x4096x4x1 (constant S_ .f32 0x358637BD#32)))))) (broadcastInDim S16x4096x4x128 ![0, 1, 2, 3] bcast_S1x1x1x128_S16x4096x4x128_0_1_2_3 (broadcastInDim S1x1x1x128 ![3] bcast_S128_S1x1x1x128_3 (g)))

/-- The result, of the outputs of the last trip. -/
theorem result_eq (s : State Ideal) (g : FVec Ideal S128 .f32) :
    R_main_v49 s g = truncf .bf16 (shapeCast S16x4096x512 (normed (both (seqs s.main_v28_7)) g) shapeCasts_S16x4096x4x128_S16x4096x512) bitsLt_bf16_f32 := rfl

/-- The sequences' rows are the chunks' rows, the chunk first. -/
theorem swapBack (O : FVec Ideal S64x32x64x4x128 .f32) (n : Fin 64) (b : Fin 32) (l : Fin 64) (h : Fin 4) (e : Fin 128) :
    transpose S32x64x64x4x128 [1, 0, 2, 3, 4] O transposes_S64x32x64x4x128_S32x64x64x4x128_1_0_2_3_4 (ix5 b n l h e) = O (ix5 n b l h e) := by
  pointwise []

/-- Row `l` of chunk `n` of the sequence at place `b`. -/
theorem seqs_at (O : FVec Ideal S64x32x64x4x128 .f32) (n : Fin 64) (b : Fin 32) (l : Fin 64) (h : Fin 4) (e : Fin 128) :
    seqs O (ix4 b (pos n l) h e) = O (ix5 n b l h e) := by
  unfold seqs
  refine (shapeCast_apply _ shapeCasts_S32x64x64x4x128_S32x4096x4x128 (ix4 b (pos n l) h e) (ix5 b n l h e) ?_).trans (swapBack O n b l h e)
  refine (Shape.rowMajor_val_five _).trans (Eq.trans ?_ (Shape.rowMajor_val_four _).symm)
  show (((b.val * 64 + n.val) * 64 + l.val) * 4 + h.val) * 128 + e.val = ((b.val * 4096 + (n.val * 64 + l.val)) * 4 + h.val) * 128 + e.val
  omega

/-- The two directions added, at an entry. -/
theorem both_at (W : FVec Ideal S32x4096x4x128 .f32) (b : Fin 16) (r : Fin 4096) (h : Fin 4) (e : Fin 128) :
    both W (ix4 b r h e) = W (ix4 (fwd b) r h e) + W (ix4 (bwd b) (Fin.rev r) h e) := by
  unfold fwd bwd
  pointwise [both]
  simp

/-- The scaled row, at an entry. -/
theorem normed_at (Z : FVec Ideal S16x4096x4x128 .f32) (g : FVec Ideal S128 .f32) (b : Fin 16) (r : Fin 4096) (h : Fin 4) (e : Fin 128) :
    normed Z g (ix4 b r h e) = rms (fun e' => Z (ix4 b r h e')) (fun e' => g (ix1 e')) e := by
  unfold rms
  pointwise [normed]
  done

/-- The reverse of a row is the row in reverse of the chunk in reverse. -/
theorem rev_pos (n l : Fin 64) : Fin.rev (pos n l) = pos (Fin.rev n) (Fin.rev l) := by
  apply Fin.ext
  rw [Fin.val_rev]
  show 4096 - (n.val * 64 + l.val + 1) = (Fin.rev n).val * 64 + (Fin.rev l).val
  rw [Fin.val_rev, Fin.val_rev]
  omega

/-- The state before a chunk depends on the chunks before it. -/
theorem St_congr {K K' : ℕ → Rows 256} {V V' : ℕ → Rows 512} {D D' : ℕ → Fin 256 → EReal} (n : ℕ) (hK : ∀ j < n, K j = K' j) (hV : ∀ j < n, V j = V' j) (hD : ∀ j < n, D j = D' j) :
    St K V D n = St K' V' D' n := by
  induction n with
  | zero => rfl
  | succ n ih =>
    unfold St
    rw [ih (fun j hj => hK j (by omega)) (fun j hj => hV j (by omega)) (fun j hj => hD j (by omega)), hK n (by omega), hV n (by omega), hD n (by omega)]

variable (a0 : FVec Ideal S16x4096x1024 .bf16) (a1 : FVec Ideal S16x4096x512 .bf16) (a2 : FVec Ideal S16x64x512 .f32) (a3 : FVec Ideal S128 .f32)

/-- The first state is zero. -/
theorem init_zero (b : Fin 32) : cs (init (F := Ideal) a0 a1 a2) b = fun _ _ _ => 0 := by
  funext h y e
  unfold cs init
  pointwise [K_main_v20, K_main_cst]

/-- What the last trip leaves of a batch's sequence. -/
theorem forward_at (b : Fin 16) (n l : Fin 64) (h : Fin 4) (e : Fin 128) :
    (show FVec Ideal S64x32x64x4x128 .f32 from (trips (init (F := Ideal) a0 a1 a2) 64).main_v28_7) (ix5 n (fwd b) l h e)
      = intra (fun l m => m ≤ l) (gqR (bx a0 b) 0 n) (gqR (bx a0 b) 1 n) (vR (bw a1 b) n) l h e + inter (gqR (bx a0 b) 0 n) (SF (bx a0 b) (bw a1 b) (bd a2 b) n) l h e := by
  refine ((scan _ (init_zero a0 a1 a2) 64 (le_refl _)).2.2.2.2.2 n (fwd b) l h e n.isLt).trans ?_
  rw [cq_fwd a0 a1 a2 b n n.isLt, ck_fwd a0 a1 a2 b n n.isLt, cv_fwd a0 a1 a2 b n n.isLt,
    St_congr n.val (fun j hj => ck_fwd a0 a1 a2 b j (by omega)) (fun j hj => cv_fwd a0 a1 a2 b j (by omega)) (fun j hj => cd_fwd a0 a1 a2 b j (by omega))]
  rfl

/-- What the last trip leaves of its reverse. -/
theorem backward_at (b : Fin 16) (n l : Fin 64) (h : Fin 4) (e : Fin 128) :
    (show FVec Ideal S64x32x64x4x128 .f32 from (trips (init (F := Ideal) a0 a1 a2) 64).main_v28_7) (ix5 (Fin.rev n) (bwd b) (Fin.rev l) h e)
      = intra (fun l m => l ≤ m) (gqR (bx a0 b) 2 n) (gqR (bx a0 b) 3 n) (vR (bw a1 b) n) l h e + newB (bx a0 b) (bw a1 b) (bd a2 b) n l h e := by
  refine ((scan _ (init_zero a0 a1 a2) 64 (le_refl _)).2.2.2.2.2 (Fin.rev n) (bwd b) (Fin.rev l) h e (Fin.rev n).isLt).trans ?_
  have r : (Fin.rev n).val = 63 - n.val := by rw [Fin.val_rev]; omega
  have r' : 63 - (63 - n.val) = n.val := by omega
  rw [r, cq_bwd a0 a1 a2 b _ (by omega), ck_bwd a0 a1 a2 b _ (by omega), cv_bwd a0 a1 a2 b _ (by omega),
    St_congr (63 - n.val) (fun j hj => ck_bwd a0 a1 a2 b j (by omega)) (fun j hj => cv_bwd a0 a1 a2 b j (by omega)) (fun j hj => cd_bwd a0 a1 a2 b j (by omega)),
    r', intra_rev, inter_rev, Fin.rev_rev]
  refine congrArg _ ?_
  exact congrArg (fun S => inter (gqR (bx a0 b) 2 n) S l h e) (St_rev _ _ _ _)

/-- The reference's result, at row `l` of chunk `n`, column `e` of head `h`. -/
theorem result_at (b : Fin 16) (n l : Fin 64) (h : Fin 4) (e : Fin 128) :
    (show FVec Ideal S16x4096x512 .bf16 from R_main_v49 (trips (init (F := Ideal) a0 a1 a2) 64) a3) (ix3 b (pos n l) (vl h e))
      = outSpec (bx a0 b) (bw a1 b) (bd a2 b) (fun e' => a3 (ix1 e')) n l h e := by
  rw [result_eq]
  refine (shapeCast_apply (normed (both (seqs _)) a3) shapeCasts_S16x4096x4x128_S16x4096x512 (ix3 b (pos n l) (vl h e)) (ix4 b (pos n l) h e) ?_).trans ?_
  · refine (Shape.rowMajor_val_four _).trans (Eq.trans ?_ (Shape.rowMajor_val_three _).symm)
    show ((b.val * 4096 + (n.val * 64 + l.val)) * 4 + h.val) * 128 + e.val = (b.val * 4096 + (n.val * 64 + l.val)) * 512 + (h.val * 128 + e.val)
    omega
  · refine (normed_at _ a3 b (pos n l) h e).trans ?_
    unfold outSpec
    refine congrArg (fun o => rms o (fun e' => a3 (ix1 e')) e) (funext fun e' => ?_)
    rw [both_at, rev_pos, seqs_at, seqs_at]
    refine (congrArg₂ (· + ·) (forward_at a0 a1 a2 b n l h e') (backward_at a0 a1 a2 b n l h e')).trans ?_
    unfold newF
    abel

end Cert.Proof.Gla.Ref

end
-- ==== Proof.Gla.Loop.lean ====
module

public import proofs.«01_k».proof.Proof.Gen.ReferenceIdeal.Run
public import proofs.«01_k».proof.Proof.Gla.Out

@[expose] public section

set_option maxRecDepth 16384

noncomputable section

namespace Cert.Proof.Gla.Ref

open Cert.ReferenceIdeal Cert.ReferenceIdeal.Gen Cert.ReferenceIdeal.Step Cert.ReferenceIdeal.Value
open Idealize.ShloMosaic Idealize.ShloMosaic.TcCoe Idealize.ShloMosaic.Tactic Idealize.ShloMosaic.StableHlo Idealize.SL.Sem

/-- The buffers the loop carries hold trip `j`'s state. -/
structure Holds (V : Valuation τ sig (Elt Ideal)) (j : ℕ) (s : State Ideal) : Prop where
  f0 : V (Proc.devRef .tc main_v28_0) = s.main_v28_0
  f1 : V (Proc.devRef .tc main_v28_1) = s.main_v28_1
  f2 : V (Proc.devRef .tc main_v28_2) = s.main_v28_2
  f3 : V (Proc.devRef .tc main_v28_3) = s.main_v28_3
  f6 : V (Proc.devRef .tc main_v28_6) = s.main_v28_6
  f7 : V (Proc.devRef .tc main_v28_7) = s.main_v28_7
  f4 : V (Proc.devRef .tc main_v28_4) = K_main_v17 (F := Ideal)
  f5 : V (Proc.devRef .tc main_v28_5) = constantI S_ 32 (BitVec.ofNat 32 j)

/-- A trip takes one state to the next. -/
theorem holds_step (V : Valuation τ sig (Elt Ideal)) (j : ℕ) (s : State Ideal) (h : Holds V j s) : Holds (STEP V) (j + 1) (step j s) where
  f0 := (STEP_main_v28_0 V).trans h.f0
  f1 := (STEP_main_v28_1 V).trans h.f1
  f2 := (STEP_main_v28_2 V).trans h.f2
  f3 := (STEP_main_v28_3 V).trans h.f3
  f6 := by
    refine (STEP_main_v28_6 V).trans ?_
    unfold Value.step_main_v28_6 res_main_while0b_v51 res_main_while0b_v52 res_main_while0b_v53
    rw [h.f1, h.f2, h.f3, h.f5, h.f6]
    rfl
  f7 := by
    refine (STEP_main_v28_7 V).trans ?_
    unfold Value.step_main_v28_7 res_main_while0b_v50 res_main_while0b_v51 res_main_while0b_v52
    rw [h.f0, h.f1, h.f2, h.f4, h.f5, h.f6, h.f7]
    rfl
  f4 := (STEP_main_v28_4 V).trans h.f4
  f5 := by
    refine (STEP_main_v28_5 V).trans ?_
    unfold Value.step_main_v28_5
    rw [h.f5]
    exact funext fun _ => BitVec.ofNat_add_ofNat ..

variable (m : (ℓ : Loc nD τ sig) → Buf (Elt Ideal) ℓ)

/-- The arguments, as arrays. -/
def arg0 (c : Dev nD) : FVec Ideal S16x4096x1024 .bf16 := m ((c.tc : Thread nD τ).loc main_arg0)
/-- The values, as launched. -/
def arg1 (c : Dev nD) : FVec Ideal S16x4096x512 .bf16 := m ((c.tc : Thread nD τ).loc main_arg1)
/-- The decays, as launched. -/
def arg2 (c : Dev nD) : FVec Ideal S16x64x512 .f32 := m ((c.tc : Thread nD τ).loc main_arg2)
/-- The scale, as launched. -/
def arg3 (c : Dev nD) : FVec Ideal S128 .f32 := m ((c.tc : Thread nD τ).loc main_arg3)

set_option maxHeartbeats 1000000 in
/-- The loop starts with the first array it slices, computed before it. -/
theorem entry_0 (c : Dev nD) : entryContents preI m c (Proc.devRef .tc main_v28_0) = A_main_v22 (arg0 m c) (arg1 m c) (arg2 m c) := by
  simp only [entryContents, afterL_cons, afterL_nil]
  after_reads_simp
  first | rfl | sl_kernel_rfl

set_option maxHeartbeats 1000000 in
/-- With the second. -/
theorem entry_1 (c : Dev nD) : entryContents preI m c (Proc.devRef .tc main_v28_1) = A_main_v24 (arg0 m c) (arg1 m c) (arg2 m c) := by
  simp only [entryContents, afterL_cons, afterL_nil]
  after_reads_simp
  first | rfl | sl_kernel_rfl

set_option maxHeartbeats 1000000 in
/-- With the third. -/
theorem entry_2 (c : Dev nD) : entryContents preI m c (Proc.devRef .tc main_v28_2) = A_main_v26 (arg0 m c) (arg1 m c) (arg2 m c) := by
  simp only [entryContents, afterL_cons, afterL_nil]
  after_reads_simp
  first | rfl | sl_kernel_rfl

set_option maxHeartbeats 1000000 in
/-- With the fourth. -/
theorem entry_3 (c : Dev nD) : entryContents preI m c (Proc.devRef .tc main_v28_3) = A_main_v19 (arg0 m c) (arg1 m c) (arg2 m c) := by
  simp only [entryContents, afterL_cons, afterL_nil]
  after_reads_simp
  first | rfl | sl_kernel_rfl

set_option maxHeartbeats 1000000 in
/-- With the constant it carries. -/
theorem entry_4 (c : Dev nD) : entryContents preI m c (Proc.devRef .tc main_v28_4) = K_main_v17 (F := Ideal) := by
  simp only [entryContents, afterL_cons, afterL_nil]
  after_reads_simp
  first | rfl | sl_kernel_rfl

set_option maxHeartbeats 1000000 in
/-- With the state at zero. -/
theorem entry_6 (c : Dev nD) : entryContents preI m c (Proc.devRef .tc main_v28_6) = K_main_v20 (F := Ideal) := by
  simp only [entryContents, afterL_cons, afterL_nil]
  after_reads_simp
  first | rfl | sl_kernel_rfl

set_option maxHeartbeats 1000000 in
/-- With the outputs at zero. -/
theorem entry_7 (c : Dev nD) : entryContents preI m c (Proc.devRef .tc main_v28_7) = K_main_v27 (F := Ideal) := by
  simp only [entryContents, afterL_cons, afterL_nil]
  after_reads_simp
  first | rfl | sl_kernel_rfl

/-- The loop starts from the first state. -/
theorem holds_init (c : Dev nD) : Holds (entryContents preI m c) 0 (init (F := Ideal) (arg0 m c) (arg1 m c) (arg2 m c)) where
  f0 := entry_0 m c
  f1 := entry_1 m c
  f2 := entry_2 m c
  f3 := entry_3 m c
  f6 := entry_6 m c
  f7 := entry_7 m c
  f4 := entry_4 m c
  f5 := ctr_entry m c

/-- Before trip `k` the buffers hold the state before it. -/
theorem holds_trips (c : Dev nD) (k : ℕ) : Holds (STEP^[k] (entryContents preI m c)) k (trips (init (F := Ideal) (arg0 m c) (arg1 m c) (arg2 m c)) k) := by
  induction k with
  | zero => exact holds_init m c
  | succ k ih =>
    rw [Function.iterate_succ_apply']
    exact holds_step _ k _ ih

/-- The run's result is the last state's. -/
theorem out_eq (c : Dev nD) : out_main_v49 (STEP^[64] (entryContents preI m c)) = R_main_v49 (trips (init (F := Ideal) (arg0 m c) (arg1 m c) (arg2 m c)) 64) (arg3 m c) := by
  unfold out_main_v49
  rw [(holds_trips m c 64).f7, iter_main_arg3 m c 64]
  rfl

end Cert.Proof.Gla.Ref

end
-- ==== Proof.Gla.Final.lean ====
/- The gated linear attention: the kernel's result array is the reference's. -/
module

public import proofs.«01_k».proof.Defs
public import proofs.«01_k».proof.Proof.Gla.Frame
public import proofs.«01_k».proof.Proof.Gla.Inv
public import proofs.«01_k».proof.Proof.Gla.Consts
public import proofs.«01_k».proof.Proof.Gla.Loop
public import Idealize.ShloMosaic.Lib.Pipeline.ValueKit
public import Idealize.ShloMosaic.Lib.Claim

@[expose] public section

set_option maxRecDepth 16384

noncomputable section

namespace Cert.Proof.Gla

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The queries and keys, as launched. -/
def qk (c : Dev nD) : FVec Ideal S16x4096x1024 .bf16 := m ((c : Thread nD τ).loc main_arg0)
/-- The values, as launched. -/
def vals (c : Dev nD) : FVec Ideal S16x4096x512 .bf16 := m ((c : Thread nD τ).loc main_arg1)
/-- The decays, as launched. -/
def decays (c : Dev nD) : FVec Ideal S16x64x512 .f32 := m ((c : Thread nD τ).loc main_arg2)
/-- The scale of the norm, as launched. -/
def scale (c : Dev nD) : FVec Ideal S128 .f32 := m ((c : Thread nD τ).loc main_arg3)

/-- The chunk of a row. -/
def chunkOf (r : Fin 4096) : Fin 64 := ⟨r.val / 64, by omega⟩
/-- A row's place in its chunk. -/
def placeOf (r : Fin 4096) : Fin 64 := ⟨r.val % 64, by omega⟩
/-- The head of a column. -/
def headOf (k : Fin 512) : Fin 4 := ⟨k.val / 128, by omega⟩
/-- A column's place in its head. -/
def colOf (k : Fin 512) : Fin 128 := ⟨k.val % 128, by omega⟩

/-- A row is its place in its chunk. -/
theorem row_chunk (r : Fin 4096) : row (chunkOf r) (placeOf r) = r :=
  Fin.ext (by show r.val / 64 * 64 + r.val % 64 = r.val; omega)
/-- A column is its place in its head. -/
theorem vl_head (k : Fin 512) : vl (headOf k) (colOf k) = k :=
  Fin.ext (by show k.val / 128 * 128 + k.val % 128 = k.val; omega)

/-- What the result array should hold at batch `b`, row `r`, column `k`. -/
def target (c : Dev nD) : FVec Ideal S16x4096x512 .bf16 := fun i =>
  outSpec (Ref.bx (qk m c) (i 0)) (Ref.bw (vals m c) (i 0)) (Ref.bd (decays m c) (i 0)) (fun e' => scale m c (ix1 e'))
    (chunkOf (i 1)).val (placeOf (i 1)) (headOf (i 2)) (colOf (i 2))

/-- The run: the result array block by block, the arguments unchanged. -/
theorem run_blocks : θ_run defs (onTc (τ := τ) (main (F := Ideal))) ⟨m, fun _ => 0, ρ⟩ fun r => ∀ c : Dev nD,
      r.2.mem ((c : Thread nD τ).loc main_v1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

/-- Where each window's block lies at each grid point. -/
theorem idx : ∀ t : Fin cfg0.N, win0_0.index t = ![t.val, 0, 0] ∧ win0_1.index t = ![t.val, 0, 0] ∧ win0_2.index t = ![t.val, 0, 0] ∧ win0_3.index t = ![0, 0]
    ∧ win0_4.index t = ![0, 0] ∧ win0_5.index t = ![0, 0] ∧ win0_6.index t = ![0, 0] ∧ win0_7.index t = ![0, 0] ∧ win0_8.index t = ![t.val, 0, 0] :=
  (by decide +kernel : ∀ t : Fin grid0.N, _)

/-- Window 4's array is a constant. -/
theorem lower_entry (c : Dev nD) : (show FVec Ideal S64x256 .f32 from V m c main_cst) = fun i => FloatOps.ofBits .f32 (lit0 (S64x256.rowMajor i)) := by
  rfl

/-- Window 4's block is its array. -/
theorem lower_block (c : Dev nD) (t : Fin cfg0.N) : (show FVec Ideal S64x256 .f32 from iblk m c 4 t) = (show FVec Ideal S64x256 .f32 from V m c main_cst) := by
  funext i
  have e : (win0_4.blk t).view.emb (i : S64x256.Idx) = (i : S64x256.Idx) := by
    blk_ext [idx t]
  exact congrArg (show FVec Ideal S64x256 .f32 from V m c main_cst) e

/-- Window 4's block is the mask it should be. -/
theorem lower_mask (c : Dev nD) (t : Fin cfg0.N) : IsMsk (fun l m => m ≤ l) (show FVec Ideal S64x256 .f32 from iblk m c 4 t) := by
  rw [lower_block, lower_entry]
  exact Masks.isLower

/-- Window 5's array is a constant. -/
theorem upper_entry (c : Dev nD) : (show FVec Ideal S64x256 .f32 from V m c main_cst_0) = fun i => FloatOps.ofBits .f32 (lit1 (S64x256.rowMajor i)) := by
  rfl

/-- Window 5's block is its array. -/
theorem upper_block (c : Dev nD) (t : Fin cfg0.N) : (show FVec Ideal S64x256 .f32 from iblk m c 5 t) = (show FVec Ideal S64x256 .f32 from V m c main_cst_0) := by
  funext i
  have e : (win0_5.blk t).view.emb (i : S64x256.Idx) = (i : S64x256.Idx) := by
    blk_ext [idx t]
  exact congrArg (show FVec Ideal S64x256 .f32 from V m c main_cst_0) e

/-- Window 5's block is the mask it should be. -/
theorem upper_mask (c : Dev nD) (t : Fin cfg0.N) : IsMsk (fun l m => l ≤ m) (show FVec Ideal S64x256 .f32 from iblk m c 5 t) := by
  rw [upper_block, upper_entry]
  exact Masks.isUpper

/-- Window 6's array is a constant. -/
theorem keys_entry (c : Dev nD) : (show FVec Ideal S256x256 .bf16 from V m c main_cst_1) = fun i => FloatOps.ofBits .bf16 (lit2 (S256x256.rowMajor i)) := by
  rfl

/-- Window 6's block is its array. -/
theorem keys_block (c : Dev nD) (t : Fin cfg0.N) : (show FVec Ideal S256x256 .bf16 from iblk m c 6 t) = (show FVec Ideal S256x256 .bf16 from V m c main_cst_1) := by
  funext i
  have e : (win0_6.blk t).view.emb (i : S256x256.Idx) = (i : S256x256.Idx) := by
    blk_ext [idx t]
  exact congrArg (show FVec Ideal S256x256 .bf16 from V m c main_cst_1) e

/-- Window 6's block is the mask it should be. -/
theorem keys_mask (c : Dev nD) (t : Fin cfg0.N) : IsMkk (show FVec Ideal S256x256 .bf16 from iblk m c 6 t) := by
  rw [keys_block, keys_entry]
  exact Masks.isMkk

/-- Window 7's array is a constant. -/
theorem values_entry (c : Dev nD) : (show FVec Ideal S256x512 .bf16 from V m c main_cst_2) = fun i => FloatOps.ofBits .bf16 (lit3 (S256x512.rowMajor i)) := by
  rfl

/-- Window 7's block is its array. -/
theorem values_block (c : Dev nD) (t : Fin cfg0.N) : (show FVec Ideal S256x512 .bf16 from iblk m c 7 t) = (show FVec Ideal S256x512 .bf16 from V m c main_cst_2) := by
  funext i
  have e : (win0_7.blk t).view.emb (i : S256x512.Idx) = (i : S256x512.Idx) := by
    blk_ext [idx t]
  exact congrArg (show FVec Ideal S256x512 .bf16 from V m c main_cst_2) e

/-- Window 7's block is the mask it should be. -/
theorem values_mask (c : Dev nD) (t : Fin cfg0.N) : IsMkv (show FVec Ideal S256x512 .bf16 from iblk m c 7 t) := by
  rw [values_block, values_entry]
  exact Masks.isMkv

/-- The block of queries and keys at point `t` is batch `t`. -/
theorem tok_read (c : Dev nD) (t : Fin cfg0.N) (b : Fin 16) (hb : b.val = t.val) : tok (iblk m c 0 t) = Ref.bx (qk m c) b := by
  funext r k
  show (show FVec Ideal S1x4096x1024 .bf16 from iblk m c 0 t) (ix3 0 r k) = qk m c (ix3 b r k)
  unfold qk
  blk_ext [iblk, V, idx t]

/-- The block of values at point `t` is batch `t`. -/
theorem tokV_read (c : Dev nD) (t : Fin cfg0.N) (b : Fin 16) (hb : b.val = t.val) : tokV (iblk m c 1 t) = Ref.bw (vals m c) b := by
  funext r k
  show (show FVec Ideal S1x4096x512 .bf16 from iblk m c 1 t) (ix3 0 r k) = vals m c (ix3 b r k)
  unfold vals
  blk_ext [iblk, V, idx t]

/-- The block of decays at point `t` is batch `t`. -/
theorem tokD_read (c : Dev nD) (t : Fin cfg0.N) (b : Fin 16) (hb : b.val = t.val) : tokD (iblk m c 2 t) = Ref.bd (decays m c) b := by
  funext r k
  show (show FVec Ideal S1x64x512 .f32 from iblk m c 2 t) (ix3 0 r k) = decays m c (ix3 b r k)
  unfold decays
  blk_ext [iblk, V, idx t]

/-- The scale's block is the argument. -/
theorem scale_read (c : Dev nD) (t : Fin cfg0.N) (e' : Fin 128) : (show FVec Ideal S1x128 .f32 from iblk m c 3 t) (ix2 0 e') = scale m c (ix1 e') := by
  unfold iblk
  entry_read
  have e : (win0_3.blk t).view.emb (ix2 0 e' : S1x128.Idx) = (ix2 0 e' : S1x128.Idx) := by
    blk_ext [idx t]
  show shapeCast S1x128 (show FVec Ideal S128 .f32 from m ((c : Thread nD τ).loc main_arg3)) shapeCasts_S128_S1x128 ((win0_3.blk t).view.emb (ix2 0 e' : S1x128.Idx)) = _
  rw [e]
  unfold scale
  pointwise

/-- What the body leaves of the result at point `t`, entry by entry. -/
theorem out_at (c : Dev nD) (t : Fin cfg0.N) (b : Fin 16) (hb : b.val = t.val) (r : Fin 4096) (k : Fin 512) :
    (show FVec Ideal S1x4096x512 .bf16 from outAt m c t) (ix3 0 r k)
      = outSpec (Ref.bx (qk m c) b) (Ref.bw (vals m c) b) (Ref.bd (decays m c) b) (fun e' => scale m c (ix1 e')) (chunkOf r).val (placeOf r) (headOf k) (colOf k) := by
  have s : (fun e' => (show FVec Ideal S1x128 .f32 from iblk m c 3 t) (ix2 0 e')) = fun e' => scale m c (ix1 e') := funext fun e' => scale_read m c t e'
  have h := L9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t)
    (lower_mask m c t) (upper_mask m c t) (keys_mask m c t) (values_mask m c t) (chunkOf r) (placeOf r) (headOf k) (colOf k)
  rw [row_chunk, vl_head, tok_read m c t b hb, tokV_read m c t b hb, tokD_read m c t b hb] at h
  rw [← s]
  unfold outAt outBlock
  rw [View.read_writes_junk_eq_canon]
  exact h

/-- The kernel's result array. -/
theorem final (c : Dev nD) : (dats m 0 c).arrAt 8 cfg0.N = target m c := by
  refine (dats m 0 c).arrAt_eq_of_covers 8 _ (by decide +kernel) fun t _ y => ?_
  blk_simp
  rw [after0_8]
  idx_vars y
  obtain rfl : y0 = 0 := Subsingleton.elim _ _
  refine (out_at m c t ⟨t.val, t.isLt⟩ rfl y1 y2).trans ?_
  have e : ((cfg0.win 8).blk t).view.emb (ix3 0 y1 y2 : S1x4096x512.Idx) = (ix3 (⟨t.val, t.isLt⟩ : Fin 16) y1 y2 : S16x4096x512.Idx) := by
    blk_ext [idx t]
  exact (congrArg (target m c) e).symm

/-- The kernel's result array is the reference's. -/
theorem algebraic : Cert.algebraic_KernelIdeal_ReferenceIdeal := by
  pair_intro
  · run_from run_blocks m g
  · refine θ_run_mono (Cert.ReferenceIdeal.Value.run m' g') fun r h c => ?_
    obtain ⟨h0, h1, h2, h3⟩ := hagree c
    obtain ⟨q, k⟩ := h c
    refine ⟨q.trans ((Ref.out_eq m' c).trans (Eq.trans ?_ (final m c).symm)), k⟩
    have e0 : Ref.arg0 m' c = qk m c := h0
    have e1 : Ref.arg1 m' c = vals m c := h1
    have e2 : Ref.arg2 m' c = decays m c := h2
    have e3 : Ref.arg3 m' c = scale m c := h3
    rw [e0, e1, e2, e3]
    funext i
    idx_vars i
    have h := Ref.result_at (qk m c) (vals m c) (decays m c) (scale m c) i0 (chunkOf i1) (placeOf i1) (headOf i2) (colOf i2)
    have p : Ref.pos (chunkOf i1) (placeOf i1) = i1 := row_chunk i1
    rw [p, vl_head] at h
    exact h

end Cert.Proof.Gla

end
-- ==== Proof.Gla.FrameBits.lean ====
module

public import proofs.«01_k».proof.Proof.Gla.Frame
public import proofs.«01_k».proof.Proof.Gen.Kernel.Launch
public import Idealize.ShloMosaic.PureOps.BitExact

@[expose] public section

set_option maxRecDepth 16384

noncomputable section

namespace Cert.Proof.Gla

open Cert.Kernel Cert.Kernel.Gen Idealize.ShloMosaic.Tactic
open Idealize.ShloMosaic Idealize.ShloMosaic.TcCoe
open Idealize.SL Idealize.SL.Sem

/-- The frame of the program as it runs on the machine's numbers: its text is the idealised program's, so the run just
    made, taken at those numbers, is its run. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  cast (by sl_kernel_rfl) (Cert.Proof.Gla.frame (F := Bits) m ρ)

end Cert.Proof.Gla

end
-- ==== Proof.Ffn.Spec.lean ====
/- The feed-forward part of the layer, one row at a time, over the extended reals: what the kernel's four
   row pieces store and what the plain reference computes, both as ONE function of a row whose activation
   is a parameter. -/
module

public import proofs.«01_k».proof.Proof.Gen.FfnKernelIdeal.Skeleton
public import proofs.«01_k».proof.Proof.Gen.FfnReferenceIdeal.Read
public import Idealize.ShloMosaic.Lib.Pointwise

@[expose] public section

set_option maxRecDepth 16384

noncomputable section

namespace Cert.Proof.Ffn

open Idealize.ShloMosaic Idealize.ShloMosaic.TcCoe Idealize.SL.Sem

/-- The gate activation as the kernel computes it: with `h` half the argument, `h · tanh h + h`. -/
def gateTanh (z : EReal) : EReal :=
  Ideal.ofBits .f32 0x3F000000#32 * z * Ideal.tanh (Ideal.ofBits .f32 0x3F000000#32 * z) + Ideal.ofBits .f32 0x3F000000#32 * z

/-- The gate activation as the reference computes it: the argument times one over one plus the exponential of its
    negation. -/
def gateExp (z : EReal) : EReal := z * Ideal.div 1 (1 + Ideal.exp (-z))

/-- The gate's pre-activation of hidden unit `l`: the row against column `l` of the gate matrix. -/
def gateIn (x : Fin 1024 → EReal) (wg : Fin 1024 → Fin 2816 → EReal) (l : Fin 2816) : EReal := ∑ k, x k * wg k l

/-- The row plus its feed-forward image, before normalisation, at channel `c`. -/
def resid (act : EReal → EReal) (x : Fin 1024 → EReal) (wg wu : Fin 1024 → Fin 2816 → EReal) (wd : Fin 2816 → Fin 1024 → EReal) (c : Fin 1024) : EReal :=
  Ideal.ofBits .f32 0x3FD744FD#32 * x c + ∑ l, act (gateIn x wg l) * gateIn x wu l * wd l c

/-- The same with the row's mean taken off. -/
def centred (act : EReal → EReal) (x : Fin 1024 → EReal) (wg wu : Fin 1024 → Fin 2816 → EReal) (wd : Fin 2816 → Fin 1024 → EReal) (c : Fin 1024) : EReal :=
  resid act x wg wu wd c - Ideal.div (∑ d, resid act x wg wu wd d) (Ideal.ofBits .f32 0x44800000#32)

/-- The layer's result at channel `c` of one row: the centred row over its deviation, scaled and shifted. -/
def out (act : EReal → EReal) (x : Fin 1024 → EReal) (wg wu : Fin 1024 → Fin 2816 → EReal) (wd : Fin 2816 → Fin 1024 → EReal) (g b : Fin 1024 → EReal) (c : Fin 1024) : EReal :=
  centred act x wg wu wd c
    * Ideal.rsqrt (Ideal.div (∑ d, centred act x wg wu wd d * centred act x wg wu wd d) (Ideal.ofBits .f32 0x44800000#32)
        + Ideal.ofBits .f32 0x3727C5AC#32) * g c + b c

section Kernel
open Cert.FfnKernelIdeal Cert.FfnKernelIdeal.Gen

variable (x : FVec Ideal S1x256x1024 .f32) (wg wu : FVec Ideal S1024x2816 .bf16) (wd : FVec Ideal S2816x1024 .bf16) (g b : FVec Ideal S1x1024 .f32) (r : Fin 256) (l : Fin 1024)

/-- What a row piece should hold at row `r`, channel `l`. -/
def pieceOut : EReal :=
  out gateTanh (fun k => x (ix3 0 r k)) (fun k l => wg (ix2 k l)) (fun k l => wu (ix2 k l)) (fun l c => wd (ix2 l c))
    (fun c => g (ix2 0 c)) (fun c => b (ix2 0 c)) l

/-- The first row piece. -/
theorem piece0 : k0_pay7 (F := Ideal) (k0_pay2 g) (k0_pay3 b) (k0_pay4 x wg wu wd) (k0_pay5 x wg wu wd) k0_pay6 (ix3 0 r l)
    = pieceOut x wg wu wd g b r l := by
  pointwise [k0_pay7, k0_pay2, k0_pay3, k0_pay5, k0_pay6, k0_pay4, pieceOut, out, centred, resid, gateIn, gateTanh]

/-- The second row piece. -/
theorem piece1 : k0_pay10 (F := Ideal) (k0_pay8 x wg wu wd) (k0_pay9 g) b (ix3 0 r l) = pieceOut x wg wu wd g b r l := by
  pointwise [k0_pay10, k0_pay8, k0_pay9, pieceOut, out, centred, resid, gateIn, gateTanh]

/-- The third row piece. -/
theorem piece2 : k0_pay13 (F := Ideal) (k0_pay11 x) (k0_pay12 x wg wu) wd g b (ix3 0 r l) = pieceOut x wg wu wd g b r l := by
  pointwise [k0_pay13, k0_pay11, k0_pay12, pieceOut, out, centred, resid, gateIn, gateTanh]

/-- The fourth row piece. -/
theorem piece3 : k0_pay1 (F := Ideal) (k0_pay17 (k0_pay14 x) (k0_pay15 x) (k0_pay16 wg) wu wd g b) (ix3 0 r l)
    = pieceOut x wg wu wd g b r l := by
  pointwise [k0_pay1, k0_pay17, k0_pay14, k0_pay15, k0_pay16, pieceOut, out, centred, resid, gateIn, gateTanh]

end Kernel

section Reference
open Cert.FfnReferenceIdeal Cert.FfnReferenceIdeal.Read

variable (x : FVec Ideal S16x4096x1024 .f32) (wg wu : FVec Ideal S1024x2816 .f32) (wd : FVec Ideal S2816x1024 .f32) (g b : FVec Ideal S1024 .f32)

/-- The reference's result at batch `a`, token `r`, channel `l`. -/
theorem ref_at (a : Fin 16) (r : Fin 4096) (l : Fin 1024) : val_main_v31 (F := Ideal) x wg wu wd g b (ix3 a r l)
    = out gateExp (fun k => x (ix3 a r k)) (fun k l => wg (ix2 k l)) (fun k l => wu (ix2 k l)) (fun l c => wd (ix2 l c))
        (fun c => g (ix1 c)) (fun c => b (ix1 c)) l := by
  pointwise [val_main_v0, val_main_call0_v0, val_main_call0_v1, val_main_call0_cst, val_main_call0_v2, val_main_call0_v3, val_main_call0_cst_0, val_main_call0_v4, val_main_call0_v5, val_main_v1, val_main_v2, val_main_v3, val_main_v4, val_main_cst, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31, out, centred, resid, gateIn, gateExp]

end Reference

/-- The constant one half. -/
theorem half_val : Ideal.ofBits .f32 0x3F000000#32 = (((1 : ℝ) / 2 : ℝ) : EReal) := by
  simp [Ideal.ofBits, Ideal.ieee, -EReal.coe_mul]
  norm_num

/-- The identity of the two activations on the reals. -/
theorem gate_real (r : ℝ) : 1 / 2 * r * Real.tanh (1 / 2 * r) + 1 / 2 * r = r * (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have f : Real.exp (1 / 2 * r) * Real.exp (-(1 / 2 * r)) = 1 := by rw [← Real.exp_add]; simp
  rw [e]
  have p := Real.exp_pos (1 / 2 * r)
  have q := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  linear_combination (2 * r * b) * f

/-- Away from minus infinity the two forms of the activation agree. -/
theorem gate_eq (z : EReal) (h : z ≠ ⊥) : gateTanh z = gateExp z := by
  unfold gateTanh gateExp
  rw [half_val]
  induction z using EReal.rec with
  | bot => exact absurd rfl h
  | top =>
    rw [EReal.coe_mul_top_of_pos (by norm_num)]
    show ⊤ * (1 : EReal) + ⊤ = ⊤ * Ideal.div 1 (1 + (0 : EReal))
    simp [Ideal.div]
  | coe r =>
    have hp : (1 + Real.exp (-r)) ≠ 0 := by positivity
    have hd : Ideal.div 1 (1 + Ideal.exp (-(r : EReal))) = (((1 + Real.exp (-r))⁻¹ : ℝ) : EReal) := by
      show Ideal.div 1 (1 + ((Real.exp (-r) : ℝ) : EReal)) = _
      rw [← EReal.coe_one, ← EReal.coe_add]
      unfold Ideal.div
      rw [if_neg (by exact_mod_cast hp), EReal.coe_one, one_mul, EReal.coe_inv]
    rw [hd]
    have ht : Ideal.tanh (((1 / 2 : ℝ) : EReal) * (r : EReal)) = ((Real.tanh (1 / 2 * r) : ℝ) : EReal) := by
      rw [← EReal.coe_mul]; rfl
    rw [ht]
    exact_mod_cast congrArg (fun t : ℝ => (t : EReal)) (gate_real r)

/-- A sum of reals, taken among the extended reals. -/
theorem coe_sum_real {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A finite row against a finite matrix is finite, so not minus infinity. -/
theorem gateIn_ne_bot (x : Fin 1024 → EReal) (wg : Fin 1024 → Fin 2816 → EReal) (l : Fin 2816)
    (hx : ∀ k, x k ≠ ⊤ ∧ x k ≠ ⊥) (hw : ∀ k, wg k l ≠ ⊤ ∧ wg k l ≠ ⊥) : gateIn x wg l ≠ ⊥ := by
  have e : gateIn x wg l = ((∑ k, (x k).toReal * (wg k l).toReal : ℝ) : EReal) := by
    unfold gateIn
    rw [coe_sum_real]
    refine Finset.sum_congr rfl fun k _ => ?_
    rw [EReal.coe_mul, EReal.coe_toReal (hx k).1 (hx k).2, EReal.coe_toReal (hw k).1 (hw k).2]
  rw [e]
  exact EReal.coe_ne_bot _

/-- On a finite row with a finite gate matrix the kernel's activation may be replaced by the reference's. -/
theorem out_eq (x : Fin 1024 → EReal) (wg wu : Fin 1024 → Fin 2816 → EReal) (wd : Fin 2816 → Fin 1024 → EReal) (g b : Fin 1024 → EReal) (c : Fin 1024)
    (hx : ∀ k, x k ≠ ⊤ ∧ x k ≠ ⊥) (hw : ∀ k l, wg k l ≠ ⊤ ∧ wg k l ≠ ⊥) :
    out gateTanh x wg wu wd g b c = out gateExp x wg wu wd g b c := by
  have hr : ∀ d, resid gateTanh x wg wu wd d = resid gateExp x wg wu wd d := fun d => by
    unfold resid
    congr 1
    exact Finset.sum_congr rfl fun l _ => by rw [gate_eq _ (gateIn_ne_bot x wg l hx fun k => hw k l)]
  have hc : ∀ d, centred gateTanh x wg wu wd d = centred gateExp x wg wu wd d := fun d => by
    unfold centred
    simp only [hr]
  unfold out
  simp only [hc]

end Cert.Proof.Ffn

end
-- ==== Proof.Ffn.Final.lean ====
/- The feed-forward part: the kernel's result array is the reference's. -/
module

public import proofs.«01_k».proof.Defs
public import proofs.«01_k».proof.Proof.Ffn.Spec
public import proofs.«01_k».proof.Proof.Gen.FfnKernelIdeal.Frame
public import proofs.«01_k».proof.Proof.Gen.FfnKernelIdeal.Value
public import proofs.«01_k».proof.Proof.Gen.FfnReferenceIdeal.Run
public import Idealize.ShloMosaic.Lib.Pipeline.ValueKit
public import Idealize.ShloMosaic.Lib.Claim

@[expose] public section

set_option maxRecDepth 16384

noncomputable section

namespace Cert.Proof.Ffn

open Idealize.ShloMosaic Idealize.ShloMosaic.TcCoe Idealize.SL.Sem
open Idealize.ShloMosaic.Pipeline (Dat)
open Cert.FfnKernelIdeal Cert.FfnKernelIdeal.Gen

/-- The row function at equal rows, matrices and channel. -/
theorem out_congr {act : EReal → EReal} {x x' : Fin 1024 → EReal} {wg wg' wu wu' : Fin 1024 → Fin 2816 → EReal} {wd wd' : Fin 2816 → Fin 1024 → EReal}
    {g g' b b' : Fin 1024 → EReal} {c c' : Fin 1024} (hx : ∀ k, x k = x' k) (hg : ∀ k l, wg k l = wg' k l) (hu : ∀ k l, wu k l = wu' k l)
    (hd : ∀ k l, wd k l = wd' k l) (hsc : ∀ l, g l = g' l) (hsh : ∀ l, b l = b' l) (hc : c = c') :
    out act x wg wu wd g b c = out act x' wg' wu' wd' g' b' c' := by
  obtain rfl : x = x' := funext hx
  obtain rfl : wg = wg' := funext fun k => funext (hg k)
  obtain rfl : wu = wu' := funext fun k => funext (hu k)
  obtain rfl : wd = wd' := funext fun k => funext (hd k)
  obtain rfl : g = g' := funext hsc
  obtain rfl : b = b' := funext hsh
  rw [hc]

variable (m : (ℓ : Loc nD τ sig) → Buf (Elt Ideal) ℓ)

/-- What the result array should hold at batch `a`, token `r`, channel `l`, in the kernel's form. -/
def target (c : Dev nD) : FVec Ideal S16x4096x1024 .f32 := fun i =>
  out gateTanh (fun k => (show FVec Ideal S16x4096x1024 .f32 from m ((c : Thread nD τ).loc main_arg0)) (ix3 (i 0) (i 1) k))
    (fun k l => (show FVec Ideal S1024x2816 .f32 from m ((c : Thread nD τ).loc main_arg1)) (ix2 k l))
    (fun k l => (show FVec Ideal S1024x2816 .f32 from m ((c : Thread nD τ).loc main_arg2)) (ix2 k l))
    (fun k l => (show FVec Ideal S2816x1024 .f32 from m ((c : Thread nD τ).loc main_arg3)) (ix2 k l))
    (fun l => (show FVec Ideal S1024 .f32 from m ((c : Thread nD τ).loc main_arg4)) (ix1 l))
    (fun l => (show FVec Ideal S1024 .f32 from m ((c : Thread nD τ).loc main_arg5)) (ix1 l)) (i 2)

/-- Where each window's block lies at each grid point. -/
theorem idx : ∀ t : Fin cfg0.N, win0_0.index t = ![t.val / 4, t.val % 4, 0] ∧ win0_1.index t = ![0, 0] ∧ win0_2.index t = ![0, 0] ∧ win0_3.index t = ![0, 0]
    ∧ win0_4.index t = ![0, 0] ∧ win0_5.index t = ![0, 0] ∧ win0_6.index t = ![t.val / 4, t.val % 4, 0] :=
  (by decide +kernel : ∀ t : Fin grid0.N, _)

/-- The gate matrix's block is the argument. -/
theorem gate_read (c : Dev nD) (t : Fin cfg0.N) (k : Fin 1024) (l : Fin 2816) :
    (show FVec Ideal S1024x2816 .bf16 from iblk m c 1 t) (ix2 k l) = (show FVec Ideal S1024x2816 .f32 from m ((c : Thread nD τ).loc main_arg1)) (ix2 k l) := by
  unfold iblk
  entry_read
  blk_ext [V, idx t]

/-- The up matrix's block is the argument. -/
theorem up_read (c : Dev nD) (t : Fin cfg0.N) (k : Fin 1024) (l : Fin 2816) :
    (show FVec Ideal S1024x2816 .bf16 from iblk m c 2 t) (ix2 k l) = (show FVec Ideal S1024x2816 .f32 from m ((c : Thread nD τ).loc main_arg2)) (ix2 k l) := by
  unfold iblk
  entry_read
  blk_ext [V, idx t]

/-- The down matrix's block is the argument. -/
theorem down_read (c : Dev nD) (t : Fin cfg0.N) (k : Fin 2816) (l : Fin 1024) :
    (show FVec Ideal S2816x1024 .bf16 from iblk m c 3 t) (ix2 k l) = (show FVec Ideal S2816x1024 .f32 from m ((c : Thread nD τ).loc main_arg3)) (ix2 k l) := by
  unfold iblk
  entry_read
  blk_ext [V, idx t]

/-- The block of the scale vector, a row of one, is the argument. -/
theorem scale_read (c : Dev nD) (t : Fin cfg0.N) (l : Fin 1024) :
    (show FVec Ideal S1x1024 .f32 from iblk m c 4 t) (ix2 0 l) = (show FVec Ideal S1024 .f32 from m ((c : Thread nD τ).loc main_arg4)) (ix1 l) := by
  unfold iblk
  entry_read
  have e : (win0_4.blk t).view.emb (ix2 0 l : S1x1024.Idx) = (ix2 0 l : S1x1024.Idx) := by
    blk_ext [idx t]
  show shapeCast S1x1024 (show FVec Ideal S1024 .f32 from m ((c : Thread nD τ).loc main_arg4)) shapeCasts_S1024_S1x1024 ((win0_4.blk t).view.emb (ix2 0 l : S1x1024.Idx)) = _
  rw [e]
  pointwise

/-- The block of the shift vector, a row of one, is the argument. -/
theorem shift_read (c : Dev nD) (t : Fin cfg0.N) (l : Fin 1024) :
    (show FVec Ideal S1x1024 .f32 from iblk m c 5 t) (ix2 0 l) = (show FVec Ideal S1024 .f32 from m ((c : Thread nD τ).loc main_arg5)) (ix1 l) := by
  unfold iblk
  entry_read
  have e : (win0_5.blk t).view.emb (ix2 0 l : S1x1024.Idx) = (ix2 0 l : S1x1024.Idx) := by
    blk_ext [idx t]
  show shapeCast S1x1024 (show FVec Ideal S1024 .f32 from m ((c : Thread nD τ).loc main_arg5)) shapeCasts_S1024_S1x1024 ((win0_5.blk t).view.emb (ix2 0 l : S1x1024.Idx)) = _
  rw [e]
  pointwise

/-- The kernel's result array, in the kernel's form. -/
theorem final (c : Dev nD) : (dats m 0 c).arrAt 6 cfg0.N = target m c := by
  refine (dats m 0 c).arrAt_eq_of_covers 6 _ (by decide +kernel) fun t _ y => ?_
  blk_simp
  rw [after0_6]
  unfold out0_6
  canon_tiles x h
  case piece0 =>
    idx_vars x
    obtain rfl : x0 = 0 := Subsingleton.elim _ _
    refine (piece3 _ _ _ _ _ _ _ _).trans ?_
    refine out_congr (fun k => ?_) (fun k l => ?_) (fun k l => ?_) (fun k l => ?_) (fun l => ?_) (fun l => ?_) ?_
    · pointwise
      blk_ext [iblk, V, idx t]
    · pointwise
      exact gate_read m c t k l
    · pointwise
      exact up_read m c t k l
    · pointwise
      exact down_read m c t k l
    · pointwise
      exact scale_read m c t l
    · pointwise
      exact shift_read m c t l
    · exact Fin.ext (by blk_simp [idx t] <;> omega)
  case piece1 =>
    idx_vars x
    obtain rfl : x0 = 0 := Subsingleton.elim _ _
    refine (piece2 _ _ _ _ _ _ _ _).trans ?_
    refine out_congr (fun k => ?_) (fun k l => ?_) (fun k l => ?_) (fun k l => ?_) (fun l => ?_) (fun l => ?_) ?_
    · pointwise
      blk_ext [iblk, V, idx t]
    · pointwise
      exact gate_read m c t k l
    · pointwise
      exact up_read m c t k l
    · pointwise
      exact down_read m c t k l
    · pointwise
      exact scale_read m c t l
    · pointwise
      exact shift_read m c t l
    · exact Fin.ext (by blk_simp [idx t] <;> omega)
  case piece2 =>
    idx_vars x
    obtain rfl : x0 = 0 := Subsingleton.elim _ _
    refine (piece1 _ _ _ _ _ _ _ _).trans ?_
    refine out_congr (fun k => ?_) (fun k l => ?_) (fun k l => ?_) (fun k l => ?_) (fun l => ?_) (fun l => ?_) ?_
    · pointwise
      blk_ext [iblk, V, idx t]
    · pointwise
      exact gate_read m c t k l
    · pointwise
      exact up_read m c t k l
    · pointwise
      exact down_read m c t k l
    · pointwise
      exact scale_read m c t l
    · pointwise
      exact shift_read m c t l
    · exact Fin.ext (by blk_simp [idx t] <;> omega)
  case piece3 =>
    idx_vars x
    obtain rfl : x0 = 0 := Subsingleton.elim _ _
    refine (piece0 _ _ _ _ _ _ _ _).trans ?_
    refine out_congr (fun k => ?_) (fun k l => ?_) (fun k l => ?_) (fun k l => ?_) (fun l => ?_) (fun l => ?_) ?_
    · pointwise
      blk_ext [iblk, V, idx t]
    · pointwise
      exact gate_read m c t k l
    · pointwise
      exact up_read m c t k l
    · pointwise
      exact down_read m c t k l
    · pointwise
      exact scale_read m c t l
    · pointwise
      exact shift_read m c t l
    · exact Fin.ext (by blk_simp [idx t] <;> omega)

/-- An extended real whose absolute value is below plus infinity is finite. -/
theorem finite_of_lt (z : EReal) (h : BitVec.ofBool (decide (max z (-z) < Ideal.ofBits .f32 0x7F800000#32)) = 1#1) : z ≠ ⊤ ∧ z ≠ ⊥ := by
  have ht : Ideal.ofBits .f32 0x7F800000#32 = ⊤ := by simp [Ideal.ofBits, Ideal.ieee]
  rw [ht] at h
  constructor
  · rintro rfl
    simp at h
  · rintro rfl
    simp at h

/-- The precondition, read: the rows and the gate matrix are finite. -/
theorem finite_at [Cert.Pre_finite_inputs.Facts] (c : Dev nD) (hpre : Cert.Pre_FfnKernelIdeal_finite_inputs m) :
    (∀ i, (show FVec Ideal S16x4096x1024 .f32 from m ((c : Thread nD τ).loc main_arg0)) i ≠ ⊤ ∧ (show FVec Ideal S16x4096x1024 .f32 from m ((c : Thread nD τ).loc main_arg0)) i ≠ ⊥)
    ∧ ∀ i, (show FVec Ideal S1024x2816 .f32 from m ((c : Thread nD τ).loc main_arg1)) i ≠ ⊤ ∧ (show FVec Ideal S1024x2816 .f32 from m ((c : Thread nD τ).loc main_arg1)) i ≠ ⊥ := by
  obtain ⟨p, q⟩ := hpre c
  refine ⟨fun i => finite_of_lt _ ?_, fun i => finite_of_lt _ ?_⟩
  · have h := congrFun p i
    unfold Cert.Pre_finite_inputs.fn at h
    pointwise at h
    exact h
  · have h := congrFun q i
    unfold Cert.Pre_finite_inputs.fn at h
    pointwise at h
    exact h

/-- The kernel's result array is the reference's, on finite rows and gate matrices. -/
theorem algebraic [Cert.Pre_finite_inputs.Facts] : Cert.algebraic_FfnKernelIdeal_FfnReferenceIdeal_pre_finite_inputs := by
  pair_intro
  · run_from Cert.FfnKernelIdeal.Value.run_blocks m g
  · run_from Cert.FfnReferenceIdeal.Value.run m' g'
    rw [final m c]
    obtain ⟨h0, h1, h2, h3, h4, h5⟩ := hagree c
    rw [Cert.FfnReferenceIdeal.Read.val_main_v31_eq, h0, h1, h2, h3, h4, h5]
    funext i
    idx_vars i
    refine (ref_at _ _ _ _ _ _ i0 i1 i2).trans ?_
    exact (out_eq _ _ _ _ _ _ _ (fun k => (finite_at m c hpre).1 _) (fun k l => (finite_at m c hpre).2 _)).symm

end Cert.Proof.Ffn

end
-- ==== Proof.Merge.Spec.lean ====
/- The merge of the branches with the first layer norm, one row at a time, over the extended reals: what the
   kernel's four row pieces store and what the plain reference computes, both as ONE function of a row whose
   activation and gate are parameters. -/
module

public import proofs.«01_k».proof.Proof.Gen.MergeKernelIdeal.Skeleton
public import proofs.«01_k».proof.Proof.Gen.MergeReferenceIdeal.Read
public import Idealize.ShloMosaic.Lib.Pointwise

@[expose] public section

set_option maxRecDepth 16384

noncomputable section

namespace Cert.Proof.Merge

open Idealize.ShloMosaic Idealize.ShloMosaic.TcCoe Idealize.SL.Sem

/-- The constant one half. -/
abbrev half : EReal := Ideal.ofBits .f32 0x3F000000#32

/-- The output gate's activation as the kernel computes it from half the argument. -/
def actTanh (h : EReal) : EReal := h * Ideal.tanh h + h

/-- The output gate's activation as the reference computes it. -/
def actExp (z : EReal) : EReal := z * Ideal.div 1 (1 + Ideal.exp (-z))

/-- Twice a branch's gate, as the kernel computes it from half the argument. -/
def gateTanh (h : EReal) : EReal := 1 + Ideal.tanh h

/-- A branch's gate as the reference computes it. -/
def gateExp (t : EReal) : EReal := Ideal.div 1 (1 + Ideal.exp (-t))

/-- Column `j` of the first third of the gates. -/
def colA (j : Fin 1024) : Fin 3072 := ⟨j.val, by omega⟩

/-- Column `j` of the second third of the gates. -/
def colB (j : Fin 1024) : Fin 3072 := ⟨1024 + j.val, by omega⟩

/-- Column `j` of the last third of the gates. -/
def colC (j : Fin 1024) : Fin 3072 := ⟨2048 + j.val, by omega⟩

/-- A row against column `j` of a matrix. -/
def proj {n : ℕ} (y : Fin n → EReal) (w : Fin n → Fin 1024 → EReal) (j : Fin 1024) : EReal := ∑ k, y k * w k j

/-- The gated sum of the three branches at channel `j`. -/
def mixed (act gate : EReal → EReal) (on og : Fin 512 → EReal) (yb yc : Fin 256 → EReal) (ga gb gc : Fin 1024 → EReal)
    (wa : Fin 512 → Fin 1024 → EReal) (wb wc : Fin 256 → Fin 1024 → EReal) (j : Fin 1024) : EReal :=
  gate (ga j) * proj (fun k => on k * act (og k)) wa j + gate (gb j) * proj yb wb j + gate (gc j) * proj yc wc j

/-- The row plus the projection of a gated sum, before normalisation. -/
def resid (x s : Fin 1024 → EReal) (wo : Fin 1024 → Fin 1024 → EReal) (c : Fin 1024) : EReal :=
  Ideal.ofBits .f32 0x3FD744FD#32 * x c + ∑ j, s j * wo j c

/-- The same with the row's mean taken off. -/
def centred (x s : Fin 1024 → EReal) (wo : Fin 1024 → Fin 1024 → EReal) (c : Fin 1024) : EReal :=
  resid x s wo c - Ideal.div (∑ d, resid x s wo d) (Ideal.ofBits .f32 0x44800000#32)

/-- The result at channel `c` of one row: the centred row over its deviation, scaled and shifted. -/
def out (x s : Fin 1024 → EReal) (wo : Fin 1024 → Fin 1024 → EReal) (g b : Fin 1024 → EReal) (c : Fin 1024) : EReal :=
  centred x s wo c
    * Ideal.rsqrt (Ideal.div (∑ d, centred x s wo d * centred x s wo d) (Ideal.ofBits .f32 0x44800000#32)
        + Ideal.ofBits .f32 0x3727C5AC#32) * g c + b c

section Kernel
open Cert.MergeKernelIdeal Cert.MergeKernelIdeal.Gen

variable (x : FVec Ideal S1x256x1024 .f32) (on og : FVec Ideal S1x256x512 .bf16) (yb yc : FVec Ideal S1x256x256 .bf16) (ga gb gc : FVec Ideal S1x256x1024 .bf16)
  (wa : FVec Ideal S512x1024 .bf16) (wb wc : FVec Ideal S256x1024 .bf16) (wo : FVec Ideal S1024x1024 .bf16) (g b : FVec Ideal S1x1024 .f32) (r : Fin 256) (l : Fin 1024)

/-- What a row piece should hold at row `r`, channel `l`. -/
def pieceOut : EReal :=
  out (fun k => x (ix3 0 r k))
    (mixed actTanh gateTanh (fun k => on (ix3 0 r k)) (fun k => og (ix3 0 r k)) (fun k => yb (ix3 0 r k)) (fun k => yc (ix3 0 r k))
      (fun k => ga (ix3 0 r k)) (fun k => gb (ix3 0 r k)) (fun k => gc (ix3 0 r k))
      (fun k j => wa (ix2 k j)) (fun k j => wb (ix2 k j)) (fun k j => wc (ix2 k j)))
    (fun k j => wo (ix2 k j)) (fun c => g (ix2 0 c)) (fun c => b (ix2 0 c)) l

/-- The first row piece. -/
theorem piece0 : k0_pay7 (F := Ideal) (k0_pay3 g) (k0_pay4 b) (k0_pay5 (k0_pay2 og on ga wa gb yb wb) gc yc wc x wo) (k0_pay6 (k0_pay2 og on ga wa gb yb wb) gc yc wc x wo) (ix3 0 r l)
    = pieceOut x on og yb yc ga gb gc wa wb wc wo g b r l := by
  pointwise [k0_pay7, k0_pay3, k0_pay4, k0_pay5, k0_pay6, k0_pay2, pieceOut, out, centred, resid, mixed, proj, actTanh, gateTanh]

/-- The second row piece. -/
theorem piece1 : k0_pay15 (F := Ideal) (k0_pay11 (k0_pay8 og on ga wa) (k0_pay9 gb) (k0_pay10 yb) wb gc yc wc x wo) (k0_pay12 g) (k0_pay13 b)
      (k0_pay14 (k0_pay8 og on ga wa) (k0_pay9 gb) (k0_pay10 yb) wb gc yc wc x wo) (ix3 0 r l)
    = pieceOut x on og yb yc ga gb gc wa wb wc wo g b r l := by
  pointwise [k0_pay15, k0_pay11, k0_pay12, k0_pay13, k0_pay14, k0_pay8, k0_pay9, k0_pay10, pieceOut, out, centred, resid, mixed, proj, actTanh, gateTanh]

/-- The third row piece. -/
theorem piece2 : k0_pay18 (F := Ideal) (k0_pay17 (k0_pay16 og on ga wa) gb yb wb gc yc wc x wo) g b (ix3 0 r l)
    = pieceOut x on og yb yc ga gb gc wa wb wc wo g b r l := by
  pointwise [k0_pay18, k0_pay17, k0_pay16, pieceOut, out, centred, resid, mixed, proj, actTanh, gateTanh]

/-- The fourth row piece. -/
theorem piece3 : k0_pay1 (F := Ideal) (k0_pay22 (k0_pay19 og on) (k0_pay20 ga) k0_pay21 wa gb yb wb gc yc wc) (k0_pay23 x) wo g b (ix3 0 r l)
    = pieceOut x on og yb yc ga gb gc wa wb wc wo g b r l := by
  pointwise [k0_pay1, k0_pay22, k0_pay19, k0_pay20, k0_pay21, k0_pay23, pieceOut, out, centred, resid, mixed, proj, actTanh, gateTanh]

end Kernel

section Reference
open Cert.MergeReferenceIdeal Cert.MergeReferenceIdeal.Read

variable (x : FVec Ideal S16x4096x1024 .f32) (on og : FVec Ideal S16x4096x512 .bf16) (yb yc : FVec Ideal S16x4096x256 .bf16) (gates : FVec Ideal S16x4096x3072 .bf16)
  (wa : FVec Ideal S512x1024 .f32) (wb wc : FVec Ideal S256x1024 .f32) (wo : FVec Ideal S1024x1024 .f32) (g b : FVec Ideal S1024 .f32)

/-- The reference's gated sum at batch `a`, token `r`, channel `l`. -/
theorem mixed_at (a : Fin 16) (r : Fin 4096) (l : Fin 1024) : val_main_v23 (F := Ideal) on og yb yc gates wa wb wc (ix3 a r l)
    = mixed actExp gateExp (fun k => on (ix3 a r k)) (fun k => og (ix3 a r k)) (fun k => yb (ix3 a r k)) (fun k => yc (ix3 a r k))
        (fun j => gates (ix3 a r (colA j))) (fun j => gates (ix3 a r (colB j))) (fun j => gates (ix3 a r (colC j)))
        (fun k j => wa (ix2 k j)) (fun k j => wb (ix2 k j)) (fun k j => wc (ix2 k j)) l := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_cst, val_main_v10, val_main_v11, val_main_cst_0, val_main_v12, val_main_v13, val_main_v14, val_main_v15, val_main_v16, val_main_v17, val_main_v18, val_main_v19, val_main_v20, val_main_v21, val_main_v22, val_main_v23, mixed, proj, actExp, gateExp, colA, colB, colC]

/-- The reference's result at batch `a`, token `r`, channel `l`. -/
theorem ref_at (a : Fin 16) (r : Fin 4096) (l : Fin 1024) : val_main_v51 (F := Ideal) x on og yb yc gates wa wb wc wo g b (ix3 a r l)
    = out (fun k => x (ix3 a r k)) (fun j => val_main_v23 (F := Ideal) on og yb yc gates wa wb wc (ix3 a r j))
        (fun j c => wo (ix2 j c)) (fun c => g (ix1 c)) (fun c => b (ix1 c)) l := by
  pointwise [val_main_cst_1, val_main_v24, val_main_v25, val_main_v26, val_main_v27, val_main_cst_2, val_main_v28, val_main_v29, val_main_cst_3, val_main_v30, val_main_v31, val_main_v32, val_main_v33, val_main_v34, val_main_cst_4, val_main_v35, val_main_v36, val_main_cst_5, val_main_v37, val_main_v38, val_main_v39, val_main_v40, val_main_cst_6, val_main_v41, val_main_v42, val_main_v43, val_main_v44, val_main_v45, val_main_v46, val_main_v47, val_main_v48, val_main_v49, val_main_v50, val_main_v51, out, centred, resid]

end Reference

/-- The constant one half is the real number. -/
theorem half_val : half = (((1 : ℝ) / 2 : ℝ) : EReal) := by
  simp [half, Ideal.ofBits, Ideal.ieee, -EReal.coe_mul]
  norm_num

/-- Half of one plus the hyperbolic tangent of half the argument is the logistic function, on the reals. -/
theorem logistic_real (r : ℝ) : (1 + Real.tanh (1 / 2 * r)) * (1 / 2) = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have f : Real.exp (1 / 2 * r) * Real.exp (-(1 / 2 * r)) = 1 := by rw [← Real.exp_add]; simp
  rw [e]
  have p := Real.exp_pos (1 / 2 * r)
  have q := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  linear_combination (2 * b) * f

/-- The reference's gate of a real number. -/
theorem gateExp_coe (r : ℝ) : gateExp (r : EReal) = (((1 + Real.exp (-r))⁻¹ : ℝ) : EReal) := by
  have hp : (1 + Real.exp (-r)) ≠ 0 := by positivity
  show Ideal.div 1 (1 + ((Real.exp (-r) : ℝ) : EReal)) = _
  rw [← EReal.coe_one, ← EReal.coe_add]
  unfold Ideal.div
  rw [if_neg (by exact_mod_cast hp), EReal.coe_one, one_mul, EReal.coe_inv]

/-- Half of the kernel's gate of half an argument is the reference's gate of it. -/
theorem gate_eq (t : EReal) : gateTanh (half * t) * half = gateExp t := by
  rw [half_val]
  induction t using EReal.rec with
  | bot =>
    rw [EReal.coe_mul_bot_of_pos (by norm_num)]
    show (1 + ((-1 : ℝ) : EReal)) * _ = Ideal.div 1 (1 + (⊤ : EReal))
    have h : (1 : EReal) + ((-1 : ℝ) : EReal) = 0 := by
      rw [← EReal.coe_one, ← EReal.coe_add]; norm_num
    have k : (1 : EReal) + ⊤ = ⊤ := EReal.coe_add_top 1
    rw [h, zero_mul, k]
    simp [Ideal.div]
  | top =>
    rw [EReal.coe_mul_top_of_pos (by norm_num)]
    show (1 + ((1 : ℝ) : EReal)) * _ = Ideal.div 1 (1 + (0 : EReal))
    rw [← EReal.coe_one, ← EReal.coe_add, ← EReal.coe_mul]
    norm_num [Ideal.div]
  | coe r =>
    rw [gateExp_coe]
    have ht : Ideal.tanh (((1 / 2 : ℝ) : EReal) * (r : EReal)) = ((Real.tanh (1 / 2 * r) : ℝ) : EReal) := by
      rw [← EReal.coe_mul]; rfl
    unfold gateTanh
    rw [ht]
    exact_mod_cast congrArg (fun t : ℝ => (t : EReal)) (logistic_real r)

/-- Away from minus infinity the two forms of the activation agree. -/
theorem act_eq (z : EReal) (h : z ≠ ⊥) : actTanh (half * z) = actExp z := by
  induction z using EReal.rec with
  | bot => exact absurd rfl h
  | top =>
    unfold actTanh actExp
    rw [half_val, EReal.coe_mul_top_of_pos (by norm_num)]
    show ⊤ * (1 : EReal) + ⊤ = ⊤ * Ideal.div 1 (1 + (0 : EReal))
    simp [Ideal.div]
  | coe r =>
    have e : actExp (r : EReal) = (r : EReal) * gateExp r := rfl
    rw [e, gateExp_coe, ← logistic_real]
    have ht : Ideal.tanh (((1 / 2 : ℝ) : EReal) * (r : EReal)) = ((Real.tanh (1 / 2 * r) : ℝ) : EReal) := by
      rw [← EReal.coe_mul]; rfl
    unfold actTanh
    rw [half_val, ht]
    have q : 1 / 2 * r * Real.tanh (1 / 2 * r) + 1 / 2 * r = r * ((1 + Real.tanh (1 / 2 * r)) * (1 / 2)) := by ring
    exact_mod_cast congrArg (fun t : ℝ => (t : EReal)) q

/-- One half may be taken out of a sum of extended reals. -/
theorem half_sum {n : ℕ} (f : Fin n → EReal) : ∑ k, half * f k = half * ∑ k, f k := by
  induction n with
  | zero => simp
  | succ n ih =>
    rw [Fin.sum_univ_succ, Fin.sum_univ_succ, ih, half_val]
    rw [EReal.left_distrib_of_nonneg_of_ne_top (by exact_mod_cast (by norm_num : (0 : ℝ) ≤ 1 / 2)) (EReal.coe_ne_top _)]

/-- A row against a halved matrix is half of the row against the matrix. -/
theorem proj_half {n : ℕ} (y : Fin n → EReal) (w : Fin n → Fin 1024 → EReal) (j : Fin 1024) :
    proj y (fun k j => half * w k j) j = half * proj y w j := by
  unfold proj
  rw [← half_sum]
  exact Finset.sum_congr rfl fun k _ => mul_left_comm _ _ _

/-- One gated branch: the halves on the gate's argument and on the matrix make the reference's gate. -/
theorem branch_eq {n : ℕ} (t : EReal) (y : Fin n → EReal) (w : Fin n → Fin 1024 → EReal) (j : Fin 1024) :
    gateTanh (half * t) * proj y (fun k j => half * w k j) j = gateExp t * proj y w j := by
  rw [proj_half, ← mul_assoc, gate_eq]

/-- The kernel's gated sum of halved arrays is the reference's gated sum, when the output gate is not minus infinity. -/
theorem mixed_eq (on og : Fin 512 → EReal) (yb yc : Fin 256 → EReal) (ga gb gc : Fin 1024 → EReal)
    (wa : Fin 512 → Fin 1024 → EReal) (wb wc : Fin 256 → Fin 1024 → EReal) (j : Fin 1024) (h : ∀ k, og k ≠ ⊥) :
    mixed actTanh gateTanh on (fun k => half * og k) yb yc (fun j => half * ga j) (fun j => half * gb j) (fun j => half * gc j)
        (fun k j => half * wa k j) (fun k j => half * wb k j) (fun k j => half * wc k j) j
      = mixed actExp gateExp on og yb yc ga gb gc wa wb wc j := by
  unfold mixed
  rw [branch_eq, branch_eq, branch_eq]
  simp only [act_eq _ (h _)]

end Cert.Proof.Merge

end
-- ==== Proof.Merge.Final.lean ====
/- The merge of the branches with the first layer norm: the kernel's result array is the reference's. -/
module

public import proofs.«01_k».proof.Defs
public import proofs.«01_k».proof.Proof.Merge.Spec
public import proofs.«01_k».proof.Proof.Gen.MergeKernelIdeal.Frame
public import proofs.«01_k».proof.Proof.Gen.MergeKernelIdeal.Value
public import proofs.«01_k».proof.Proof.Gen.MergeReferenceIdeal.Run
public import Idealize.ShloMosaic.Lib.Pipeline.ValueKit
public import Idealize.ShloMosaic.Lib.Claim

@[expose] public section

set_option maxRecDepth 16384

noncomputable section

namespace Cert.Proof.Merge

open Idealize.ShloMosaic Idealize.ShloMosaic.TcCoe Idealize.SL.Sem
open Idealize.ShloMosaic.Pipeline (Dat)
open Cert.MergeKernelIdeal Cert.MergeKernelIdeal.Gen

/-- The row function of the kernel at equal rows, gates, matrices and channel. -/
theorem out_congr {act gate : EReal → EReal} {x x' : Fin 1024 → EReal} {on on' og og' : Fin 512 → EReal} {yb yb' yc yc' : Fin 256 → EReal}
    {ga ga' gb gb' gc gc' : Fin 1024 → EReal} {wa wa' : Fin 512 → Fin 1024 → EReal} {wb wb' wc wc' : Fin 256 → Fin 1024 → EReal}
    {wo wo' : Fin 1024 → Fin 1024 → EReal} {g g' b b' : Fin 1024 → EReal} {c c' : Fin 1024}
    (hx : ∀ k, x k = x' k) (hon : ∀ k, on k = on' k) (hog : ∀ k, og k = og' k) (hyb : ∀ k, yb k = yb' k) (hyc : ∀ k, yc k = yc' k)
    (hga : ∀ j, ga j = ga' j) (hgb : ∀ j, gb j = gb' j) (hgc : ∀ j, gc j = gc' j)
    (hwa : ∀ k j, wa k j = wa' k j) (hwb : ∀ k j, wb k j = wb' k j) (hwc : ∀ k j, wc k j = wc' k j) (hwo : ∀ k j, wo k j = wo' k j)
    (hg : ∀ l, g l = g' l) (hb : ∀ l, b l = b' l) (hc : c = c') :
    out x (mixed act gate on og yb yc ga gb gc wa wb wc) wo g b c = out x' (mixed act gate on' og' yb' yc' ga' gb' gc' wa' wb' wc') wo' g' b' c' := by
  obtain rfl : x = x' := funext hx
  obtain rfl : on = on' := funext hon
  obtain rfl : og = og' := funext hog
  obtain rfl : yb = yb' := funext hyb
  obtain rfl : yc = yc' := funext hyc
  obtain rfl : ga = ga' := funext hga
  obtain rfl : gb = gb' := funext hgb
  obtain rfl : gc = gc' := funext hgc
  obtain rfl : wa = wa' := funext fun k => funext (hwa k)
  obtain rfl : wb = wb' := funext fun k => funext (hwb k)
  obtain rfl : wc = wc' := funext fun k => funext (hwc k)
  obtain rfl : wo = wo' := funext fun k => funext (hwo k)
  obtain rfl : g = g' := funext hg
  obtain rfl : b = b' := funext hb
  rw [hc]

variable (m : (ℓ : Loc nD τ sig) → Buf (Elt Ideal) ℓ)

/-- What the result array should hold at batch `a`, token `r`, channel `l`, in the kernel's form. -/
def target (c : Dev nD) : FVec Ideal S16x4096x1024 .f32 := fun i =>
  out (fun k => (show FVec Ideal S16x4096x1024 .f32 from m ((c : Thread nD τ).loc main_arg0)) (ix3 (i 0) (i 1) k))
    (mixed actTanh gateTanh (fun k => (show FVec Ideal S16x4096x512 .bf16 from m ((c : Thread nD τ).loc main_arg1)) (ix3 (i 0) (i 1) k)) (fun k => half * (show FVec Ideal S16x4096x512 .bf16 from m ((c : Thread nD τ).loc main_arg2)) (ix3 (i 0) (i 1) k))
      (fun k => (show FVec Ideal S16x4096x256 .bf16 from m ((c : Thread nD τ).loc main_arg3)) (ix3 (i 0) (i 1) k)) (fun k => (show FVec Ideal S16x4096x256 .bf16 from m ((c : Thread nD τ).loc main_arg4)) (ix3 (i 0) (i 1) k))
      (fun j => half * (show FVec Ideal S16x4096x3072 .bf16 from m ((c : Thread nD τ).loc main_arg5)) (ix3 (i 0) (i 1) (colA j)))
      (fun j => half * (show FVec Ideal S16x4096x3072 .bf16 from m ((c : Thread nD τ).loc main_arg5)) (ix3 (i 0) (i 1) (colB j)))
      (fun j => half * (show FVec Ideal S16x4096x3072 .bf16 from m ((c : Thread nD τ).loc main_arg5)) (ix3 (i 0) (i 1) (colC j)))
      (fun k j => half * (show FVec Ideal S512x1024 .f32 from m ((c : Thread nD τ).loc main_arg6)) (ix2 k j)) (fun k j => half * (show FVec Ideal S256x1024 .f32 from m ((c : Thread nD τ).loc main_arg7)) (ix2 k j))
      (fun k j => half * (show FVec Ideal S256x1024 .f32 from m ((c : Thread nD τ).loc main_arg8)) (ix2 k j)))
    (fun k j => (show FVec Ideal S1024x1024 .f32 from m ((c : Thread nD τ).loc main_arg9)) (ix2 k j)) (fun l => (show FVec Ideal S1024 .f32 from m ((c : Thread nD τ).loc main_arg10)) (ix1 l)) (fun l => (show FVec Ideal S1024 .f32 from m ((c : Thread nD τ).loc main_arg11)) (ix1 l)) (i 2)

/-- Where each window's block lies at each grid point. -/
theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 4, t.val % 4, 0] :=
  (by decide +kernel : ∀ t : Fin grid0.N, _)

/-- The output gate's block is half of the argument. -/
theorem og_read (c : Dev nD) (t : Fin cfg0.N) (r : Fin 1024) (k : Fin 512) (i : S16x4096x512.Idx)
    (h : (win0_2.blk t).view.emb (ix3 0 r k : S1x1024x512.Idx) = i) :
    (show FVec Ideal S1x1024x512 .bf16 from iblk m c 2 t) (ix3 0 r k) = half * (show FVec Ideal S16x4096x512 .bf16 from m ((c : Thread nD τ).loc main_arg2)) i := by
  unfold iblk
  entry_read
  show truncf .bf16 (mulf (broadcastInDim S16x4096x512 ![] bcast_S_S16x4096x512 (constant S_ .f32 0x3F000000#32)) (extf .f32 (show FVec Ideal S16x4096x512 .bf16 from m ((c : Thread nD τ).loc main_arg2)) bitsLt_bf16_f32)) bitsLt_bf16_f32 ((win0_2.blk t).view.emb (ix3 0 r k : S1x1024x512.Idx)) = _
  rw [h]
  idx_vars i
  pointwise

/-- The block of the gates is half of the argument. -/
theorem gates_read (c : Dev nD) (t : Fin cfg0.N) (r : Fin 1024) (k : Fin 3072) (i : S16x4096x3072.Idx)
    (h : (win0_5.blk t).view.emb (ix3 0 r k : S1x1024x3072.Idx) = i) :
    (show FVec Ideal S1x1024x3072 .bf16 from iblk m c 5 t) (ix3 0 r k) = half * (show FVec Ideal S16x4096x3072 .bf16 from m ((c : Thread nD τ).loc main_arg5)) i := by
  unfold iblk
  entry_read
  show truncf .bf16 (mulf (broadcastInDim S16x4096x3072 ![] bcast_S_S16x4096x3072 (constant S_ .f32 0x3F000000#32)) (extf .f32 (show FVec Ideal S16x4096x3072 .bf16 from m ((c : Thread nD τ).loc main_arg5)) bitsLt_bf16_f32)) bitsLt_bf16_f32 ((win0_5.blk t).view.emb (ix3 0 r k : S1x1024x3072.Idx)) = _
  rw [h]
  idx_vars i
  pointwise

/-- The first branch's matrix block is half of the argument. -/
theorem wa_read (c : Dev nD) (t : Fin cfg0.N) (k : Fin 512) (j : Fin 1024) :
    (show FVec Ideal S512x1024 .bf16 from iblk m c 6 t) (ix2 k j) = half * (show FVec Ideal S512x1024 .f32 from m ((c : Thread nD τ).loc main_arg6)) (ix2 k j) := by
  unfold iblk
  entry_read
  have e : (win0_6.blk t).view.emb (ix2 k j : S512x1024.Idx) = (ix2 k j : S512x1024.Idx) := by
    blk_ext [idx t]
  show truncf .bf16 (mulf (broadcastInDim S512x1024 ![] bcast_S_S512x1024 (constant S_ .f32 0x3F000000#32)) (show FVec Ideal S512x1024 .f32 from m ((c : Thread nD τ).loc main_arg6))) bitsLt_bf16_f32 ((win0_6.blk t).view.emb (ix2 k j : S512x1024.Idx)) = _
  rw [e]
  pointwise

/-- The second branch's matrix block is half of the argument. -/
theorem wb_read (c : Dev nD) (t : Fin cfg0.N) (k : Fin 256) (j : Fin 1024) :
    (show FVec Ideal S256x1024 .bf16 from iblk m c 7 t) (ix2 k j) = half * (show FVec Ideal S256x1024 .f32 from m ((c : Thread nD τ).loc main_arg7)) (ix2 k j) := by
  unfold iblk
  entry_read
  have e : (win0_7.blk t).view.emb (ix2 k j : S256x1024.Idx) = (ix2 k j : S256x1024.Idx) := by
    blk_ext [idx t]
  show truncf .bf16 (mulf (broadcastInDim S256x1024 ![] bcast_S_S256x1024 (constant S_ .f32 0x3F000000#32)) (show FVec Ideal S256x1024 .f32 from m ((c : Thread nD τ).loc main_arg7))) bitsLt_bf16_f32 ((win0_7.blk t).view.emb (ix2 k j : S256x1024.Idx)) = _
  rw [e]
  pointwise

/-- The third branch's matrix block is half of the argument. -/
theorem wc_read (c : Dev nD) (t : Fin cfg0.N) (k : Fin 256) (j : Fin 1024) :
    (show FVec Ideal S256x1024 .bf16 from iblk m c 8 t) (ix2 k j) = half * (show FVec Ideal S256x1024 .f32 from m ((c : Thread nD τ).loc main_arg8)) (ix2 k j) := by
  unfold iblk
  entry_read
  have e : (win0_8.blk t).view.emb (ix2 k j : S256x1024.Idx) = (ix2 k j : S256x1024.Idx) := by
    blk_ext [idx t]
  show truncf .bf16 (mulf (broadcastInDim S256x1024 ![] bcast_S_S256x1024 (constant S_ .f32 0x3F000000#32)) (show FVec Ideal S256x1024 .f32 from m ((c : Thread nD τ).loc main_arg8))) bitsLt_bf16_f32 ((win0_8.blk t).view.emb (ix2 k j : S256x1024.Idx)) = _
  rw [e]
  pointwise

/-- The block of the output matrix is the argument. -/
theorem wo_read (c : Dev nD) (t : Fin cfg0.N) (k : Fin 1024) (j : Fin 1024) :
    (show FVec Ideal S1024x1024 .bf16 from iblk m c 9 t) (ix2 k j) = (show FVec Ideal S1024x1024 .f32 from m ((c : Thread nD τ).loc main_arg9)) (ix2 k j) := by
  unfold iblk
  entry_read
  blk_ext [V, idx t]

/-- The block of the scale vector, a row of one, is the argument. -/
theorem scale_read (c : Dev nD) (t : Fin cfg0.N) (l : Fin 1024) :
    (show FVec Ideal S1x1024 .f32 from iblk m c 10 t) (ix2 0 l) = (show FVec Ideal S1024 .f32 from m ((c : Thread nD τ).loc main_arg10)) (ix1 l) := by
  unfold iblk
  entry_read
  have e : (win0_10.blk t).view.emb (ix2 0 l : S1x1024.Idx) = (ix2 0 l : S1x1024.Idx) := by
    blk_ext [idx t]
  show shapeCast S1x1024 (show FVec Ideal S1024 .f32 from m ((c : Thread nD τ).loc main_arg10)) shapeCasts_S1024_S1x1024 ((win0_10.blk t).view.emb (ix2 0 l : S1x1024.Idx)) = _
  rw [e]
  pointwise

/-- The block of the shift vector, a row of one, is the argument. -/
theorem shift_read (c : Dev nD) (t : Fin cfg0.N) (l : Fin 1024) :
    (show FVec Ideal S1x1024 .f32 from iblk m c 11 t) (ix2 0 l) = (show FVec Ideal S1024 .f32 from m ((c : Thread nD τ).loc main_arg11)) (ix1 l) := by
  unfold iblk
  entry_read
  have e : (win0_11.blk t).view.emb (ix2 0 l : S1x1024.Idx) = (ix2 0 l : S1x1024.Idx) := by
    blk_ext [idx t]
  show shapeCast S1x1024 (show FVec Ideal S1024 .f32 from m ((c : Thread nD τ).loc main_arg11)) shapeCasts_S1024_S1x1024 ((win0_11.blk t).view.emb (ix2 0 l : S1x1024.Idx)) = _
  rw [e]
  pointwise

set_option maxHeartbeats 2000000 in
/-- The first row piece of a block holds the target's entries. -/
theorem tile0 (c : Dev nD) (t : Fin cfg0.N) (y : S1x1024x1024.Idx) (r : Fin 256) (l : Fin 1024) (h0 : (y 0).val = (0 : Fin 1).val)
    (h1 : (y 1).val = r.val) (h2 : (y 2).val = l.val) :
    pieceOut (View.ld (iblk m c 0 t) r0_7) (View.ld (iblk m c 1 t) r0_0) (View.ld (iblk m c 2 t) r0_0) (View.ld (iblk m c 3 t) r0_4) (View.ld (iblk m c 4 t) r0_4) (View.ld (iblk m c 5 t) r0_1) (View.ld (iblk m c 5 t) r0_3) (View.ld (iblk m c 5 t) r0_6) (View.ld (iblk m c 6 t) r0_2) (View.ld (iblk m c 7 t) r0_5) (View.ld (iblk m c 8 t) r0_5) (View.ld (iblk m c 9 t) r0_8) (View.ld (iblk m c 10 t) r0_9) (View.ld (iblk m c 11 t) r0_9) r l
      = target m c (((View.whole main_v20).slice (win0_12.rect t)).emb y) := by
  refine out_congr (fun k => ?_) (fun k => ?_) (fun k => ?_) (fun k => ?_) (fun k => ?_) (fun j => ?_) (fun j => ?_) (fun j => ?_)
    (fun k j => ?_) (fun k j => ?_) (fun k j => ?_) (fun k j => ?_) (fun l => ?_) (fun l => ?_) ?_
  · pointwise
    blk_ext [iblk, V, idx t]
  · pointwise
    blk_ext [iblk, V, idx t]
  · pointwise
    exact og_read m c t _ k _ (by blk_ext [idx t])
  · pointwise
    blk_ext [iblk, V, idx t]
  · pointwise
    blk_ext [iblk, V, idx t]
  · pointwise
    exact gates_read m c t _ _ _ (by blk_ext [idx t, colA])
  · pointwise
    exact gates_read m c t _ _ _ (by blk_ext [idx t, colB])
  · pointwise
    exact gates_read m c t _ _ _ (by blk_ext [idx t, colC])
  · pointwise
    exact wa_read m c t k j
  · pointwise
    exact wb_read m c t k j
  · pointwise
    exact wc_read m c t k j
  · pointwise
    exact wo_read m c t k j
  · pointwise
    exact scale_read m c t l
  · pointwise
    exact shift_read m c t l
  · exact Fin.ext (by blk_simp [idx t] <;> omega)

set_option maxHeartbeats 2000000 in
/-- The second row piece of a block holds the target's entries. -/
theorem tile1 (c : Dev nD) (t : Fin cfg0.N) (y : S1x1024x1024.Idx) (r : Fin 256) (l : Fin 1024) (h0 : (y 0).val = (0 : Fin 1).val)
    (h1 : (y 1).val = 256 + r.val) (h2 : (y 2).val = l.val) :
    pieceOut (View.ld (iblk m c 0 t) r0_15) (View.ld (iblk m c 1 t) r0_10) (View.ld (iblk m c 2 t) r0_10) (View.ld (iblk m c 3 t) r0_13) (View.ld (iblk m c 4 t) r0_13) (View.ld (iblk m c 5 t) r0_11) (View.ld (iblk m c 5 t) r0_12) (View.ld (iblk m c 5 t) r0_14) (View.ld (iblk m c 6 t) r0_2) (View.ld (iblk m c 7 t) r0_5) (View.ld (iblk m c 8 t) r0_5) (View.ld (iblk m c 9 t) r0_8) (View.ld (iblk m c 10 t) r0_9) (View.ld (iblk m c 11 t) r0_9) r l
      = target m c (((View.whole main_v20).slice (win0_12.rect t)).emb y) := by
  refine out_congr (fun k => ?_) (fun k => ?_) (fun k => ?_) (fun k => ?_) (fun k => ?_) (fun j => ?_) (fun j => ?_) (fun j => ?_)
    (fun k j => ?_) (fun k j => ?_) (fun k j => ?_) (fun k j => ?_) (fun l => ?_) (fun l => ?_) ?_
  · pointwise
    blk_ext [iblk, V, idx t]
  · pointwise
    blk_ext [iblk, V, idx t]
  · pointwise
    exact og_read m c t _ k _ (by blk_ext [idx t])
  · pointwise
    blk_ext [iblk, V, idx t]
  · pointwise
    blk_ext [iblk, V, idx t]
  · pointwise
    exact gates_read m c t _ _ _ (by blk_ext [idx t, colA])
  · pointwise
    exact gates_read m c t _ _ _ (by blk_ext [idx t, colB])
  · pointwise
    exact gates_read m c t _ _ _ (by blk_ext [idx t, colC])
  · pointwise
    exact wa_read m c t k j
  · pointwise
    exact wb_read m c t k j
  · pointwise
    exact wc_read m c t k j
  · pointwise
    exact wo_read m c t k j
  · pointwise
    exact scale_read m c t l
  · pointwise
    exact shift_read m c t l
  · exact Fin.ext (by blk_simp [idx t] <;> omega)

set_option maxHeartbeats 2000000 in
/-- The third row piece of a block holds the target's entries. -/
theorem tile2 (c : Dev nD) (t : Fin cfg0.N) (y : S1x1024x1024.Idx) (r : Fin 256) (l : Fin 1024) (h0 : (y 0).val = (0 : Fin 1).val)
    (h1 : (y 1).val = 512 + r.val) (h2 : (y 2).val = l.val) :
    pieceOut (View.ld (iblk m c 0 t) r0_21) (View.ld (iblk m c 1 t) r0_16) (View.ld (iblk m c 2 t) r0_16) (View.ld (iblk m c 3 t) r0_19) (View.ld (iblk m c 4 t) r0_19) (View.ld (iblk m c 5 t) r0_17) (View.ld (iblk m c 5 t) r0_18) (View.ld (iblk m c 5 t) r0_20) (View.ld (iblk m c 6 t) r0_2) (View.ld (iblk m c 7 t) r0_5) (View.ld (iblk m c 8 t) r0_5) (View.ld (iblk m c 9 t) r0_8) (View.ld (iblk m c 10 t) r0_9) (View.ld (iblk m c 11 t) r0_9) r l
      = target m c (((View.whole main_v20).slice (win0_12.rect t)).emb y) := by
  refine out_congr (fun k => ?_) (fun k => ?_) (fun k => ?_) (fun k => ?_) (fun k => ?_) (fun j => ?_) (fun j => ?_) (fun j => ?_)
    (fun k j => ?_) (fun k j => ?_) (fun k j => ?_) (fun k j => ?_) (fun l => ?_) (fun l => ?_) ?_
  · pointwise
    blk_ext [iblk, V, idx t]
  · pointwise
    blk_ext [iblk, V, idx t]
  · pointwise
    exact og_read m c t _ k _ (by blk_ext [idx t])
  · pointwise
    blk_ext [iblk, V, idx t]
  · pointwise
    blk_ext [iblk, V, idx t]
  · pointwise
    exact gates_read m c t _ _ _ (by blk_ext [idx t, colA])
  · pointwise
    exact gates_read m c t _ _ _ (by blk_ext [idx t, colB])
  · pointwise
    exact gates_read m c t _ _ _ (by blk_ext [idx t, colC])
  · pointwise
    exact wa_read m c t k j
  · pointwise
    exact wb_read m c t k j
  · pointwise
    exact wc_read m c t k j
  · pointwise
    exact wo_read m c t k j
  · pointwise
    exact scale_read m c t l
  · pointwise
    exact shift_read m c t l
  · exact Fin.ext (by blk_simp [idx t] <;> omega)

set_option maxHeartbeats 2000000 in
/-- The fourth row piece of a block holds the target's entries. -/
theorem tile3 (c : Dev nD) (t : Fin cfg0.N) (y : S1x1024x1024.Idx) (r : Fin 256) (l : Fin 1024) (h0 : (y 0).val = (0 : Fin 1).val)
    (h1 : (y 1).val = 768 + r.val) (h2 : (y 2).val = l.val) :
    pieceOut (View.ld (iblk m c 0 t) r0_27) (View.ld (iblk m c 1 t) r0_22) (View.ld (iblk m c 2 t) r0_22) (View.ld (iblk m c 3 t) r0_25) (View.ld (iblk m c 4 t) r0_25) (View.ld (iblk m c 5 t) r0_23) (View.ld (iblk m c 5 t) r0_24) (View.ld (iblk m c 5 t) r0_26) (View.ld (iblk m c 6 t) r0_2) (View.ld (iblk m c 7 t) r0_5) (View.ld (iblk m c 8 t) r0_5) (View.ld (iblk m c 9 t) r0_8) (View.ld (iblk m c 10 t) r0_9) (View.ld (iblk m c 11 t) r0_9) r l
      = target m c (((View.whole main_v20).slice (win0_12.rect t)).emb y) := by
  refine out_congr (fun k => ?_) (fun k => ?_) (fun k => ?_) (fun k => ?_) (fun k => ?_) (fun j => ?_) (fun j => ?_) (fun j => ?_)
    (fun k j => ?_) (fun k j => ?_) (fun k j => ?_) (fun k j => ?_) (fun l => ?_) (fun l => ?_) ?_
  · pointwise
    blk_ext [iblk, V, idx t]
  · pointwise
    blk_ext [iblk, V, idx t]
  · pointwise
    exact og_read m c t _ k _ (by blk_ext [idx t])
  · pointwise
    blk_ext [iblk, V, idx t]
  · pointwise
    blk_ext [iblk, V, idx t]
  · pointwise
    exact gates_read m c t _ _ _ (by blk_ext [idx t, colA])
  · pointwise
    exact gates_read m c t _ _ _ (by blk_ext [idx t, colB])
  · pointwise
    exact gates_read m c t _ _ _ (by blk_ext [idx t, colC])
  · pointwise
    exact wa_read m c t k j
  · pointwise
    exact wb_read m c t k j
  · pointwise
    exact wc_read m c t k j
  · pointwise
    exact wo_read m c t k j
  · pointwise
    exact scale_read m c t l
  · pointwise
    exact shift_read m c t l
  · exact Fin.ext (by blk_simp [idx t] <;> omega)

set_option maxHeartbeats 2000000 in
/-- The kernel's result array, in the kernel's form. -/
theorem final (c : Dev nD) : (dats m 0 c).arrAt 12 cfg0.N = target m c := by
  refine (dats m 0 c).arrAt_eq_of_covers 12 _ (by decide +kernel) fun t _ y => ?_
  blk_simp
  rw [after0_12]
  unfold_out out0_12
  canon_tiles x h
  case piece0 =>
    idx_vars x
    obtain rfl : x0 = 0 := Subsingleton.elim _ _
    exact (piece3 _ _ _ _ _ _ _ _ _ _ _ _ _ _ _ _).trans (tile3 m c t y x1 x2 h0 h1 h2)
  case piece1 =>
    idx_vars x
    obtain rfl : x0 = 0 := Subsingleton.elim _ _
    exact (piece2 _ _ _ _ _ _ _ _ _ _ _ _ _ _ _ _).trans (tile2 m c t y x1 x2 h0 h1 h2)
  case piece2 =>
    idx_vars x
    obtain rfl : x0 = 0 := Subsingleton.elim _ _
    exact (piece1 _ _ _ _ _ _ _ _ _ _ _ _ _ _ _ _).trans (tile1 m c t y x1 x2 h0 h1 h2)
  case piece3 =>
    idx_vars x
    obtain rfl : x0 = 0 := Subsingleton.elim _ _
    exact (piece0 _ _ _ _ _ _ _ _ _ _ _ _ _ _ _ _).trans (tile0 m c t y x1 x2 h0 h1 h2)

/-- An extended real whose absolute value is below plus infinity is not minus infinity. -/
theorem ne_bot_of_lt (z : EReal) (h : BitVec.ofBool (decide (max z (-z) < Ideal.ofBits .f32 0x7F800000#32)) = 1#1) : z ≠ ⊥ := by
  have ht : Ideal.ofBits .f32 0x7F800000#32 = ⊤ := by simp [Ideal.ofBits, Ideal.ieee]
  rw [ht] at h
  rintro rfl
  simp at h

/-- The precondition, read: the output gate is nowhere minus infinity. -/
theorem gate_at [Cert.Pre_finite_gate.Facts] (c : Dev nD) (hpre : Cert.Pre_MergeKernelIdeal_finite_gate m) (i : S16x4096x512.Idx) :
    (show FVec Ideal S16x4096x512 .bf16 from m ((c : Thread nD τ).loc main_arg2)) i ≠ ⊥ := by
  refine ne_bot_of_lt _ ?_
  have h := congrFun (hpre c) i
  unfold Cert.Pre_finite_gate.fn at h
  pointwise at h
  exact h

/-- The kernel's result array is the reference's, on finite output gates. -/
theorem algebraic [Cert.Pre_finite_gate.Facts] : Cert.algebraic_MergeKernelIdeal_MergeReferenceIdeal_pre_finite_gate := by
  pair_intro
  · run_from Cert.MergeKernelIdeal.Value.run_blocks m g
  · run_from Cert.MergeReferenceIdeal.Value.run m' g'
    rw [final m c]
    obtain ⟨h0, h1, h2, h3, h4, h5, h6, h7, h8, h9, h10, h11⟩ := hagree c
    rw [Cert.MergeReferenceIdeal.Read.val_main_v51_eq, h0, h1, h2, h3, h4, h5, h6, h7, h8, h9, h10, h11]
    funext i
    idx_vars i
    refine (ref_at _ _ _ _ _ _ _ _ _ _ _ _ i0 i1 i2).trans ?_
    refine congrArg (fun s => out _ s _ _ _ _) (funext fun j => ?_)
    rw [mixed_at]
    exact (mixed_eq _ _ _ _ _ _ _ _ _ _ _ fun k => gate_at m c hpre _).symm

end Cert.Proof.Merge

end
-- ==== Proof.Inproj.Math.lean ====
/- The arithmetic of the input projection over the extended reals: the log decay in its two forms, sums of log
   decays over a part of a chunk, and sums over padded axes. -/
module

public import Idealize.ShloMosaic.Lib.Pointwise
public import Idealize.ShloMosaic.Lib.Routing.OpsOne

@[expose] public section

set_option maxRecDepth 16384

noncomputable section

namespace Cert.Proof.Inproj

open Idealize.ShloMosaic Idealize.SL.Sem

/-- The larger of two reals, read in the extended reals. -/
theorem coe_max (a b : ℝ) : ((max a b : ℝ) : EReal) = max (a : EReal) (b : EReal) := EReal.coe_strictMono.monotone.map_max

/-- The smaller of two reals, read in the extended reals. -/
theorem coe_min (a b : ℝ) : ((min a b : ℝ) : EReal) = min (a : EReal) (b : EReal) := EReal.coe_strictMono.monotone.map_min

/-- The constant one eighth. -/
abbrev eighth : EReal := Ideal.ofBits .f32 0x3E000000#32

/-- The constant one eighth is the real number. -/
theorem eighth_val : eighth = (((1 : ℝ) / 8 : ℝ) : EReal) := by
  simp [eighth, Ideal.ofBits, Ideal.ieee, -EReal.coe_mul]
  norm_num

/-- The constant sixteen is the real number. -/
theorem sixteen_val : Ideal.ofBits .f32 0x41800000#32 = ((16 : ℝ) : EReal) := by
  simp [Ideal.ofBits, Ideal.ieee, -EReal.coe_mul]
  norm_num

/-- The constant one sixteenth is the real number. -/
theorem sixteenth_val : Ideal.ofBits .f32 0x3D800000#32 = (((1 : ℝ) / 16 : ℝ) : EReal) := by
  simp [Ideal.ofBits, Ideal.ieee, -EReal.coe_mul]
  norm_num

/-- The log decay of a gate's argument as the kernel computes it. -/
def logDecay (z : EReal) : EReal :=
  (min z 0 - Ideal.log (1 + Ideal.exp (0 - max z (-z)))) * Ideal.ofBits .f32 0x3D800000#32

/-- The same as the reference computes it: minus the softplus of the negated argument, over sixteen. -/
def logDecayRef (z : EReal) : EReal :=
  Ideal.div (-(max (-z) 0 + Ideal.log1p (Ideal.exp (-(max (-z - 0) (-(-z - 0))))))) (Ideal.ofBits .f32 0x41800000#32)

/-- One plus the exponential of minus an absolute value has a real logarithm. -/
theorem log_one_add (r : ℝ) : Ideal.log (1 + Ideal.exp ((r : ℝ) : EReal)) = ((Real.log (1 + Real.exp r) : ℝ) : EReal) := by
  show Ideal.log (1 + ((Real.exp r : ℝ) : EReal)) = _
  rw [← EReal.coe_one, ← EReal.coe_add]
  show (if 1 + Real.exp r ≤ 0 then (⊥ : EReal) else _) = _
  rw [if_neg (not_le.2 (by positivity))]

/-- A real over sixteen is the real times one sixteenth. -/
theorem div_sixteen (r : ℝ) : Ideal.div (r : EReal) ((16 : ℝ) : EReal) = ((r * (1 / 16) : ℝ) : EReal) := by
  unfold Ideal.div
  rw [if_neg (by exact_mod_cast (by norm_num : (16 : ℝ) ≠ 0)), ← EReal.coe_inv, ← EReal.coe_mul]
  norm_num

/-- The log of one is zero. -/
theorem log_one : Ideal.log 1 = 0 := by
  show (if (1 : ℝ) ≤ 0 then (⊥ : EReal) else ((Real.log 1 : ℝ) : EReal)) = 0
  norm_num

/-- The kernel's log decay of a real number. -/
theorem logDecay_coe (r : ℝ) : logDecay (r : EReal) = (((min r 0 - Real.log (1 + Real.exp (0 - max r (-r)))) * (1 / 16) : ℝ) : EReal) := by
  unfold logDecay
  have e : (0 : EReal) - max (r : EReal) (-(r : EReal)) = ((0 - max r (-r) : ℝ) : EReal) := by
    rw [← EReal.coe_neg, ← coe_max, ← EReal.coe_zero, ← EReal.coe_sub]
  rw [e, log_one_add, sixteenth_val, ← EReal.coe_zero, ← coe_min, ← EReal.coe_sub, ← EReal.coe_mul]

/-- The two forms of the log decay agree at every extended real. -/
theorem logDecay_eq (z : EReal) : logDecayRef z = logDecay z := by
  induction z using EReal.rec with
  | bot =>
    have h1 : logDecay ⊥ = ⊥ := by
      unfold logDecay
      have e : (0 : EReal) - max ⊥ (-⊥) = ⊥ := by simp
      have f : (1 : EReal) + Ideal.exp ⊥ = 1 := by show (1 : EReal) + 0 = 1; simp
      rw [e, f, log_one, sixteenth_val]
      simp only [bot_le, min_eq_left, sub_zero]
      exact EReal.bot_mul_coe_of_pos (by norm_num)
    have h2 : logDecayRef ⊥ = ⊥ := by
      unfold logDecayRef Ideal.log1p
      have e : -(max (-(⊥ : EReal) - 0) (-(-(⊥ : EReal) - 0))) = ⊥ := by simp
      have f : (1 : EReal) + Ideal.exp ⊥ = 1 := by show (1 : EReal) + 0 = 1; simp
      rw [e, f, log_one, sixteen_val]
      have g : -(max (-(⊥ : EReal)) 0 + 0) = ⊥ := by simp
      rw [g]
      unfold Ideal.div
      rw [if_neg (by exact_mod_cast (by norm_num : (16 : ℝ) ≠ 0)), ← EReal.coe_inv]
      exact EReal.bot_mul_coe_of_pos (by norm_num)
    rw [h1, h2]
  | top =>
    have h1 : logDecay ⊤ = 0 := by
      unfold logDecay
      have e : (0 : EReal) - max ⊤ (-⊤) = ⊥ := by simp
      have f : (1 : EReal) + Ideal.exp ⊥ = 1 := by show (1 : EReal) + 0 = 1; simp
      rw [e, f, log_one]
      simp
    have h2 : logDecayRef ⊤ = 0 := by
      unfold logDecayRef Ideal.log1p
      have e : -(max (-(⊤ : EReal) - 0) (-(-(⊤ : EReal) - 0))) = ⊥ := by simp
      have f : (1 : EReal) + Ideal.exp ⊥ = 1 := by show (1 : EReal) + 0 = 1; simp
      rw [e, f, log_one, sixteen_val]
      have g : -(max (-(⊤ : EReal)) 0 + 0) = ((0 : ℝ) : EReal) := by simp
      rw [g, div_sixteen]
      simp
    rw [h1, h2]
  | coe r =>
    rw [logDecay_coe]
    unfold logDecayRef Ideal.log1p
    have e : -(max (-(r : EReal) - 0) (-(-(r : EReal) - 0))) = ((0 - max r (-r) : ℝ) : EReal) := by
      rw [sub_zero, neg_neg, max_comm, ← EReal.coe_neg, ← coe_max, ← EReal.coe_neg]
      congr 1; ring
    rw [e, log_one_add, sixteen_val, ← EReal.coe_zero, ← EReal.coe_neg, ← coe_max, ← EReal.coe_add, ← EReal.coe_neg, div_sixteen]
    congr 2
    have h : max (-r) 0 = -(min r 0) := by rw [← neg_zero (G := ℝ), ← neg_zero (G := ℝ), max_neg_neg]; simp
    rw [h]; ring

/-- The log decay is never plus infinity. -/
theorem logDecay_ne_top (z : EReal) : logDecay z ≠ ⊤ := by
  induction z using EReal.rec with
  | bot =>
    rw [← logDecay_eq]
    unfold logDecayRef Ideal.log1p
    have e : -(max (-(⊥ : EReal) - 0) (-(-(⊥ : EReal) - 0))) = ⊥ := by simp
    have f : (1 : EReal) + Ideal.exp ⊥ = 1 := by show (1 : EReal) + 0 = 1; simp
    rw [e, f, log_one, sixteen_val]
    have g : -(max (-(⊥ : EReal)) 0 + 0) = ⊥ := by simp
    rw [g]
    unfold Ideal.div
    rw [if_neg (by exact_mod_cast (by norm_num : (16 : ℝ) ≠ 0)), ← EReal.coe_inv, EReal.bot_mul_coe_of_pos (by norm_num)]
    exact bot_ne_top
  | top =>
    unfold logDecay
    have e : (0 : EReal) - max ⊤ (-⊤) = ⊥ := by simp
    have f : (1 : EReal) + Ideal.exp ⊥ = 1 := by show (1 : EReal) + 0 = 1; simp
    rw [e, f, log_one]
    simp
  | coe r => rw [logDecay_coe]; exact EReal.coe_ne_top _

/-- A sum with a term minus infinity is minus infinity. -/
theorem sum_bot {n : ℕ} (f : Fin n → EReal) (k : Fin n) (h : f k = ⊥) : ∑ s, f s = ⊥ := by
  rw [← Finset.add_sum_erase _ _ (Finset.mem_univ k), h, EReal.bot_add]

/-- Adding what rounding took off a value that is nowhere plus infinity leaves the sum as it is: what was taken off is
    zero, or minus infinity where the value is. -/
theorem sum_hi_lo {n : ℕ} (a : Fin n → EReal) (P : Fin n → Prop) [DecidablePred P] (h : ∀ s, a s ≠ ⊤) :
    (∑ s, if P s then a s else 0) + (∑ s, if P s then a s - a s else 0) = ∑ s, if P s then a s else 0 := by
  by_cases hb : ∃ k, P k ∧ a k = ⊥
  · obtain ⟨k, hk, e⟩ := hb
    rw [sum_bot (fun s => if P s then a s else 0) k (by simp only [if_pos hk, e]), EReal.bot_add]
  · have z : ∀ s, (if P s then a s - a s else 0) = 0 := fun s => by
      by_cases hp : P s
      · rw [if_pos hp]
        have nb : a s ≠ ⊥ := fun e => hb ⟨s, hp, e⟩
        exact EReal.sub_self (h s) nb
      · rw [if_neg hp]
    rw [Finset.sum_eq_zero fun s _ => z s, add_zero]

/-- One eighth may be taken out of a sum of extended reals. -/
theorem eighth_sum {n : ℕ} (f : Fin n → EReal) : ∑ k, eighth * f k = eighth * ∑ k, f k := by
  induction n with
  | zero => simp
  | succ n ih =>
    rw [Fin.sum_univ_succ, Fin.sum_univ_succ, ih, eighth_val]
    rw [EReal.left_distrib_of_nonneg_of_ne_top (by exact_mod_cast (by norm_num : (0 : ℝ) ≤ 1 / 8)) (EReal.coe_ne_top _)]

/-- A sum over an axis padded with zeros is the sum over the part that is not. -/
theorem sum_padded {n N : ℕ} (o : ℕ) (h : EReal → EReal → EReal) (h0 : ∀ y, h y 0 = 0) (y : Fin N → EReal) (u : Fin N → EReal) (f : Fin n → EReal)
    (ho : o + n ≤ N) (hin : ∀ k : Fin n, u ⟨o + k.val, by omega⟩ = f k) (hout : ∀ k : Fin N, ¬ (o ≤ k.val ∧ k.val < o + n) → u k = 0) :
    ∑ k, h (y k) (u k) = ∑ k : Fin n, h (y ⟨o + k.val, by omega⟩) (f k) := by
  symm
  refine Finset.sum_of_injOn (fun k : Fin n => (⟨o + k.val, by omega⟩ : Fin N)) (fun a _ b _ e => ?_) (fun _ _ => Finset.mem_univ _) (fun k _ hk => ?_) (fun k _ => ?_)
  · have := congrArg Fin.val e
    exact Fin.ext (by simpa using this)
  · rw [hout k, h0]
    rintro ⟨h1, h2⟩
    exact hk ⟨⟨k.val - o, by omega⟩, Finset.mem_coe.2 (Finset.mem_univ _), Fin.ext (by simp; omega)⟩
  · rw [hin]

/-- A sum over four runs of sixty-four in which only one run counts. -/
theorem sum_run (f : Fin 256 → EReal) (c : Fin 4) (h : ∀ k : Fin 256, k.val / 64 ≠ c.val → f k = 0) :
    ∑ k, f k = ∑ s : Fin 64, f ⟨64 * c.val + s.val, by omega⟩ := by
  symm
  refine Finset.sum_of_injOn (fun s : Fin 64 => (⟨64 * c.val + s.val, by omega⟩ : Fin 256)) (fun a _ b _ e => ?_) (fun _ _ => Finset.mem_univ _) (fun k _ hk => ?_) (fun k _ => rfl)
  · have := congrArg Fin.val e
    exact Fin.ext (by simpa using this)
  · refine h k fun e => hk ⟨⟨k.val % 64, by omega⟩, Finset.mem_coe.2 (Finset.mem_univ _), Fin.ext ?_⟩
    show 64 * c.val + k.val % 64 = k.val
    omega

/-- A left fold of sums is the start plus the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The windows ending at `r`, counted by their position in the window or by their position in the chunk. -/
theorem sum_window (r : Fin 64) (f : Fin 64 → EReal) (g : Fin 64 → EReal)
    (hin : ∀ n s : Fin 64, r.val + n.val = 63 + s.val → g n = f s) (hout : ∀ n : Fin 64, r.val + n.val < 63 → g n = 0) :
    ∑ n, g n = ∑ s : Fin 64, if s.val ≤ r.val then f s else 0 := by
  rw [← Finset.sum_filter]
  symm
  refine Finset.sum_of_injOn (fun s : Fin 64 => (⟨(63 + s.val - r.val) % 64, by omega⟩ : Fin 64)) (fun a ha b hb e => ?_) (fun _ _ => Finset.mem_coe.2 (Finset.mem_univ _)) (fun k _ hk => ?_) (fun k hk => ?_)
  · have h1 := (Finset.mem_filter.1 (Finset.mem_coe.1 ha)).2
    have h2 := (Finset.mem_filter.1 (Finset.mem_coe.1 hb)).2
    have := congrArg Fin.val e
    simp only at this
    exact Fin.ext (by omega)
  · refine hout k ?_
    by_contra hc
    refine hk ⟨⟨r.val + k.val - 63, by omega⟩, Finset.mem_coe.2 (Finset.mem_filter.2 ⟨Finset.mem_univ _, by simp; omega⟩), Fin.ext ?_⟩
    show (63 + (r.val + k.val - 63) - r.val) % 64 = k.val
    omega
  · have h1 := (Finset.mem_filter.1 hk).2
    refine (hin _ k ?_).symm
    show r.val + (63 + k.val - r.val) % 64 = 63 + k.val
    omega

end Cert.Proof.Inproj

end
-- ==== Proof.Inproj.Spec.lean ====
/- What the kernel of the input projection stores, read at an entry of a block. -/
module

public import proofs.«01_k».proof.Proof.Inproj.Math
public import proofs.«01_k».proof.Proof.Gen.InprojKernelIdeal.Skeleton

@[expose] public section

set_option maxRecDepth 16384

noncomputable section

namespace Cert.Proof.Inproj

open Idealize.ShloMosaic Idealize.ShloMosaic.TcCoe Idealize.SL.Sem
open Cert.InprojKernelIdeal Cert.InprojKernelIdeal.Gen

/-- Products with a mask of runs of sixty-four rows: the rounded values and what the rounding took off give the sum of the
    values the mask keeps in the row's run. -/
theorem masked_sum (m : Fin 256 → EReal) (P : Fin 64 → Prop) [DecidablePred P] (c : Fin 4) (a : Fin 256 → EReal) (ha : ∀ k, a k ≠ ⊤)
    (hin : ∀ s : Fin 64, m ⟨64 * c.val + s.val, by omega⟩ = if P s then 1 else 0) (hout : ∀ k : Fin 256, k.val / 64 ≠ c.val → m k = 0) :
    (∑ k, m k * a k) + (∑ k, m k * (a k - a k)) = ∑ s : Fin 64, if P s then a ⟨64 * c.val + s.val, by omega⟩ else 0 := by
  rw [sum_run _ c fun k h => by rw [hout k h, zero_mul], sum_run _ c fun k h => by rw [hout k h, zero_mul],
    ← sum_hi_lo (fun s => a ⟨64 * c.val + s.val, by omega⟩) P fun s => ha _]
  simp only [hin, ite_mul, one_mul, zero_mul]

/-- The argument of the decays' sigmoid at a row and column of a block. -/
def blockArg (x : FVec Ideal S1x512x1024 .f32) (wl : FVec Ideal S1024x128 .bf16) (u : FVec Ideal S128x512 .bf16) (y : FVec Ideal S1x512 .f32) (r c : Fin 512) : EReal :=
  (∑ k : Fin 128, (∑ d : Fin 1024, x (ix3 0 r d) * wl (ix2 d k)) * u (ix2 k c)) + y (ix2 0 c)

/-- The log decays of a block. -/
def logs (x : FVec Ideal S1x512x1024 .f32) (wl : FVec Ideal S1024x128 .bf16) (u : FVec Ideal S128x512 .bf16) (y : FVec Ideal S1x512 .f32) : FVec Ideal S512x512 .f32 :=
  k0_pay15 (F := Ideal) (k0_pay13 x wl) (k0_pay14 u) (constant S512x512 .f32 0x00000000#32) y

/-- The log decays of a block at an entry. -/
theorem logs_at (x : FVec Ideal S1x512x1024 .f32) (wl : FVec Ideal S1024x128 .bf16) (u : FVec Ideal S128x512 .bf16) (y : FVec Ideal S1x512 .f32) (r c : Fin 512) :
    logs x wl u y (ix2 r c) = logDecay (blockArg x wl u y r c) := by
  unfold logs logDecay blockArg
  pointwise [k0_pay15, k0_pay14, k0_pay13, k0_pay6]
  rfl

/-- The log decays of a block are nowhere plus infinity. -/
theorem logs_ne_top (x : FVec Ideal S1x512x1024 .f32) (wl : FVec Ideal S1024x128 .bf16) (u : FVec Ideal S128x512 .bf16) (y : FVec Ideal S1x512 .f32) (r c : Fin 512) : logs x wl u y (ix2 r c) ≠ ⊤ := by
  rw [logs_at]
  exact logDecay_ne_top _

/-- A mask of runs of sixty-four rows: an entry is one where row and column lie in one run and the relation holds. -/
def IsMask (tri : FVec Ideal S256x256 .bf16) (Q : ℕ → ℕ → Prop) [DecidableRel Q] : Prop :=
  ∀ i k : Fin 256, tri (ix2 i k) = if i.val / 64 = k.val / 64 ∧ Q (i.val % 64) (k.val % 64) then 1 else 0

/-- The two products with a mask for each half of a block give the sums the mask keeps. -/
theorem half_sum (tri : FVec Ideal S256x256 .bf16) (Q : ℕ → ℕ → Prop) [DecidableRel Q] (ht : IsMask tri Q) (a : Fin 256 → EReal) (ha : ∀ k, a k ≠ ⊤) (i : Fin 256) :
    (∑ k, tri (ix2 i k) * a k) + (∑ k, tri (ix2 i k) * (a k - a k))
      = ∑ s : Fin 64, if Q (i.val % 64) s.val then a ⟨64 * (i.val / 64) + s.val, by omega⟩ else 0 := by
  refine masked_sum (fun k => tri (ix2 i k)) (fun s => Q (i.val % 64) s.val) ⟨i.val / 64, by omega⟩ a ha (fun s => ?_) (fun k h => ?_)
  · have hs := s.isLt
    have e : (64 * (i.val / 64) + s.val) % 64 = s.val := by omega
    have e' : i.val / 64 = (64 * (i.val / 64) + s.val) / 64 := by omega
    rw [ht]
    show (if i.val / 64 = (64 * (i.val / 64) + s.val) / 64 ∧ Q (i.val % 64) ((64 * (i.val / 64) + s.val) % 64) then (1 : EReal) else 0) = _
    rw [e]
    by_cases hq : Q (i.val % 64) s.val
    · rw [if_pos ⟨e', hq⟩, if_pos hq]
    · rw [if_neg fun h => hq h.2, if_neg hq]
  · show tri (ix2 i k) = 0
    rw [ht, if_neg fun e => h e.1.symm]

/-- The same for the two halves of a block of 512 rows. -/
theorem block_sum (tri : FVec Ideal S256x256 .bf16) (Q : ℕ → ℕ → Prop) [DecidableRel Q] (ht : IsMask tri Q) (a : Fin 512 → EReal) (ha : ∀ k, a k ≠ ⊤) (r : Fin 512) :
    (if h : r.val < 256 then
        (∑ k : Fin 256, tri (ix2 (⟨r.val, h⟩ : Fin 256) k) * a ⟨k.val, by omega⟩) + ∑ k : Fin 256, tri (ix2 (⟨r.val, h⟩ : Fin 256) k) * (a ⟨k.val, by omega⟩ - a ⟨k.val, by omega⟩)
      else (∑ k : Fin 256, tri (ix2 (⟨r.val - 256, by omega⟩ : Fin 256) k) * a ⟨256 + k.val, by omega⟩)
        + ∑ k : Fin 256, tri (ix2 (⟨r.val - 256, by omega⟩ : Fin 256) k) * (a ⟨256 + k.val, by omega⟩ - a ⟨256 + k.val, by omega⟩))
      = ∑ s : Fin 64, if Q (r.val % 64) s.val then a ⟨r.val / 64 * 64 + s.val, by omega⟩ else 0 := by
  by_cases h : r.val < 256
  · rw [dif_pos h]
    refine (half_sum tri Q ht (fun k => a ⟨k.val, by omega⟩) (fun k => ha _) ⟨r.val, h⟩).trans (Finset.sum_congr rfl fun s _ => ?_)
    refine if_congr Iff.rfl (congrArg a (Fin.ext ?_)) rfl
    show 64 * (r.val / 64) + s.val = r.val / 64 * 64 + s.val
    omega
  · rw [dif_neg h]
    refine (half_sum tri Q ht (fun k => a ⟨256 + k.val, by omega⟩) (fun k => ha _) ⟨r.val - 256, by omega⟩).trans (Finset.sum_congr rfl fun s _ => ?_)
    have e : (r.val - 256) % 64 = r.val % 64 := by omega
    refine if_congr (by show Q ((r.val - 256) % 64) s.val ↔ _; rw [e]) (congrArg a (Fin.ext ?_)) rfl
    show 256 + (64 * ((r.val - 256) / 64) + s.val) = r.val / 64 * 64 + s.val
    omega

/-- The forward cumulative log decays of a block. -/
theorem b_f_block (x : FVec Ideal S1x512x1024 .f32) (wl : FVec Ideal S1024x128 .bf16) (u : FVec Ideal S128x512 .bf16) (y : FVec Ideal S1x512 .f32) (tri : FVec Ideal S256x256 .bf16) (ht : IsMask tri fun i k => k ≤ i) (r : Fin 512) (l : Fin 256) :
    k0_pay18 (F := Ideal) (k0_pay13 x wl) (k0_pay14 u) (constant S512x512 .f32 0x00000000#32) y tri (ix2 r l)
      = ∑ s : Fin 64, if s.val ≤ r.val % 64 then logs x wl u y (ix2 ⟨r.val / 64 * 64 + s.val, by omega⟩ ⟨l.val, by omega⟩) else 0 := by
  refine Eq.trans ?_ (block_sum tri (fun i k => k ≤ i) ht (fun k => logs x wl u y (ix2 k ⟨l.val, by omega⟩)) (fun k => logs_ne_top x wl u y _ _) r)
  unfold logs
  generalize k0_pay13 (F := Ideal) x wl = A
  generalize k0_pay14 (F := Ideal) u = B
  generalize (constant S512x512 .f32 0x00000000#32 : FVec Ideal S512x512 .f32) = C
  pointwise [k0_pay18, k0_pay17, k0_pay16]

/-- The backward cumulative log decays of a block. -/
theorem b_b_block (x : FVec Ideal S1x512x1024 .f32) (wl : FVec Ideal S1024x128 .bf16) (u : FVec Ideal S128x512 .bf16) (y : FVec Ideal S1x512 .f32) (tri : FVec Ideal S256x256 .bf16) (ht : IsMask tri fun i k => i ≤ k) (r : Fin 512) (l : Fin 256) :
    k0_pay22 (F := Ideal) (k0_pay16 (k0_pay13 x wl) (k0_pay14 u) (constant S512x512 .f32 0x00000000#32) y)
        (k0_pay17 (k0_pay13 x wl) (k0_pay14 u) (constant S512x512 .f32 0x00000000#32) y) (k0_pay20 tri)
        (k0_pay21 (k0_pay13 x wl) (k0_pay14 u) (constant S512x512 .f32 0x00000000#32) y tri) (ix2 r l)
      = ∑ s : Fin 64, if r.val % 64 ≤ s.val then logs x wl u y (ix2 ⟨r.val / 64 * 64 + s.val, by omega⟩ ⟨256 + l.val, by omega⟩) else 0 := by
  refine Eq.trans ?_ (block_sum tri (fun i k => i ≤ k) ht (fun k => logs x wl u y (ix2 k ⟨256 + l.val, by omega⟩)) (fun k => logs_ne_top x wl u y _ _) r)
  unfold logs
  generalize k0_pay13 (F := Ideal) x wl = A
  generalize k0_pay14 (F := Ideal) u = B
  generalize (constant S512x512 .f32 0x00000000#32 : FVec Ideal S512x512 .f32) = C
  pointwise [k0_pay22, k0_pay21, k0_pay20, k0_pay17, k0_pay16]

/-- The queries of a block. -/
theorem q_block (x : FVec Ideal S1x512x1024 .f32) (w : FVec Ideal S1024x1536 .bf16) (r : Fin 512) (l : Fin 256) :
    k0_pay11 (F := Ideal) x w (ix2 r l) = ∑ d : Fin 1024, x (ix3 0 r d) * w (ix2 d ⟨l.val, by omega⟩) := by
  pointwise [k0_pay11, k0_pay7, k0_pay6]

/-- The keys of a block. -/
theorem k_block (x : FVec Ideal S1x512x1024 .f32) (w : FVec Ideal S1024x1536 .bf16) (r : Fin 512) (l : Fin 256) :
    k0_pay12 (F := Ideal) x w (ix2 r l) = ∑ d : Fin 1024, x (ix3 0 r d) * w (ix2 d ⟨256 + l.val, by omega⟩) := by
  pointwise [k0_pay12, k0_pay7, k0_pay6]

/-- The values of a block. -/
theorem v_block (x : FVec Ideal S1x512x1024 .f32) (w : FVec Ideal S1024x1536 .bf16) (r : Fin 512) (l : Fin 512) :
    k0_pay8 (F := Ideal) x w (ix3 0 r l) = ∑ d : Fin 1024, x (ix3 0 r d) * w (ix2 d ⟨512 + l.val, by omega⟩) := by
  pointwise [k0_pay8, k0_pay7, k0_pay6]

/-- The output gate of a block. -/
theorem og_block (x : FVec Ideal S1x512x1024 .f32) (w : FVec Ideal S1024x1536 .bf16) (r : Fin 512) (l : Fin 512) :
    k0_pay9 (F := Ideal) x w (ix3 0 r l) = ∑ d : Fin 1024, x (ix3 0 r d) * w (ix2 d ⟨1024 + l.val, by omega⟩) := by
  pointwise [k0_pay9, k0_pay7, k0_pay6]

/-- The branch gates of a block. -/
theorem gates_block (x : FVec Ideal S1x512x1024 .f32) (w : FVec Ideal S1024x3072 .bf16) (r : Fin 512) (l : Fin 3072) :
    k0_pay10 (F := Ideal) x w (ix3 0 r l) = ∑ d : Fin 1024, x (ix3 0 r d) * w (ix2 d l) := by
  pointwise [k0_pay10, k0_pay6]

/-- The pooling input of a block. -/
theorem p_block (x : FVec Ideal S1x512x1024 .f32) (w : FVec Ideal S1024x1024 .bf16) (r : Fin 512) (l : Fin 256) :
    k0_pay4 (F := Ideal) (k0_pay6 x) w (ix3 0 r l) = ∑ d : Fin 1024, x (ix3 0 r d) * w (ix2 d ⟨l.val, by omega⟩) := by
  pointwise [k0_pay4, k0_pay3, k0_pay6]

/-- The neighbourhood attention's input of a block. -/
theorem qkv_block (x : FVec Ideal S1x512x1024 .f32) (w : FVec Ideal S1024x1024 .bf16) (r : Fin 512) (l : Fin 768) :
    k0_pay5 (F := Ideal) (k0_pay6 x) w (ix3 0 r l) = ∑ d : Fin 1024, x (ix3 0 r d) * w (ix2 d ⟨256 + l.val, by omega⟩) := by
  pointwise [k0_pay5, k0_pay3, k0_pay6]

/-- Queries with their decay, stored in a block. -/
theorem qf_store (q b : FVec Ideal S512x256 .f32) (r : Fin 512) (l : Fin 256) :
    k0_pay24 (F := Ideal) q b (ix3 0 r l) = q (ix2 r l) * Ideal.exp (b (ix2 r l)) := by
  pointwise [k0_pay24]

/-- Keys with the inverse of their decay, stored in a block. -/
theorem kf_store (k b : FVec Ideal S512x256 .f32) (r : Fin 512) (l : Fin 256) :
    k0_pay25 (F := Ideal) k b (ix3 0 r l) = k (ix2 r l) * Ideal.exp (-b (ix2 r l)) := by
  rw [← zero_sub]
  pointwise [k0_pay25]

/-- Backward queries with their decay, stored in a block. -/
theorem qb_store (q : FVec Ideal S512x256 .f32) (h l' : FVec Ideal S512x512 .bf16) (t : FVec Ideal S256x256 .bf16) (d : FVec Ideal S256x256 .f32) (r : Fin 512) (l : Fin 256) :
    k0_pay27 (F := Ideal) q h l' t d (ix3 0 r l) = q (ix2 r l) * Ideal.exp (k0_pay22 (F := Ideal) h l' t d (ix2 r l)) := by
  unfold k0_pay27
  generalize k0_pay22 (F := Ideal) h l' t d = b
  pointwise

/-- Backward keys with the inverse of their decay, stored in a block. -/
theorem kb_store (k : FVec Ideal S512x256 .f32) (h l' : FVec Ideal S512x512 .bf16) (t : FVec Ideal S256x256 .bf16) (d : FVec Ideal S256x256 .f32) (r : Fin 512) (l : Fin 256) :
    k0_pay1 (F := Ideal) (k0_pay28 (F := Ideal) k h l' t d) (ix3 0 r l) = k (ix2 r l) * Ideal.exp (-k0_pay22 (F := Ideal) h l' t d (ix2 r l)) := by
  unfold k0_pay1 k0_pay28
  generalize k0_pay22 (F := Ideal) h l' t d = b
  rw [← zero_sub]
  pointwise

/-- Forward decays of whole chunks, stored in a block. -/
theorem df_store (A : FVec Ideal S512x128 .bf16) (B : FVec Ideal S128x512 .bf16) (C : FVec Ideal S512x512 .f32) (y : FVec Ideal S1x512 .f32)
    (tri : FVec Ideal S256x256 .bf16) (g : Fin 8) (l : Fin 256) :
    k0_pay26 (F := Ideal) (k0_pay19 (F := Ideal) A B C y tri) (ix3 0 g l) = Ideal.exp (k0_pay18 (F := Ideal) A B C y tri (ix2 ⟨g.val * 64 + 63, by omega⟩ l)) := by
  unfold k0_pay26 k0_pay19
  generalize k0_pay18 (F := Ideal) A B C y tri = b
  pointwise

/-- Backward decays of whole chunks, stored in a block. -/
theorem db_store (h l' : FVec Ideal S512x512 .bf16) (t : FVec Ideal S256x256 .bf16) (d : FVec Ideal S256x256 .f32) (g : Fin 8) (l : Fin 256) :
    k0_pay2 (F := Ideal) (k0_pay23 (F := Ideal) h l' t d) (ix3 0 g l) = Ideal.exp (k0_pay22 (F := Ideal) h l' t d (ix2 ⟨g.val * 64, by omega⟩ l)) := by
  unfold k0_pay2 k0_pay23
  generalize k0_pay22 (F := Ideal) h l' t d = b
  pointwise
-- ==== Proof.Inproj.Host.lean ====
/- The weights, biases and masks the input projection's call is given, read at an entry. -/
module

public import proofs.«01_k».proof.Proof.Inproj.Spec
public import Idealize.ShloMosaic.Lib.Routing.OpsPair
public import Idealize.ShloMosaic.Lib.Routing.OpsSet

@[expose] public section

set_option maxRecDepth 16384

noncomputable section

namespace Cert.Proof.Inproj

open Idealize.ShloMosaic Idealize.ShloMosaic.TcCoe Idealize.SL.Sem Idealize.ShloMosaic.Routing
open Cert.InprojKernelIdeal Cert.InprojKernelIdeal.Gen

/-- The first matrix: the queries' columns scaled, beside the columns of keys, values and output gate. -/
def hostA (w : FVec Ideal S1024x5664 .f32) : FVec Ideal S1024x1536 .bf16 :=
  truncf .bf16 (concatenate S1024x1536 1
    [⟨S1024x256, mulf (broadcastInDim S1024x256 ![] bcast_S_S1024x256 (constant S_ .f32 0x3E000000#32)) (extractStridedSlice S1024x256 ![0, 0] w slices_S1024x5664_S1024x256_0_0)⟩,
      ⟨S1024x1280, extractStridedSlice S1024x1280 ![0, 256] w slices_S1024x5664_S1024x1280_0_256⟩] concatenates_S1024x256_S1024x1280_S1024x1536_d1) bitsLt_bf16_f32

/-- A query's column of the first matrix. -/
theorem hostA_q (w : FVec Ideal S1024x5664 .f32) (k : Fin 1024) (l : Fin 256) : hostA w (ix2 k ⟨l.val, by omega⟩) = eighth * w (ix2 k ⟨l.val, by omega⟩) := by
  unfold hostA
  pointwise

/-- Another column of the first matrix. -/
theorem hostA_rest (w : FVec Ideal S1024x5664 .f32) (k : Fin 1024) (j : ℕ) (h : 256 ≤ j) (h' : j < 1536) : hostA w (ix2 k ⟨j, h'⟩) = w (ix2 k ⟨j, by omega⟩) := by
  unfold hostA
  pointwise
  rw [dif_neg (by omega)]
  congr 2
  exact Fin.ext (by show 256 + (j - 256) = j; omega)

/-- The low-rank columns' place. -/
def posL : IVec S1 32 := broadcastInDim S1 ![] bcast_S_S1 (constantI S_ 32 0#32)

/-- The low-rank matrix: thirty-two columns in a matrix of zeros. -/
def hostL (w : FVec Ideal S1024x5664 .f32) : FVec Ideal S1024x128 .bf16 :=
  truncf .bf16 (Host.scatter scatter_S1024x128_S1_S1024x32_01_n_1_0 (fun _ b => b) (broadcastInDim S1024x128 ![] bcast_S_S1024x128 (constant S_ .f32 0x00000000#32)) posL
    (extractStridedSlice S1024x32 ![0, 1536] w slices_S1024x5664_S1024x32_0_1536)) bitsLt_bf16_f32

/-- Where an update of the low-rank matrix lands. -/
theorem low_lands (idx : IVec S1 32) (h : (idx (ix1 0)).toInt = 0) (i r : Fin 1024) (j : Fin 32) (c : Fin 128) :
    scatter_S1024x128_S1_S1024x32_01_n_1_0.resultIdx? (ix2 i j) idx = some (ix2 r c) ↔ i.val = r.val ∧ j.val = c.val := by
  refine (resultIdx?_ix2 (R := 1024) (C := 128) scatter_S1024x128_S1_S1024x32_01_n_1_0 (ix2 i j) idx r c).trans ?_
  have w0 : scatter_S1024x128_S1_S1024x32_01_n_1_0.window (ix2 i j) 0 = i.val := rfl
  have w1 : scatter_S1024x128_S1_S1024x32_01_n_1_0.window (ix2 i j) 1 = j.val := rfl
  have s0 : scatter_S1024x128_S1_S1024x32_01_n_1_0.start (ix2 i j) idx 0 = 0 := rfl
  have s1 : scatter_S1024x128_S1_S1024x32_01_n_1_0.start (ix2 i j) idx 1 = 0 := by
    refine Eq.trans ?_ h
    unfold ScatterDims.start
    rw [dif_pos (by decide)]
    refine congrArg (fun q => (idx q).toInt) (funext fun q => ?_)
    obtain rfl : q = 0 := Subsingleton.elim _ _
    rfl
  rw [w0, w1, s0, s1]
  omega

/-- A scatter of thirty-two columns at the first column. -/
theorem low_scatter (z : FVec Ideal S1024x128 .f32) (up : FVec Ideal S1024x32 .f32) (k : Fin 1024) (j : Fin 32) :
    Host.scatter scatter_S1024x128_S1_S1024x32_01_n_1_0 (fun _ b => b) z posL up (ix2 k ⟨j.val, by omega⟩) = up (ix2 k j) :=
  scatter_set_hit scatter_S1024x128_S1_S1024x32_01_n_1_0 z posL up (ix2 k ⟨j.val, by omega⟩) (up (ix2 k j)) (fun q hq => by
    idx_vars q
    obtain ⟨e, f⟩ := (low_lands posL rfl _ _ _ _).1 hq
    obtain rfl := Fin.ext e
    obtain rfl := Fin.ext f
    rfl) (ix2 k j) ((low_lands posL rfl k k j _).2 ⟨rfl, rfl⟩)

/-- A column of the low-rank matrix. -/
theorem hostL_at (w : FVec Ideal S1024x5664 .f32) (k : Fin 1024) (j : Fin 32) : hostL w (ix2 k ⟨j.val, by omega⟩) = w (ix2 k ⟨1536 + j.val, by omega⟩) := by
  unfold hostL
  rw [truncf_apply]
  refine Eq.trans (congrArg _ (low_scatter _ _ k j)) ?_
  pointwise

/-- Where an update of the second low-rank matrix lands. -/
theorem up_lands (idx : IVec S2 32) (i : Fin 16) (j : Fin 256) (r : Fin 128) (c : Fin 512) :
    scatter_S128x512_S2_S16x256_01_n_01_0.resultIdx? (ix2 i j) idx = some (ix2 r c)
      ↔ (idx (ix1 0)).toInt + (i.val : Int) = r.val ∧ (idx (ix1 1)).toInt + (j.val : Int) = c.val := by
  refine (resultIdx?_ix2 (R := 128) (C := 512) scatter_S128x512_S2_S16x256_01_n_01_0 (ix2 i j) idx r c).trans ?_
  have w0 : scatter_S128x512_S2_S16x256_01_n_01_0.window (ix2 i j) 0 = i.val := rfl
  have w1 : scatter_S128x512_S2_S16x256_01_n_01_0.window (ix2 i j) 1 = j.val := rfl
  rw [w0, w1, start_pair (R := 128) (C := 512) scatter_S128x512_S2_S16x256_01_n_01_0 rfl rfl, start_pair (R := 128) (C := 512) scatter_S128x512_S2_S16x256_01_n_01_0 rfl rfl]
  exact Iff.rfl

/-- The pair of positions of the forward matrix. -/
def posF : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The pair of positions of the backward matrix. -/
def posB : IVec S2 32 :=
  concatenate S2 0 [⟨S1, broadcastInDim S1 ![] bcast_S_S1 (constantI S_ 32 16#32)⟩, ⟨S1, broadcastInDim S1 ![] bcast_S_S1 (constantI S_ 32 256#32)⟩] concatenates_S1_S1_S2_d0

/-- The forward matrix begins at the first row and column. -/
theorem posF_at : (posF (ix1 0)).toInt = 0 ∧ (posF (ix1 1)).toInt = 0 := by
  unfold posF
  constructor
  · pointwise
    rfl
  · pointwise
    rfl

/-- The backward matrix begins at row 16 and column 256. -/
theorem posB_at : (posB (ix1 0)).toInt = 16 ∧ (posB (ix1 1)).toInt = 256 := by
  unfold posB
  constructor
  · pointwise
    rfl
  · pointwise
    rfl

/-- The second low-rank matrix with the forward block alone. -/
def hostF (uf : FVec Ideal S16x256 .f32) : FVec Ideal S128x512 .f32 :=
  Host.scatter scatter_S128x512_S2_S16x256_01_n_01_0 (fun _ b => b) (broadcastInDim S128x512 ![] bcast_S_S128x512 (constant S_ .f32 0x00000000#32)) posF uf

/-- The second low-rank matrix: the forward and the backward block in a matrix of zeros. -/
def hostU (uf ub : FVec Ideal S16x256 .f32) : FVec Ideal S128x512 .bf16 :=
  truncf .bf16 (Host.scatter scatter_S128x512_S2_S16x256_01_n_01_0 (fun _ b => b) (hostF uf) posB ub) bitsLt_bf16_f32

/-- The forward block. -/
theorem hostF_hit (uf : FVec Ideal S16x256 .f32) (k : Fin 16) (l : Fin 256) : hostF uf (ix2 ⟨k.val, by omega⟩ ⟨l.val, by omega⟩) = uf (ix2 k l) := by
  refine scatter_set_hit _ _ _ _ _ _ (fun q hq => ?_) (ix2 k l) ((up_lands posF k l _ _).2 (by rw [posF_at.1, posF_at.2]; constructor <;> simp))
  idx_vars q
  obtain ⟨e, f⟩ := (up_lands posF _ _ _ _).1 hq
  rw [posF_at.1] at e
  rw [posF_at.2] at f
  congr 2
  · exact Fin.ext (by simpa using e)
  · exact Fin.ext (by simpa using f)

/-- Outside the forward block there are zeros. -/
theorem hostF_miss (uf : FVec Ideal S16x256 .f32) (k : Fin 128) (c : Fin 512) (h : ¬ (k.val < 16 ∧ c.val < 256)) : hostF uf (ix2 k c) = 0 := by
  refine (scatter_set_miss _ _ _ _ _ fun q hq => ?_).trans (by pointwise)
  idx_vars q
  obtain ⟨e, f⟩ := (up_lands posF _ _ _ _).1 hq
  rw [posF_at.1] at e
  rw [posF_at.2] at f
  omega

/-- A scatter at row 16 and column 256, away from its block. -/
theorem up_scatter_miss (z : FVec Ideal S128x512 .f32) (ub : FVec Ideal S16x256 .f32) (k : Fin 128) (c : Fin 512) (h : ¬ ((16 ≤ k.val ∧ k.val < 32) ∧ 256 ≤ c.val)) :
    Host.scatter scatter_S128x512_S2_S16x256_01_n_01_0 (fun _ b => b) z posB ub (ix2 k c) = z (ix2 k c) :=
  scatter_set_miss scatter_S128x512_S2_S16x256_01_n_01_0 z posB ub (ix2 k c) fun q hq => by
    idx_vars q
    obtain ⟨e, f⟩ := (up_lands posB _ _ _ _).1 hq
    rw [posB_at.1] at e
    rw [posB_at.2] at f
    omega

/-- A scatter at row 16 and column 256, in its block. -/
theorem up_scatter_hit (z : FVec Ideal S128x512 .f32) (ub : FVec Ideal S16x256 .f32) (k : Fin 16) (l : Fin 256) :
    Host.scatter scatter_S128x512_S2_S16x256_01_n_01_0 (fun _ b => b) z posB ub (ix2 ⟨16 + k.val, by omega⟩ ⟨256 + l.val, by omega⟩) = ub (ix2 k l) :=
  scatter_set_hit scatter_S128x512_S2_S16x256_01_n_01_0 z posB ub (ix2 ⟨16 + k.val, by omega⟩ ⟨256 + l.val, by omega⟩) (ub (ix2 k l)) (fun q hq => by
    idx_vars q
    obtain ⟨e, f⟩ := (up_lands posB _ _ _ _).1 hq
    rw [posB_at.1] at e
    rw [posB_at.2] at f
    congr 2
    · exact Fin.ext (by push_cast at e; omega)
    · exact Fin.ext (by push_cast at f; omega)) (ix2 k l) ((up_lands posB k l _ _).2 (by rw [posB_at.1, posB_at.2]; constructor <;> simp))

/-- Outside the backward block the matrix is the one with the forward block. -/
theorem hostU_miss (uf ub : FVec Ideal S16x256 .f32) (k : Fin 128) (c : Fin 512) (h : ¬ ((16 ≤ k.val ∧ k.val < 32) ∧ 256 ≤ c.val)) : hostU uf ub (ix2 k c) = hostF uf (ix2 k c) := by
  unfold hostU
  rw [truncf_apply, Ideal.truncf_def]
  generalize hostF uf = z
  rw [up_scatter_miss z ub k c h]

/-- The backward block. -/
theorem hostU_hit (uf ub : FVec Ideal S16x256 .f32) (k : Fin 16) (l : Fin 256) : hostU uf ub (ix2 ⟨16 + k.val, by omega⟩ ⟨256 + l.val, by omega⟩) = ub (ix2 k l) := by
  unfold hostU
  rw [truncf_apply, Ideal.truncf_def]
  generalize hostF uf = z
  rw [up_scatter_hit z ub k l]

/-- The bit one as a number. -/
theorem bit_one : FloatOps.uitofp (F := Ideal) FTy.f32 1#1 = (1 : EReal) := by
  show ((((1#1 : BitVec 1).toNat : ℕ) : ℝ) : EReal) = 1
  simp

/-- The bit zero as a number. -/
theorem bit_zero : FloatOps.uitofp (F := Ideal) FTy.f32 0#1 = (0 : EReal) := by
  show ((((0#1 : BitVec 1).toNat : ℕ) : ℝ) : EReal) = 0
  simp

/-- The identity of four rows. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The lower triangle of a chunk. -/
def tri : FVec Ideal S64x64 .f32 :=
  uitofp .f32 (cmpi .sle (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0))))

/-- A matrix of a chunk repeated along the diagonal. -/
def kron (t : FVec Ideal S64x64 .f32) : FVec Ideal S256x256 .bf16 :=
  truncf .bf16 (shapeCast S256x256 (mulf (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3 t))) shapeCasts_S4x64x4x64_S256x256) bitsLt_bf16_f32

/-- An entry of the identity. -/
theorem eye_at (i j : Fin 4) : eye (ix2 i j) = if i.val = j.val then 1 else 0 := by
  have e : ∀ i j : Fin 4, IntOp.cmpi .eq (IntOp.addi (BitVec.ofNat 32 i.val) 0#32) (BitVec.ofNat 32 j.val) = if i.val = j.val then 1#1 else 0#1 := by decide +kernel
  unfold eye
  pointwise
  rw [e]
  split_ifs
  · exact bit_one
  · exact bit_zero

/-- An entry of the lower triangle. -/
theorem tri_at (i j : Fin 64) : tri (ix2 i j) = if j.val ≤ i.val then 1 else 0 := by
  have e : ∀ i j : Fin 64, IntOp.cmpi .sle (BitVec.ofNat 32 j.val) (BitVec.ofNat 32 i.val) = if j.val ≤ i.val then 1#1 else 0#1 := by decide +kernel
  unfold tri
  pointwise
  rw [e]
  split_ifs
  · exact bit_one
  · exact bit_zero

/-- An entry of the repeated matrix. -/
theorem kron_at (t : FVec Ideal S64x64 .f32) (i k : Fin 256) :
    kron t (ix2 i k) = eye (ix2 ⟨i.val / 64, by omega⟩ ⟨k.val / 64, by omega⟩) * t (ix2 ⟨i.val % 64, by omega⟩ ⟨k.val % 64, by omega⟩) := by
  unfold kron
  pointwise

/-- The first mask: in a chunk, the rows up to each. -/
theorem mask_lower : IsMask (kron tri) fun i k => k ≤ i := fun i k => by
  rw [kron_at, eye_at, tri_at, ite_and]
  split_ifs <;> simp

/-- The second mask: in a chunk, the rows from each on. -/
theorem mask_upper : IsMask (kron (transpose S64x64 [1, 0] tri transposes_S64x64_S64x64_1_0)) fun i k => i ≤ k := fun i k => by
  have e : ∀ a b : Fin 64, transpose S64x64 [1, 0] tri transposes_S64x64_S64x64_1_0 (ix2 a b) = tri (ix2 b a) := fun a b => by pointwise
  rw [kron_at, eye_at, e, tri_at, ite_and]
  split_ifs <;> simp

/-- The biases in a row. -/
def hostY (yf yb : FVec Ideal S256 .f32) : FVec Ideal S1x512 .f32 :=
  shapeCast S1x512 (concatenate S512 0 [⟨S256, yf⟩, ⟨S256, yb⟩] concatenates_S256_S256_S512_d0) shapeCasts_S512_S1x512

/-- The forward bias. -/
theorem hostY_f (yf yb : FVec Ideal S256 .f32) (l : Fin 256) : hostY yf yb (ix2 0 ⟨l.val, by omega⟩) = yf (ix1 l) := by
  unfold hostY
  pointwise

/-- The backward bias. -/
theorem hostY_b (yf yb : FVec Ideal S256 .f32) (l : Fin 256) : hostY yf yb (ix2 0 ⟨256 + l.val, by omega⟩) = yb (ix1 l) := by
  unfold hostY
  pointwise

end Cert.Proof.Inproj

end
-- ==== Proof.Inproj.Ref.lean ====
/- The reference of the input projection, read at an entry. -/
module

public import proofs.«01_k».proof.Proof.Inproj.Math
public import proofs.«01_k».proof.Proof.Gen.InprojReferenceIdeal.Read

@[expose] public section

set_option maxRecDepth 16384

noncomputable section

namespace Cert.Proof.Inproj

open Idealize.ShloMosaic Idealize.ShloMosaic.TcCoe Idealize.SL.Sem
open Cert.InprojReferenceIdeal Cert.InprojReferenceIdeal.Read

/-- The coordinates of position `n` of a window of sixty-four rows. -/
theorem window_at : ∀ n : Fin 64, ∀ a : Fin 4,
    (((⟨4, ![1, 1, 64, 1]⟩ : Shape).rowMajor.symm (⟨n.val, by have := n.isLt; simpa [Shape.numel, Fin.prod_univ_succ] using this⟩ : Fin (⟨4, ![1, 1, 64, 1]⟩ : Shape).numel)) a).val
      = (![0, 0, n.val, 0] : Fin 4 → ℕ) a := by
  decide +kernel

/-- A cumulative sum along a chunk, as a sum over windows of sixty-four rows that end at each row, is the sum of the chunk's
    entries up to the row. -/
theorem cumsum_at (x : FVec Ideal S16x64x64x256 .f32) (init : FVec Ideal S_ .f32) (hi : ∀ i, init i = 0)
    (h : S16x64x64x256.ReduceWindows ![1, 1, 64, 1] ![1, 1, 1, 1] ![0, 0, 63, 0] ![0, 0, 0, 0] S16x64x64x256) (hu : 0 < S_.numel)
    (a : Fin 16) (b r : Fin 64) (l : Fin 256) :
    Host.reduceWindowAdd (F := Ideal) ![1, 1, 64, 1] ![1, 1, 1, 1] ![0, 0, 63, 0] ![0, 0, 0, 0] x init h hu (ix4 a b r l)
      = ∑ s : Fin 64, if s.val ≤ r.val then x (ix4 a b s l) else 0 := by
  unfold Host.reduceWindowAdd
  rw [Ideal.hostReduceWindowAdd_def]
  unfold Ideal.hostReduceWindowAdd Host.reduceWindow
  have hN : (⟨4, ![1, 1, 64, 1]⟩ : Shape).numel = 64 := by decide
  dsimp only
  rw [foldl_add, hi, zero_add, ← Fin.sum_univ_def]
  refine (Fintype.sum_equiv (finCongr hN) _ (fun n : Fin 64 => if e : 63 ≤ r.val + n.val then x (ix4 a b ⟨r.val + n.val - 63, by omega⟩ l) else 0) fun n => ?_).trans
    (sum_window r (fun s => x (ix4 a b s l)) _ (fun n s e => ?_) (fun n e => ?_))
  · have w : ∀ q, ((⟨4, ![1, 1, 64, 1]⟩ : Shape).rowMajor.symm n q).val = (![0, 0, n.val, 0] : Fin 4 → ℕ) q := fun q => window_at (finCongr hN n) q
    have hn : n.val < 64 := n.isLt.trans_eq hN
    have w0 : ((⟨4, ![1, 1, 64, 1]⟩ : Shape).rowMajor.symm n 0).val = 0 := w 0
    have w1 : ((⟨4, ![1, 1, 64, 1]⟩ : Shape).rowMajor.symm n 1).val = 0 := w 1
    have w2 : ((⟨4, ![1, 1, 64, 1]⟩ : Shape).rowMajor.symm n 2).val = n.val := w 2
    have w3 : ((⟨4, ![1, 1, 64, 1]⟩ : Shape).rowMajor.symm n 3).val = 0 := w 3
    have ha := a.isLt
    have hb := b.isLt
    have hr := r.isLt
    have hl := l.isLt
    by_cases e : 63 ≤ r.val + n.val
    · rw [dif_pos, dif_pos (show 63 ≤ r.val + (finCongr hN n).val from e)]
      · congr 1
        funext q
        apply Fin.ext
        fin_cases q
        · show a.val * 1 + ((⟨4, ![1, 1, 64, 1]⟩ : Shape).rowMajor.symm n 0).val - 0 = a.val
          omega
        · show b.val * 1 + ((⟨4, ![1, 1, 64, 1]⟩ : Shape).rowMajor.symm n 1).val - 0 = b.val
          omega
        · show r.val * 1 + ((⟨4, ![1, 1, 64, 1]⟩ : Shape).rowMajor.symm n 2).val - 63 = r.val + n.val - 63
          omega
        · show l.val * 1 + ((⟨4, ![1, 1, 64, 1]⟩ : Shape).rowMajor.symm n 3).val - 0 = l.val
          omega
      · intro q
        fin_cases q
        · show 0 ≤ a.val * 1 + ((⟨4, ![1, 1, 64, 1]⟩ : Shape).rowMajor.symm n 0).val ∧ a.val * 1 + ((⟨4, ![1, 1, 64, 1]⟩ : Shape).rowMajor.symm n 0).val - 0 < 16
          omega
        · show 0 ≤ b.val * 1 + ((⟨4, ![1, 1, 64, 1]⟩ : Shape).rowMajor.symm n 1).val ∧ b.val * 1 + ((⟨4, ![1, 1, 64, 1]⟩ : Shape).rowMajor.symm n 1).val - 0 < 64
          omega
        · show 63 ≤ r.val * 1 + ((⟨4, ![1, 1, 64, 1]⟩ : Shape).rowMajor.symm n 2).val ∧ r.val * 1 + ((⟨4, ![1, 1, 64, 1]⟩ : Shape).rowMajor.symm n 2).val - 63 < 64
          omega
        · show 0 ≤ l.val * 1 + ((⟨4, ![1, 1, 64, 1]⟩ : Shape).rowMajor.symm n 3).val ∧ l.val * 1 + ((⟨4, ![1, 1, 64, 1]⟩ : Shape).rowMajor.symm n 3).val - 0 < 256
          omega
    · rw [dif_neg, dif_neg (show ¬ 63 ≤ r.val + (finCongr hN n).val from e)]
      intro q
      have q2 : 63 ≤ r.val * 1 + ((⟨4, ![1, 1, 64, 1]⟩ : Shape).rowMajor.symm n 2).val ∧ r.val * 1 + ((⟨4, ![1, 1, 64, 1]⟩ : Shape).rowMajor.symm n 2).val - 63 < 64 := q 2
      omega
  · have hs := s.isLt
    rw [dif_pos (by omega)]
    congr 2
    exact Fin.ext (by simp; omega)
  · rw [dif_neg (by omega)]

/-- An entry of the projection. -/
def proj (x : FVec Ideal S16x4096x1024 .f32) (w : FVec Ideal S1024x5664 .f32) (a : Fin 16) (t : Fin 4096) (j : Fin 5664) : EReal :=
  ∑ k : Fin 1024, x (ix3 a t k) * w (ix2 k j)

/-- The argument of a decay's sigmoid: sixteen columns of the projection from column `o` on, times a matrix, plus a bias. -/
def gateArg (x : FVec Ideal S16x4096x1024 .f32) (w : FVec Ideal S1024x5664 .f32) (u : FVec Ideal S16x256 .f32) (y : FVec Ideal S256 .f32)
    (o : ℕ) (ho : o + 16 ≤ 5664) (a : Fin 16) (t : Fin 4096) (l : Fin 256) : EReal :=
  (∑ k : Fin 16, proj x w a t ⟨o + k.val, by omega⟩ * u (ix2 k l)) + y (ix1 l)

/-- The reference's projection at an entry. -/
theorem h_at (x0 : FVec Ideal S16x4096x1024 .f32) (x1 : FVec Ideal S1024x5664 .f32) (a : Fin 16) (t : Fin 4096) (j : Fin 5664) :
    val_main_v0 (F := Ideal) x0 x1 (ix3 a t j) = proj x0 x1 a t j := by
  unfold val_main_v0
  pointwise
  rfl

/-- The reference's values at an entry. -/
theorem v_at (x0 : FVec Ideal S16x4096x1024 .f32) (x1 : FVec Ideal S1024x5664 .f32) (a : Fin 16) (t : Fin 4096) (j : Fin 512) :
    val_main_v63 (F := Ideal) x0 x1 (ix3 a t j) = proj x0 x1 a t ⟨512 + j.val, by omega⟩ := by
  unfold val_main_v63 val_main_v3
  pointwise
  exact h_at x0 x1 a t _

/-- The argument of the forward decays. -/
theorem z_f_at (x0 : FVec Ideal S16x4096x1024 .f32) (x1 : FVec Ideal S1024x5664 .f32) (x2 : FVec Ideal S16x256 .f32) (x4 : FVec Ideal S256 .f32)
    (a : Fin 16) (t : Fin 4096) (l : Fin 256) :
    val_main_v13 (F := Ideal) x0 x1 x2 x4 (ix3 a t l) = gateArg x0 x1 x2 x4 1536 (by omega) a t l := by
  unfold val_main_v13 val_main_v12 val_main_v11 val_main_v10 val_main_v5
  pointwise
  unfold gateArg
  simp only [h_at]

/-- The argument of the backward decays. -/
theorem z_b_at (x0 : FVec Ideal S16x4096x1024 .f32) (x1 : FVec Ideal S1024x5664 .f32) (x3 : FVec Ideal S16x256 .f32) (x5 : FVec Ideal S256 .f32)
    (a : Fin 16) (t : Fin 4096) (l : Fin 256) :
    val_main_v20 (F := Ideal) x0 x1 x3 x5 (ix3 a t l) = gateArg x0 x1 x3 x5 1552 (by omega) a t l := by
  unfold val_main_v20 val_main_v19 val_main_v18 val_main_v17 val_main_v6
  pointwise
  unfold gateArg
  simp only [h_at]

/-- The forward log decays of the reference, entry by entry. -/
theorem la_f_at (x0 : FVec Ideal S16x4096x1024 .f32) (x1 : FVec Ideal S1024x5664 .f32) (x2 : FVec Ideal S16x256 .f32) (x4 : FVec Ideal S256 .f32) (i : S16x4096x256.Idx) :
    val_main_v16 (F := Ideal) x0 x1 x2 x4 i = logDecay (val_main_v13 (F := Ideal) x0 x1 x2 x4 i) := by
  rw [← logDecay_eq]
  unfold val_main_v16 val_main_v15 val_main_cst val_main_v14 val_main_call0_v1
  unfold val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v13 (F := Ideal) x0 x1 x2 x4 = z
  pointwise
  rw [if_neg (by simp)]
  unfold logDecayRef
  rw [sub_zero]
  rfl

/-- The backward log decays of the reference, entry by entry. -/
theorem la_b_at (x0 : FVec Ideal S16x4096x1024 .f32) (x1 : FVec Ideal S1024x5664 .f32) (x3 : FVec Ideal S16x256 .f32) (x5 : FVec Ideal S256 .f32) (i : S16x4096x256.Idx) :
    val_main_v23 (F := Ideal) x0 x1 x3 x5 i = logDecay (val_main_v20 (F := Ideal) x0 x1 x3 x5 i) := by
  rw [← logDecay_eq]
  unfold val_main_v23 val_main_v22 val_main_cst_0 val_main_v21 val_main_call1_v1
  unfold val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_call0_cst val_main_call1_v0
  generalize val_main_v20 (F := Ideal) x0 x1 x3 x5 = z
  pointwise
  rw [if_neg (by simp)]
  unfold logDecayRef
  rw [sub_zero]
  rfl

/-- The sum of a chunk's entries up to a row. -/
def prefixSum (f : Fin 4096 → EReal) (t : Fin 4096) : EReal :=
  ∑ s : Fin 64, if s.val ≤ t.val % 64 then f ⟨t.val / 64 * 64 + s.val, by omega⟩ else 0

/-- The sum of a chunk's entries from a row on. -/
def suffixSum (f : Fin 4096 → EReal) (t : Fin 4096) : EReal :=
  ∑ s : Fin 64, if t.val % 64 ≤ s.val then f ⟨t.val / 64 * 64 + s.val, by omega⟩ else 0

/-- The sum up to a row of the reversed sequence is the sum from the mirrored row on. -/
theorem prefix_rev (f : Fin 4096 → EReal) (t : Fin 4096) : prefixSum (fun s => f s.rev) t.rev = suffixSum f t := by
  unfold prefixSum suffixSum
  refine Fintype.sum_equiv Fin.revPerm _ _ fun s => ?_
  have ht := t.isLt
  have hs := s.isLt
  have e : t.rev.val = 4095 - t.val := by rw [Fin.val_rev]; omega
  have es : (Fin.revPerm s).val = 63 - s.val := by rw [Fin.revPerm_apply, Fin.val_rev]; omega
  by_cases h : t.val % 64 ≤ (Fin.revPerm s).val
  · rw [if_pos h, if_pos (by omega)]
    refine congrArg f (Fin.ext ?_)
    rw [Fin.val_rev]
    show 4096 - (t.rev.val / 64 * 64 + s.val + 1) = t.val / 64 * 64 + (Fin.revPerm s).val
    omega
  · rw [if_neg h, if_neg (by omega)]

/-- The rows of an array cut to chunks. -/
theorem chunk_at (y : FVec Ideal S16x4096x256 .f32) (h : S16x4096x256.ShapeCasts S16x64x64x256) (a : Fin 16) (b r : Fin 64) (l : Fin 256) :
    shapeCast S16x64x64x256 y h (ix4 a b r l) = y (ix3 a ⟨b.val * 64 + r.val, by omega⟩ l) := by
  pointwise

/-- The chunks of an array joined to rows. -/
theorem rows_at (y : FVec Ideal S16x64x64x256 .f32) (h : S16x64x64x256.ShapeCasts S16x4096x256) (a : Fin 16) (t : Fin 4096) (l : Fin 256) :
    shapeCast S16x4096x256 y h (ix3 a t l) = y (ix4 a ⟨t.val / 64, by omega⟩ ⟨t.val % 64, by omega⟩ l) := by
  pointwise

/-- An array reversed along its second axis. -/
theorem reverse_at {n w : ℕ} (y : FVec Ideal ⟨3, ![16, n, w]⟩ .f32) (a : Fin 16) (t : Fin n) (l : Fin w) :
    Host.reverse [1] y (ix3 a t l) = y (ix3 a t.rev l) := by
  unfold Host.reverse
  refine congrArg y (funext fun q => ?_)
  fin_cases q <;> rfl

/-- A chunk's cumulative sum at a row, of an array of rows. -/
theorem cumsum_rows (y : FVec Ideal S16x4096x256 .f32) (h : S16x4096x256.ShapeCasts S16x64x64x256) (init : FVec Ideal S_ .f32) (hi : ∀ i, init i = 0)
    (hw : S16x64x64x256.ReduceWindows ![1, 1, 64, 1] ![1, 1, 1, 1] ![0, 0, 63, 0] ![0, 0, 0, 0] S16x64x64x256) (hu : 0 < S_.numel) (a : Fin 16) (t : Fin 4096) (b r : Fin 64) (hb : b.val = t.val / 64) (hr : r.val = t.val % 64) (l : Fin 256) :
    Host.reduceWindowAdd (F := Ideal) ![1, 1, 64, 1] ![1, 1, 1, 1] ![0, 0, 63, 0] ![0, 0, 0, 0] (shapeCast S16x64x64x256 y h) init hw hu (ix4 a b r l)
      = prefixSum (fun s => y (ix3 a s l)) t := by
  rw [cumsum_at _ _ hi]
  unfold prefixSum
  simp only [chunk_at, hb, hr]

/-- The forward cumulative log decay at a row. -/
theorem b_f_at (x0 : FVec Ideal S16x4096x1024 .f32) (x1 : FVec Ideal S1024x5664 .f32) (x2 : FVec Ideal S16x256 .f32) (x4 : FVec Ideal S256 .f32) (a : Fin 16) (t : Fin 4096) (b r : Fin 64) (hb : b.val = t.val / 64) (hr : r.val = t.val % 64) (l : Fin 256) :
    val_main_v29 (F := Ideal) x0 x1 x2 x4 (ix4 a b r l) = prefixSum (fun s => logDecay (gateArg x0 x1 x2 x4 1536 (by omega) a s l)) t := by
  unfold val_main_v29 val_main_v28
  rw [cumsum_rows _ _ _ (fun i => by unfold val_main_call2_call0_v0 val_main_call2_call0_cst; pointwise) _ _ a t b r hb hr l]
  simp only [la_f_at, z_f_at]

/-- The backward cumulative log decay at a row. -/
theorem b_b_at (x0 : FVec Ideal S16x4096x1024 .f32) (x1 : FVec Ideal S1024x5664 .f32) (x3 : FVec Ideal S16x256 .f32) (x5 : FVec Ideal S256 .f32) (a : Fin 16) (t : Fin 4096) (b r : Fin 64) (hb : b.val = t.rev.val / 64) (hr : r.val = t.rev.val % 64) (l : Fin 256) :
    val_main_v46 (F := Ideal) x0 x1 x3 x5 (ix4 a b r l) = suffixSum (fun s => logDecay (gateArg x0 x1 x3 x5 1552 (by omega) a s l)) t := by
  unfold val_main_v46 val_main_v45 val_main_v42
  rw [cumsum_rows _ _ _ (fun i => by unfold val_main_call6_call0_v0 val_main_call6_call0_cst; pointwise) _ _ a t.rev b r hb hr l]
  refine (congrArg (fun f => prefixSum f t.rev) (funext fun s => ?_)).trans
    (prefix_rev (fun s => logDecay (gateArg x0 x1 x3 x5 1552 (by omega) a s l)) t)
  exact (reverse_at _ a s l).trans ((la_b_at x0 x1 x3 x5 _).trans (congrArg logDecay (z_b_at x0 x1 x3 x5 a s.rev l)))

/-- The scaled queries. -/
theorem q_at (x0 : FVec Ideal S16x4096x1024 .f32) (x1 : FVec Ideal S1024x5664 .f32) (a : Fin 16) (t : Fin 4096) (l : Fin 256) :
    val_main_v25 (F := Ideal) x0 x1 (ix3 a t l) = proj x0 x1 a t ⟨l.val, by omega⟩ * eighth := by
  unfold val_main_v25 val_main_v24 val_main_cst_1 val_main_v1
  pointwise
  rw [h_at]

/-- The keys. -/
theorem k_at (x0 : FVec Ideal S16x4096x1024 .f32) (x1 : FVec Ideal S1024x5664 .f32) (a : Fin 16) (t : Fin 4096) (l : Fin 256) :
    val_main_v2 (F := Ideal) x0 x1 (ix3 a t l) = proj x0 x1 a t ⟨256 + l.val, by omega⟩ := by
  unfold val_main_v2
  pointwise
  rw [h_at]

/-- The queries of the forward direction with their decay. -/
theorem gq_f_at (x0 : FVec Ideal S16x4096x1024 .f32) (x1 : FVec Ideal S1024x5664 .f32) (x2 : FVec Ideal S16x256 .f32) (x4 : FVec Ideal S256 .f32) (a : Fin 16) (t : Fin 4096) (l : Fin 256) :
    val_main_v32 (F := Ideal) x0 x1 x2 x4 (ix3 a t l) = proj x0 x1 a t ⟨l.val, by omega⟩ * eighth * Ideal.exp (prefixSum (fun s => logDecay (gateArg x0 x1 x2 x4 1536 (by omega) a s l)) t) := by
  unfold val_main_v32 val_main_v31
  rw [rows_at]
  show val_main_v26 (F := Ideal) x0 x1 _ * Ideal.exp (val_main_v29 (F := Ideal) x0 x1 x2 x4 _) = _
  rw [b_f_at x0 x1 x2 x4 a t _ _ rfl rfl]
  unfold val_main_v26
  rw [chunk_at, ← q_at]
  congr 3
  exact Fin.ext (Nat.div_add_mod' t.val 64)

/-- The keys of the forward direction with the inverse of their decay. -/
theorem gk_f_at (x0 : FVec Ideal S16x4096x1024 .f32) (x1 : FVec Ideal S1024x5664 .f32) (x2 : FVec Ideal S16x256 .f32) (x4 : FVec Ideal S256 .f32) (a : Fin 16) (t : Fin 4096) (l : Fin 256) :
    val_main_v36 (F := Ideal) x0 x1 x2 x4 (ix3 a t l) = proj x0 x1 a t ⟨256 + l.val, by omega⟩ * Ideal.exp (-prefixSum (fun s => logDecay (gateArg x0 x1 x2 x4 1536 (by omega) a s l)) t) := by
  unfold val_main_v36 val_main_v35
  rw [rows_at]
  show val_main_v27 (F := Ideal) x0 x1 _ * Ideal.exp (-(val_main_v29 (F := Ideal) x0 x1 x2 x4 _)) = _
  rw [b_f_at x0 x1 x2 x4 a t _ _ rfl rfl]
  unfold val_main_v27
  rw [chunk_at, ← k_at]
  congr 3
  exact Fin.ext (Nat.div_add_mod' t.val 64)

/-- The queries of the backward direction with their decay. -/
theorem gq_b_at (x0 : FVec Ideal S16x4096x1024 .f32) (x1 : FVec Ideal S1024x5664 .f32) (x3 : FVec Ideal S16x256 .f32) (x5 : FVec Ideal S256 .f32) (a : Fin 16) (t : Fin 4096) (l : Fin 256) :
    val_main_v57 (F := Ideal) x0 x1 x3 x5 (ix3 a t l) = proj x0 x1 a t ⟨l.val, by omega⟩ * eighth * Ideal.exp (suffixSum (fun s => logDecay (gateArg x0 x1 x3 x5 1552 (by omega) a s l)) t) := by
  unfold val_main_v57 val_main_v49 val_main_v48
  rw [reverse_at, rows_at]
  show val_main_v43 (F := Ideal) x0 x1 _ * Ideal.exp (val_main_v46 (F := Ideal) x0 x1 x3 x5 _) = _
  rw [b_b_at x0 x1 x3 x5 a t _ _ rfl rfl]
  unfold val_main_v43 val_main_v40
  rw [chunk_at, reverse_at, ← q_at]
  congr 3
  refine (congrArg Fin.rev (Fin.ext (Nat.div_add_mod' t.rev.val 64))).trans (Fin.rev_rev t)

/-- The keys of the backward direction with the inverse of their decay. -/
theorem gk_b_at (x0 : FVec Ideal S16x4096x1024 .f32) (x1 : FVec Ideal S1024x5664 .f32) (x3 : FVec Ideal S16x256 .f32) (x5 : FVec Ideal S256 .f32) (a : Fin 16) (t : Fin 4096) (l : Fin 256) :
    val_main_v58 (F := Ideal) x0 x1 x3 x5 (ix3 a t l) = proj x0 x1 a t ⟨256 + l.val, by omega⟩ * Ideal.exp (-suffixSum (fun s => logDecay (gateArg x0 x1 x3 x5 1552 (by omega) a s l)) t) := by
  unfold val_main_v58 val_main_v53 val_main_v52
  rw [reverse_at, rows_at]
  show val_main_v44 (F := Ideal) x0 x1 _ * Ideal.exp (-(val_main_v46 (F := Ideal) x0 x1 x3 x5 _)) = _
  rw [b_b_at x0 x1 x3 x5 a t _ _ rfl rfl]
  unfold val_main_v44 val_main_v41
  rw [chunk_at, reverse_at, ← k_at]
  congr 3
  refine (congrArg Fin.rev (Fin.ext (Nat.div_add_mod' t.rev.val 64))).trans (Fin.rev_rev t)

/-- The first result of the reference, columns 0 to 255. -/
theorem ref_qf_at (x0 : FVec Ideal S16x4096x1024 .f32) (x1 : FVec Ideal S1024x5664 .f32) (x2 x3 : FVec Ideal S16x256 .f32) (x4 x5 : FVec Ideal S256 .f32) (a : Fin 16) (t : Fin 4096) (l : Fin 256) :
    val_main_v62 (F := Ideal) x0 x1 x2 x3 x4 x5 (ix3 a t ⟨0 + l.val, by omega⟩) = proj x0 x1 a t ⟨l.val, by omega⟩ * eighth * Ideal.exp (prefixSum (fun s => logDecay (gateArg x0 x1 x2 x4 1536 (by omega) a s l)) t) := by
  unfold val_main_v62 val_main_v60
  pointwise
  exact gq_f_at x0 x1 x2 x4 a t l

/-- The first result of the reference, columns 256 to 511. -/
theorem ref_kf_at (x0 : FVec Ideal S16x4096x1024 .f32) (x1 : FVec Ideal S1024x5664 .f32) (x2 x3 : FVec Ideal S16x256 .f32) (x4 x5 : FVec Ideal S256 .f32) (a : Fin 16) (t : Fin 4096) (l : Fin 256) :
    val_main_v62 (F := Ideal) x0 x1 x2 x3 x4 x5 (ix3 a t ⟨256 + l.val, by omega⟩) = proj x0 x1 a t ⟨256 + l.val, by omega⟩ * Ideal.exp (-prefixSum (fun s => logDecay (gateArg x0 x1 x2 x4 1536 (by omega) a s l)) t) := by
  unfold val_main_v62 val_main_v60
  pointwise
  exact gk_f_at x0 x1 x2 x4 a t l

/-- The first result of the reference, columns 512 to 767. -/
theorem ref_qb_at (x0 : FVec Ideal S16x4096x1024 .f32) (x1 : FVec Ideal S1024x5664 .f32) (x2 x3 : FVec Ideal S16x256 .f32) (x4 x5 : FVec Ideal S256 .f32) (a : Fin 16) (t : Fin 4096) (l : Fin 256) :
    val_main_v62 (F := Ideal) x0 x1 x2 x3 x4 x5 (ix3 a t ⟨512 + l.val, by omega⟩) = proj x0 x1 a t ⟨l.val, by omega⟩ * eighth * Ideal.exp (suffixSum (fun s => logDecay (gateArg x0 x1 x3 x5 1552 (by omega) a s l)) t) := by
  unfold val_main_v62 val_main_v60
  pointwise
  rw [dif_neg (by omega), dif_neg (by omega), dif_pos (by omega)]
  rw [show (⟨512 + l.val - 256 - 256, by omega⟩ : Fin 256) = l from Fin.ext (by show 512 + l.val - 256 - 256 = l.val; omega)]
  exact gq_b_at x0 x1 x3 x5 a t l

/-- The first result of the reference, columns 768 to 1023. -/
theorem ref_kb_at (x0 : FVec Ideal S16x4096x1024 .f32) (x1 : FVec Ideal S1024x5664 .f32) (x2 x3 : FVec Ideal S16x256 .f32) (x4 x5 : FVec Ideal S256 .f32) (a : Fin 16) (t : Fin 4096) (l : Fin 256) :
    val_main_v62 (F := Ideal) x0 x1 x2 x3 x4 x5 (ix3 a t ⟨768 + l.val, by omega⟩) = proj x0 x1 a t ⟨256 + l.val, by omega⟩ * Ideal.exp (-suffixSum (fun s => logDecay (gateArg x0 x1 x3 x5 1552 (by omega) a s l)) t) := by
  unfold val_main_v62 val_main_v60
  pointwise
  rw [dif_neg (by omega), dif_neg (by omega), dif_neg (by omega)]
  rw [show (⟨768 + l.val - 256 - 256 - 256, by omega⟩ : Fin 256) = l from Fin.ext (by show 768 + l.val - 256 - 256 - 256 = l.val; omega)]
  exact gk_b_at x0 x1 x3 x5 a t l

/-- The decay of a whole chunk in the forward direction. -/
theorem dec_f_at (x0 : FVec Ideal S16x4096x1024 .f32) (x1 : FVec Ideal S1024x5664 .f32) (x2 : FVec Ideal S16x256 .f32) (x4 : FVec Ideal S256 .f32) (a : Fin 16) (t : Fin 64) (l : Fin 256) :
    val_main_v39 (F := Ideal) x0 x1 x2 x4 (ix3 a t l) = Ideal.exp (∑ s : Fin 64, logDecay (gateArg x0 x1 x2 x4 1536 (by omega) a ⟨t.val * 64 + s.val, by omega⟩ l)) := by
  unfold val_main_v39 val_main_v38 val_main_v37
  pointwise
  rw [b_f_at x0 x1 x2 x4 a ⟨t.val * 64 + 63, by omega⟩ _ _ (by show t.val = (t.val * 64 + 63) / 64; omega) (by show 63 = (t.val * 64 + 63) % 64; omega)]
  refine congrArg Ideal.exp (Finset.sum_congr rfl fun s _ => ?_)
  rw [if_pos (by show s.val ≤ (t.val * 64 + 63) % 64; omega)]
  refine congrArg (fun q => logDecay (gateArg x0 x1 x2 x4 1536 (by omega) a q l)) ?_
  exact Fin.ext (by show (t.val * 64 + 63) / 64 * 64 + s.val = t.val * 64 + s.val; omega)

/-- The decay of a whole chunk in the backward direction. -/
theorem dec_b_at (x0 : FVec Ideal S16x4096x1024 .f32) (x1 : FVec Ideal S1024x5664 .f32) (x3 : FVec Ideal S16x256 .f32) (x5 : FVec Ideal S256 .f32) (a : Fin 16) (t : Fin 64) (l : Fin 256) :
    val_main_v59 (F := Ideal) x0 x1 x3 x5 (ix3 a t l) = Ideal.exp (∑ s : Fin 64, logDecay (gateArg x0 x1 x3 x5 1552 (by omega) a ⟨t.val * 64 + s.val, by omega⟩ l)) := by
  unfold val_main_v59
  rw [reverse_at]
  unfold val_main_v56 val_main_v55 val_main_v54
  pointwise
  have et : t.rev.val = 63 - t.val := by rw [Fin.val_rev]; omega
  have e4 : (⟨t.val * 64, by omega⟩ : Fin 4096).rev.val = 4095 - t.val * 64 := by rw [Fin.val_rev]; show 4096 - (t.val * 64 + 1) = _; omega
  rw [b_b_at x0 x1 x3 x5 a ⟨t.val * 64, by omega⟩ _ _ (by rw [e4]; show t.rev.val = _; omega) (by rw [e4]; show 63 = _; omega)]
  refine congrArg Ideal.exp (Finset.sum_congr rfl fun s _ => ?_)
  rw [if_pos (by show t.val * 64 % 64 ≤ s.val; omega)]
  refine congrArg (fun q => logDecay (gateArg x0 x1 x3 x5 1552 (by omega) a q l)) ?_
  exact Fin.ext (by show t.val * 64 / 64 * 64 + s.val = t.val * 64 + s.val; omega)

/-- The decays of the reference, columns 0 to 255. -/
theorem ref_df_at (x0 : FVec Ideal S16x4096x1024 .f32) (x1 : FVec Ideal S1024x5664 .f32) (x2 x3 : FVec Ideal S16x256 .f32) (x4 x5 : FVec Ideal S256 .f32) (a : Fin 16) (t : Fin 64) (l : Fin 256) :
    val_main_v61 (F := Ideal) x0 x1 x2 x3 x4 x5 (ix3 a t ⟨0 + l.val, by omega⟩) = Ideal.exp (∑ s : Fin 64, logDecay (gateArg x0 x1 x2 x4 1536 (by omega) a ⟨t.val * 64 + s.val, by omega⟩ l)) := by
  unfold val_main_v61
  pointwise
  exact dec_f_at x0 x1 x2 x4 a t l

/-- The decays of the reference, columns 256 to 511. -/
theorem ref_db_at (x0 : FVec Ideal S16x4096x1024 .f32) (x1 : FVec Ideal S1024x5664 .f32) (x2 x3 : FVec Ideal S16x256 .f32) (x4 x5 : FVec Ideal S256 .f32) (a : Fin 16) (t : Fin 64) (l : Fin 256) :
    val_main_v61 (F := Ideal) x0 x1 x2 x3 x4 x5 (ix3 a t ⟨256 + l.val, by omega⟩) = Ideal.exp (∑ s : Fin 64, logDecay (gateArg x0 x1 x3 x5 1552 (by omega) a ⟨t.val * 64 + s.val, by omega⟩ l)) := by
  unfold val_main_v61
  pointwise
  exact dec_b_at x0 x1 x3 x5 a t l

/-- The reference's output gate at an entry. -/
theorem og_at (x0 : FVec Ideal S16x4096x1024 .f32) (x1 : FVec Ideal S1024x5664 .f32) (a : Fin 16) (t : Fin 4096) (j : Fin 512) :
    val_main_v64 (F := Ideal) x0 x1 (ix3 a t j) = proj x0 x1 a t ⟨1024 + j.val, by omega⟩ := by
  unfold val_main_v64 val_main_v4
  pointwise
  rw [h_at]

/-- The reference's pooling input at an entry. -/
theorem p_at (x0 : FVec Ideal S16x4096x1024 .f32) (x1 : FVec Ideal S1024x5664 .f32) (a : Fin 16) (t : Fin 4096) (j : Fin 256) :
    val_main_v65 (F := Ideal) x0 x1 (ix3 a t j) = proj x0 x1 a t ⟨1568 + j.val, by omega⟩ := by
  unfold val_main_v65 val_main_v7
  pointwise
  rw [h_at]

/-- The reference's neighbourhood attention input at an entry. -/
theorem qkv_at (x0 : FVec Ideal S16x4096x1024 .f32) (x1 : FVec Ideal S1024x5664 .f32) (a : Fin 16) (t : Fin 4096) (j : Fin 768) :
    val_main_v66 (F := Ideal) x0 x1 (ix3 a t j) = proj x0 x1 a t ⟨1824 + j.val, by omega⟩ := by
  unfold val_main_v66 val_main_v8
  pointwise
  rw [h_at]

/-- The reference's branch gates at an entry. -/
theorem gates_at (x0 : FVec Ideal S16x4096x1024 .f32) (x1 : FVec Ideal S1024x5664 .f32) (a : Fin 16) (t : Fin 4096) (j : Fin 3072) :
    val_main_v67 (F := Ideal) x0 x1 (ix3 a t j) = proj x0 x1 a t ⟨2592 + j.val, by omega⟩ := by
  unfold val_main_v67 val_main_v9
  pointwise
  rw [h_at]

end Cert.Proof.Inproj

end
-- ==== Proof.Inproj.Block.lean ====
/- What the input projection's call stores from a block is what the reference holds there. -/
module

public import proofs.«01_k».proof.Proof.Inproj.Host
public import proofs.«01_k».proof.Proof.Inproj.Ref

@[expose] public section

set_option maxRecDepth 16384

noncomputable section

namespace Cert.Proof.Inproj

open Idealize.ShloMosaic Idealize.ShloMosaic.TcCoe Idealize.SL.Sem
open Cert.InprojKernelIdeal Cert.InprojKernelIdeal.Gen
open Cert.InprojReferenceIdeal.Read (val_main_v61 val_main_v62 val_main_v63 val_main_v64 val_main_v65 val_main_v66 val_main_v67)

/-- Row `r` of tile `g` is this token. -/
abbrev tok (g : Fin 8) (r : Fin 512) : Fin 4096 := ⟨g.val * 512 + r.val, by omega⟩

variable {x : FVec Ideal S16x4096x1024 .f32} {w : FVec Ideal S1024x5664 .f32} {uf ub : FVec Ideal S16x256 .f32} {yf yb : FVec Ideal S256 .f32}
variable {b : FVec Ideal S1x512x1024 .f32} {a : Fin 16} {g : Fin 8}

/-- A column of the block's projection, the columns of the weight being those of the argument from `j` on. -/
theorem sum_block (hx : ∀ r d, b (ix3 0 r d) = x (ix3 a (tok g r) d)) (r : Fin 512) (j : Fin 5664) (v : Fin 1024 → EReal) (hv : ∀ d, v d = w (ix2 d j)) :
    ∑ d : Fin 1024, b (ix3 0 r d) * v d = proj x w a (tok g r) j := by
  unfold proj
  exact Finset.sum_congr rfl fun d _ => by rw [hx, hv]

/-- A query of the block: the projection over eight. -/
theorem sum_query (hx : ∀ r d, b (ix3 0 r d) = x (ix3 a (tok g r) d)) (r : Fin 512) (l : Fin 256) :
    ∑ d : Fin 1024, b (ix3 0 r d) * hostA w (ix2 d ⟨l.val, by omega⟩) = proj x w a (tok g r) ⟨l.val, by omega⟩ * eighth := by
  unfold proj
  rw [mul_comm, ← eighth_sum]
  exact Finset.sum_congr rfl fun d _ => by rw [hx, hostA_q, mul_left_comm]

/-- The argument of a forward gate. -/
theorem arg_f (hx : ∀ r d, b (ix3 0 r d) = x (ix3 a (tok g r) d)) (r : Fin 512) (l : Fin 256) :
    blockArg b (hostL w) (hostU uf ub) (hostY yf yb) r ⟨l.val, by omega⟩ = gateArg x w uf yf 1536 (by omega) a (tok g r) l := by
  unfold blockArg gateArg
  rw [hostY_f]
  refine congrArg (fun s => s + yf (ix1 l)) ((sum_padded (n := 16) 0 (fun p q => p * q) mul_zero _ _ (fun k => uf (ix2 k l)) (by omega) (fun k => ?_) (fun k hk => ?_)).trans
    (Finset.sum_congr rfl fun k _ => congrArg (fun s => s * uf (ix2 k l)) ?_))
  · rw [hostU_miss _ _ _ _ (by show ¬ (_ ∧ 256 ≤ l.val); omega)]
    refine Eq.trans ?_ (hostF_hit uf k l)
    congr 2
    exact Fin.ext (by simp)
  · rw [hostU_miss _ _ _ _ (by show ¬ (_ ∧ 256 ≤ l.val); omega)]
    exact hostF_miss _ _ _ (by omega)
  · refine sum_block hx r _ _ fun d => ?_
    have e : (⟨0 + k.val, by omega⟩ : Fin 128) = ⟨(⟨k.val, by omega⟩ : Fin 32).val, by omega⟩ := Fin.ext (by simp)
    rw [e, hostL_at]

/-- The argument of a backward gate. -/
theorem arg_b (hx : ∀ r d, b (ix3 0 r d) = x (ix3 a (tok g r) d)) (r : Fin 512) (l : Fin 256) :
    blockArg b (hostL w) (hostU uf ub) (hostY yf yb) r ⟨256 + l.val, by omega⟩ = gateArg x w ub yb 1552 (by omega) a (tok g r) l := by
  unfold blockArg gateArg
  rw [hostY_b]
  refine congrArg (fun s => s + yb (ix1 l)) ((sum_padded (n := 16) 16 (fun p q => p * q) mul_zero _ _ (fun k => ub (ix2 k l)) (by omega) (fun k => ?_) (fun k hk => ?_)).trans
    (Finset.sum_congr rfl fun k _ => congrArg (fun s => s * ub (ix2 k l)) ?_))
  · exact hostU_hit _ _ k l
  · rw [hostU_miss _ _ _ _ (by omega)]
    exact hostF_miss _ _ _ (by show ¬ (_ ∧ 256 + l.val < 256); omega)
  · refine sum_block hx r _ _ fun d => ?_
    have e : (⟨16 + k.val, by omega⟩ : Fin 128) = ⟨(⟨16 + k.val, by omega⟩ : Fin 32).val, by omega⟩ := rfl
    rw [e, hostL_at]
    congr 2
    exact Fin.ext (by show 1536 + (16 + k.val) = 1552 + k.val; omega)

/-- The forward log decays of a block. -/
theorem logs_f (hx : ∀ r d, b (ix3 0 r d) = x (ix3 a (tok g r) d)) (r : Fin 512) (l : Fin 256) :
    logs b (hostL w) (hostU uf ub) (hostY yf yb) (ix2 r ⟨l.val, by omega⟩) = logDecay (gateArg x w uf yf 1536 (by omega) a (tok g r) l) := by
  rw [logs_at, arg_f hx]

/-- The backward log decays of a block. -/
theorem logs_b (hx : ∀ r d, b (ix3 0 r d) = x (ix3 a (tok g r) d)) (r : Fin 512) (l : Fin 256) :
    logs b (hostL w) (hostU uf ub) (hostY yf yb) (ix2 r ⟨256 + l.val, by omega⟩) = logDecay (gateArg x w ub yb 1552 (by omega) a (tok g r) l) := by
  rw [logs_at, arg_b hx]

/-- The forward cumulative log decays of a block. -/
theorem prefix_block (hx : ∀ r d, b (ix3 0 r d) = x (ix3 a (tok g r) d)) (r : Fin 512) (l : Fin 256) :
    k0_pay18 (F := Ideal) (k0_pay13 b (hostL w)) (k0_pay14 (hostU uf ub)) (constant S512x512 .f32 0x00000000#32) (hostY yf yb) (kron tri) (ix2 r l)
      = prefixSum (fun s => logDecay (gateArg x w uf yf 1536 (by omega) a s l)) (tok g r) := by
  rw [b_f_block _ _ _ _ _ mask_lower]
  unfold prefixSum
  refine Finset.sum_congr rfl fun s _ => ?_
  rw [logs_f hx]
  have e : (g.val * 512 + r.val) % 64 = r.val % 64 := by omega
  have f : tok g ⟨r.val / 64 * 64 + s.val, by omega⟩ = ⟨(g.val * 512 + r.val) / 64 * 64 + s.val, by omega⟩ := Fin.ext (by show g.val * 512 + (r.val / 64 * 64 + s.val) = (g.val * 512 + r.val) / 64 * 64 + s.val; omega)
  rw [f]
  show _ = if s.val ≤ (g.val * 512 + r.val) % 64 then _ else _
  rw [e]

/-- The backward cumulative log decays of a block. -/
theorem suffix_block (hx : ∀ r d, b (ix3 0 r d) = x (ix3 a (tok g r) d)) (r : Fin 512) (l : Fin 256) :
    k0_pay22 (F := Ideal) (k0_pay16 (k0_pay13 b (hostL w)) (k0_pay14 (hostU uf ub)) (constant S512x512 .f32 0x00000000#32) (hostY yf yb))
        (k0_pay17 (k0_pay13 b (hostL w)) (k0_pay14 (hostU uf ub)) (constant S512x512 .f32 0x00000000#32) (hostY yf yb)) (k0_pay20 (kron (transpose S64x64 [1, 0] tri transposes_S64x64_S64x64_1_0)))
        (k0_pay21 (k0_pay13 b (hostL w)) (k0_pay14 (hostU uf ub)) (constant S512x512 .f32 0x00000000#32) (hostY yf yb) (kron (transpose S64x64 [1, 0] tri transposes_S64x64_S64x64_1_0))) (ix2 r l)
      = suffixSum (fun s => logDecay (gateArg x w ub yb 1552 (by omega) a s l)) (tok g r) := by
  rw [b_b_block _ _ _ _ _ mask_upper]
  unfold suffixSum
  refine Finset.sum_congr rfl fun s _ => ?_
  rw [logs_b hx]
  have e : (g.val * 512 + r.val) % 64 = r.val % 64 := by omega
  have f : tok g ⟨r.val / 64 * 64 + s.val, by omega⟩ = ⟨(g.val * 512 + r.val) / 64 * 64 + s.val, by omega⟩ := Fin.ext (by show g.val * 512 + (r.val / 64 * 64 + s.val) = (g.val * 512 + r.val) / 64 * 64 + s.val; omega)
  rw [f]
  show _ = if (g.val * 512 + r.val) % 64 ≤ s.val then _ else _
  rw [e]

/-- The block's forward queries are the reference's. -/
theorem qf_out {A : FVec Ideal S1024x1536 .bf16} {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron tri) (hA : A = hostA w) (r : Fin 512) (l : Fin 256) :
    k0_pay24 (F := Ideal) (k0_pay11 b A) (k0_pay18 (k0_pay13 b L) (k0_pay14 U) (constant S512x512 .f32 0x00000000#32) Y T) (ix3 0 r l)
      = val_main_v62 (F := Ideal) x w uf ub yf yb (ix3 a (tok g r) ⟨0 + l.val, by omega⟩) := by
  subst hA hL hU hY hT
  rw [qf_store, q_block, sum_query hx, prefix_block hx, ref_qf_at]

/-- The block's forward keys are the reference's. -/
theorem kf_out {A : FVec Ideal S1024x1536 .bf16} {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron tri) (hA : A = hostA w) (r : Fin 512) (l : Fin 256) :
    k0_pay25 (F := Ideal) (k0_pay12 b A) (k0_pay18 (k0_pay13 b L) (k0_pay14 U) (constant S512x512 .f32 0x00000000#32) Y T) (ix3 0 r l)
      = val_main_v62 (F := Ideal) x w uf ub yf yb (ix3 a (tok g r) ⟨256 + l.val, by omega⟩) := by
  subst hA hL hU hY hT
  rw [kf_store, k_block, sum_block hx r ⟨256 + l.val, by omega⟩ _ fun d => hostA_rest w d _ (by omega) (by omega), prefix_block hx, ref_kf_at]

/-- The block's backward queries are the reference's. -/
theorem qb_out {A : FVec Ideal S1024x1536 .bf16} {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron (transpose S64x64 [1, 0] tri transposes_S64x64_S64x64_1_0)) (hA : A = hostA w) (r : Fin 512) (l : Fin 256) :
    k0_pay27 (F := Ideal) (k0_pay11 b A) (k0_pay16 (k0_pay13 b L) (k0_pay14 U) (constant S512x512 .f32 0x00000000#32) Y) (k0_pay17 (k0_pay13 b L) (k0_pay14 U) (constant S512x512 .f32 0x00000000#32) Y) (k0_pay20 T) (k0_pay21 (k0_pay13 b L) (k0_pay14 U) (constant S512x512 .f32 0x00000000#32) Y T) (ix3 0 r l)
      = val_main_v62 (F := Ideal) x w uf ub yf yb (ix3 a (tok g r) ⟨512 + l.val, by omega⟩) := by
  subst hA hL hU hY hT
  rw [qb_store, q_block, sum_query hx, suffix_block hx, ref_qb_at]

/-- The block's backward keys are the reference's. -/
theorem kb_out {A : FVec Ideal S1024x1536 .bf16} {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron (transpose S64x64 [1, 0] tri transposes_S64x64_S64x64_1_0)) (hA : A = hostA w) (r : Fin 512) (l : Fin 256) :
    k0_pay1 (F := Ideal) (k0_pay28 (k0_pay12 b A) (k0_pay16 (k0_pay13 b L) (k0_pay14 U) (constant S512x512 .f32 0x00000000#32) Y) (k0_pay17 (k0_pay13 b L) (k0_pay14 U) (constant S512x512 .f32 0x00000000#32) Y) (k0_pay20 T) (k0_pay21 (k0_pay13 b L) (k0_pay14 U) (constant S512x512 .f32 0x00000000#32) Y T)) (ix3 0 r l)
      = val_main_v62 (F := Ideal) x w uf ub yf yb (ix3 a (tok g r) ⟨768 + l.val, by omega⟩) := by
  subst hA hL hU hY hT
  rw [kb_store, k_block, sum_block hx r ⟨256 + l.val, by omega⟩ _ fun d => hostA_rest w d _ (by omega) (by omega), suffix_block hx, ref_kb_at]

/-- The block's forward chunk decays are the reference's. -/
theorem df_out {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron tri) (e : Fin 8) (l : Fin 256) :
    k0_pay26 (F := Ideal) (k0_pay19 (k0_pay13 b L) (k0_pay14 U) (constant S512x512 .f32 0x00000000#32) Y T) (ix3 0 e l)
      = val_main_v61 (F := Ideal) x w uf ub yf yb (ix3 a ⟨g.val * 8 + e.val, by omega⟩ ⟨0 + l.val, by omega⟩) := by
  subst hL hU hY hT
  rw [df_store, prefix_block hx, ref_df_at]
  refine congrArg Ideal.exp ?_
  unfold prefixSum
  refine Finset.sum_congr rfl fun s _ => ?_
  show (if s.val ≤ (g.val * 512 + (e.val * 64 + 63)) % 64 then _ else _) = _
  rw [if_pos (by omega)]
  have f : (⟨(g.val * 512 + (e.val * 64 + 63)) / 64 * 64 + s.val, by omega⟩ : Fin 4096) = ⟨(g.val * 8 + e.val) * 64 + s.val, by omega⟩ := Fin.ext (by show (g.val * 512 + (e.val * 64 + 63)) / 64 * 64 + s.val = (g.val * 8 + e.val) * 64 + s.val; omega)
  exact congrArg (fun p => logDecay (gateArg x w uf yf 1536 (by omega) a p l)) f

/-- The block's backward chunk decays are the reference's. -/
theorem db_out {L : FVec Ideal S1024x128 .bf16} {U : FVec Ideal S128x512 .bf16} {Y : FVec Ideal S1x512 .f32} {T : FVec Ideal S256x256 .bf16} (hx : ∀ r d, b (ix3 0 r d) = x (ix3 a (tok g r) d)) (hL : L = hostL w) (hU : U = hostU uf ub) (hY : Y = hostY yf yb) (hT : T = kron (transpose S64x64 [1, 0] tri transposes_S64x64_S64x64_1_0)) (e : Fin 8) (l : Fin 256) :
    k0_pay2 (F := Ideal) (k0_pay23 (k0_pay16 (k0_pay13 b L) (k0_pay14 U) (constant S512x512 .f32 0x00000000#32) Y) (k0_pay17 (k0_pay13 b L) (k0_pay14 U) (constant S512x512 .f32 0x00000000#32) Y) (k0_pay20 T) (k0_pay21 (k0_pay13 b L) (k0_pay14 U) (constant S512x512 .f32 0x00000000#32) Y T)) (ix3 0 e l)
      = val_main_v61 (F := Ideal) x w uf ub yf yb (ix3 a ⟨g.val * 8 + e.val, by omega⟩ ⟨256 + l.val, by omega⟩) := by
  subst hL hU hY hT
  rw [db_store, suffix_block hx, ref_db_at]
  refine congrArg Ideal.exp ?_
  unfold suffixSum
  refine Finset.sum_congr rfl fun s _ => ?_
  show (if (g.val * 512 + e.val * 64) % 64 ≤ s.val then _ else _) = _
  rw [if_pos (by omega)]
  have f : (⟨(g.val * 512 + e.val * 64) / 64 * 64 + s.val, by omega⟩ : Fin 4096) = ⟨(g.val * 8 + e.val) * 64 + s.val, by omega⟩ := Fin.ext (by show (g.val * 512 + e.val * 64) / 64 * 64 + s.val = (g.val * 8 + e.val) * 64 + s.val; omega)
  exact congrArg (fun p => logDecay (gateArg x w ub yb 1552 (by omega) a p l)) f

/-- The block's values are the reference's. -/
theorem v_out {A : FVec Ideal S1024x1536 .bf16} (hx : ∀ r d, b (ix3 0 r d) = x (ix3 a (tok g r) d)) (hA : A = hostA w) (r : Fin 512) (l : Fin 512) :
    k0_pay8 (F := Ideal) b A (ix3 0 r l)
      = val_main_v63 (F := Ideal) x w (ix3 a (tok g r) l) := by
  subst hA
  rw [v_block, sum_block hx r ⟨512 + l.val, by omega⟩ _ fun d => hostA_rest w d _ (by omega) (by omega), v_at]

/-- The block's output gate is the reference's. -/
theorem og_out {A : FVec Ideal S1024x1536 .bf16} (hx : ∀ r d, b (ix3 0 r d) = x (ix3 a (tok g r) d)) (hA : A = hostA w) (r : Fin 512) (l : Fin 512) :
    k0_pay9 (F := Ideal) b A (ix3 0 r l)
      = val_main_v64 (F := Ideal) x w (ix3 a (tok g r) l) := by
  subst hA
  rw [og_block, sum_block hx r ⟨1024 + l.val, by omega⟩ _ fun d => hostA_rest w d _ (by omega) (by omega), og_at]

/-- The block's pooling input is the reference's. -/
theorem p_out {B : FVec Ideal S1024x1024 .bf16} (hx : ∀ r d, b (ix3 0 r d) = x (ix3 a (tok g r) d)) (hB : ∀ (d : Fin 1024) (j : Fin 1024), B (ix2 d j) = w (ix2 d ⟨1568 + j.val, by omega⟩)) (r : Fin 512) (l : Fin 256) :
    k0_pay4 (F := Ideal) (k0_pay6 b) B (ix3 0 r l)
      = val_main_v65 (F := Ideal) x w (ix3 a (tok g r) l) := by
  rw [p_block, sum_block (w := w) hx r ⟨1568 + l.val, by omega⟩ _ fun d => (hB d _).trans (congrArg (fun q => w (ix2 d q)) (Fin.ext (rfl))), p_at]

/-- The block's neighbourhood attention's input is the reference's. -/
theorem qkv_out {B : FVec Ideal S1024x1024 .bf16} (hx : ∀ r d, b (ix3 0 r d) = x (ix3 a (tok g r) d)) (hB : ∀ (d : Fin 1024) (j : Fin 1024), B (ix2 d j) = w (ix2 d ⟨1568 + j.val, by omega⟩)) (r : Fin 512) (l : Fin 768) :
    k0_pay5 (F := Ideal) (k0_pay6 b) B (ix3 0 r l)
      = val_main_v66 (F := Ideal) x w (ix3 a (tok g r) l) := by
  rw [qkv_block, sum_block (w := w) hx r ⟨1824 + l.val, by omega⟩ _ fun d => (hB d _).trans (congrArg (fun q => w (ix2 d q)) (Fin.ext (by show 1568 + (256 + l.val) = 1824 + l.val; omega))), qkv_at]

/-- The block's branch gates are the reference's. -/
theorem gates_out {B : FVec Ideal S1024x3072 .bf16} (hx : ∀ r d, b (ix3 0 r d) = x (ix3 a (tok g r) d)) (hB : ∀ (d : Fin 1024) (j : Fin 3072), B (ix2 d j) = w (ix2 d ⟨2592 + j.val, by omega⟩)) (r : Fin 512) (l : Fin 3072) :
    k0_pay10 (F := Ideal) b B (ix3 0 r l)
      = val_main_v67 (F := Ideal) x w (ix3 a (tok g r) l) := by
  rw [gates_block, sum_block (w := w) hx r ⟨2592 + l.val, by omega⟩ _ fun d => (hB d _).trans (congrArg (fun q => w (ix2 d q)) (Fin.ext (rfl))), gates_at]

end Cert.Proof.Inproj

end
-- ==== Proof.Inproj.Final.lean ====
/- The input projection: the kernel's result arrays are the reference's. -/
module

public import proofs.«01_k».proof.Defs
public import proofs.«01_k».proof.Proof.Inproj.Block
public import proofs.«01_k».proof.Proof.Gen.InprojKernelIdeal.Frame
public import proofs.«01_k».proof.Proof.Gen.InprojKernelIdeal.Value
public import proofs.«01_k».proof.Proof.Gen.InprojReferenceIdeal.Run
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Inproj

open Idealize.ShloMosaic Idealize.ShloMosaic.TcCoe Idealize.SL.Sem
open Idealize.ShloMosaic.Pipeline (Dat)
open Cert.InprojKernelIdeal Cert.InprojKernelIdeal.Gen
open Cert.InprojReferenceIdeal.Read (val_main_v61 val_main_v62 val_main_v63 val_main_v64 val_main_v65 val_main_v66 val_main_v67)

variable (m : (ℓ : Loc nD τ sig) → Buf (Elt Ideal) ℓ)

/-- The activations. -/
abbrev argX (c : Dev nD) : FVec Ideal S16x4096x1024 .f32 := m ((c : Thread nD τ).loc main_arg0)

/-- The projection's weight. -/
abbrev argW (c : Dev nD) : FVec Ideal S1024x5664 .f32 := m ((c : Thread nD τ).loc main_arg1)

/-- The forward gate's second matrix. -/
abbrev argUf (c : Dev nD) : FVec Ideal S16x256 .f32 := m ((c : Thread nD τ).loc main_arg2)

/-- The backward gate's second matrix. -/
abbrev argUb (c : Dev nD) : FVec Ideal S16x256 .f32 := m ((c : Thread nD τ).loc main_arg3)

/-- The forward gate's bias. -/
abbrev argYf (c : Dev nD) : FVec Ideal S256 .f32 := m ((c : Thread nD τ).loc main_arg4)

/-- The backward gate's bias. -/
abbrev argYb (c : Dev nD) : FVec Ideal S256 .f32 := m ((c : Thread nD τ).loc main_arg5)

/-- Where each window's block lies at each grid point. -/
theorem idx : ∀ t : Fin cfg0.N, win0_0.index t = ![t.val / 8, t.val % 8, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0] ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] ∧ win0_14.index t = ![t.val / 8, t.val % 8, 0]
    ∧ win0_15.index t = ![t.val / 8, t.val % 8, 0] :=
  (by decide +kernel : ∀ t : Fin grid0.N, _)

/-- The grid has 128 points. -/
theorem point_lt (t : Fin cfg0.N) : t.val < 128 := t.isLt.trans_eq (by decide +kernel : cfg0.N = 128)

/-- The sequence of a grid point. -/
abbrev seqOf (t : Fin cfg0.N) : Fin 16 := ⟨t.val / 8, by have := point_lt t; omega⟩

/-- The tile of a grid point. -/
abbrev tileOf (t : Fin cfg0.N) : Fin 8 := ⟨t.val % 8, by omega⟩

/-- The block of the activations is the argument's tile. -/
theorem x_read (c : Dev nD) (t : Fin cfg0.N) (r : Fin 512) (d : Fin 1024) :
    View.ld (iblk m c 0 t) r0_0 (ix3 0 r d) = argX m c (ix3 (seqOf t) (tok (tileOf t) r) d) := by
  pointwise
  blk_ext [iblk, V, idx t]

/-- The block of the first matrix. -/
theorem a_read (c : Dev nD) (t : Fin cfg0.N) : View.ld (iblk m c 1 t) r0_1 = hostA (argW m c) := by
  funext i
  idx_vars i
  pointwise
  unfold iblk
  entry_read
  have e : (win0_1.blk t).view.emb (ix2 i0 i1 : S1024x1536.Idx) = (ix2 i0 i1 : S1024x1536.Idx) := by
    blk_ext [idx t]
  show hostA (argW m c) ((win0_1.blk t).view.emb (ix2 i0 i1 : S1024x1536.Idx)) = _
  rw [e]

/-- The low-rank matrix the call is given. -/
theorem l_host (c : Dev nD) : (show FVec Ideal S1024x128 .bf16 from V m c main_v19) = hostL (argW m c) := by
  unfold hostL posL V
  after_reads_simp

/-- The block of the low-rank matrix. -/
theorem l_read (c : Dev nD) (t : Fin cfg0.N) : View.ld (iblk m c 2 t) r0_3 = hostL (argW m c) := by
  rw [← l_host]
  funext i
  idx_vars i
  pointwise
  have e : (win0_2.blk t).view.emb (ix2 i0 i1 : S1024x128.Idx) = (ix2 i0 i1 : S1024x128.Idx) := by
    blk_ext [idx t]
  exact congrArg (show FVec Ideal S1024x128 .bf16 from V m c main_v19) e

/-- The second low-rank matrix the call is given. -/
theorem u_host (c : Dev nD) : (show FVec Ideal S128x512 .bf16 from V m c main_v24) = hostU (argUf m c) (argUb m c) := by
  unfold hostU hostF posF posB V
  after_reads_simp
  rfl

/-- The block of the second low-rank matrix. -/
theorem u_read (c : Dev nD) (t : Fin cfg0.N) : View.ld (iblk m c 5 t) r0_6 = hostU (argUf m c) (argUb m c) := by
  rw [← u_host]
  funext i
  idx_vars i
  pointwise
  have e : (win0_5.blk t).view.emb (ix2 i0 i1 : S128x512.Idx) = (ix2 i0 i1 : S128x512.Idx) := by
    blk_ext [idx t]
  exact congrArg (show FVec Ideal S128x512 .bf16 from V m c main_v24) e

/-- The row of biases the call is given. -/
theorem y_host (c : Dev nD) : (show FVec Ideal S1x512 .f32 from V m c main_v26) = hostY (argYf m c) (argYb m c) := by
  unfold hostY V
  after_reads_simp
  rfl

/-- The block of the biases. -/
theorem y_read (c : Dev nD) (t : Fin cfg0.N) : View.ld (iblk m c 6 t) r0_7 = hostY (argYf m c) (argYb m c) := by
  rw [← y_host]
  funext i
  idx_vars i
  obtain rfl : i0 = 0 := Subsingleton.elim _ _
  pointwise
  have e : (win0_6.blk t).view.emb (ix2 0 i1 : S1x512.Idx) = (ix2 0 i1 : S1x512.Idx) := by
    blk_ext [idx t]
  exact congrArg (show FVec Ideal S1x512 .f32 from V m c main_v26) e

/-- The block of the first mask. -/
theorem t_read (c : Dev nD) (t : Fin cfg0.N) : View.ld (iblk m c 7 t) r0_8 = kron tri := by
  funext i
  idx_vars i
  pointwise
  unfold iblk
  entry_read
  have e : (win0_7.blk t).view.emb (ix2 i0 i1 : S256x256.Idx) = (ix2 i0 i1 : S256x256.Idx) := by
    blk_ext [idx t]
  show kron tri ((win0_7.blk t).view.emb (ix2 i0 i1 : S256x256.Idx)) = _
  rw [e]

/-- The block of the second mask. -/
theorem s_read (c : Dev nD) (t : Fin cfg0.N) : View.ld (iblk m c 8 t) r0_8 = kron (transpose S64x64 [1, 0] tri transposes_S64x64_S64x64_1_0) := by
  funext i
  idx_vars i
  pointwise
  unfold iblk
  entry_read
  have e : (win0_8.blk t).view.emb (ix2 i0 i1 : S256x256.Idx) = (ix2 i0 i1 : S256x256.Idx) := by
    blk_ext [idx t]
  show kron (transpose S64x64 [1, 0] tri transposes_S64x64_S64x64_1_0) ((win0_8.blk t).view.emb (ix2 i0 i1 : S256x256.Idx)) = _
  rw [e]

/-- The block of the pooling and neighbourhood columns. -/
theorem b_read (c : Dev nD) (t : Fin cfg0.N) (d : Fin 1024) (j : Fin 1024) : View.ld (iblk m c 3 t) r0_15 (ix2 d j) = argW m c (ix2 d ⟨1568 + j.val, by omega⟩) := by
  pointwise
  unfold iblk
  entry_read
  have e : (win0_3.blk t).view.emb (ix2 d j : S1024x1024.Idx) = (ix2 d j : S1024x1024.Idx) := by
    blk_ext [idx t]
  show truncf .bf16 (extractStridedSlice S1024x1024 ![0, 1568] (argW m c) slices_S1024x5664_S1024x1024_0_1568) bitsLt_bf16_f32 ((win0_3.blk t).view.emb (ix2 d j : S1024x1024.Idx)) = _
  rw [e]
  pointwise

/-- The block of the gates' columns. -/
theorem g_read (c : Dev nD) (t : Fin cfg0.N) (d : Fin 1024) (j : Fin 3072) : View.ld (iblk m c 4 t) r0_4 (ix2 d j) = argW m c (ix2 d ⟨2592 + j.val, by omega⟩) := by
  pointwise
  unfold iblk
  entry_read
  have e : (win0_4.blk t).view.emb (ix2 d j : S1024x3072.Idx) = (ix2 d j : S1024x3072.Idx) := by
    blk_ext [idx t]
  show truncf .bf16 (extractStridedSlice S1024x3072 ![0, 2592] (argW m c) slices_S1024x5664_S1024x3072_0_2592) bitsLt_bf16_f32 ((win0_4.blk t).view.emb (ix2 d j : S1024x3072.Idx)) = _
  rw [e]
  pointwise

set_option maxHeartbeats 2000000 in
/-- The attention's queries and keys, with their decays. -/
theorem final9 (c : Dev nD) : (dats m 0 c).arrAt 9 cfg0.N = val_main_v62 (F := Ideal) (argX m c) (argW m c) (argUf m c) (argUb m c) (argYf m c) (argYb m c) := by
  refine (dats m 0 c).arrAt_eq_of_covers 9 _ (by decide +kernel) fun t _ y => ?_
  blk_simp
  rw [after0_9]
  unfold_out out0_9
  canon_tiles x h
  case piece0 =>
    idx_vars x
    obtain rfl : x0 = 0 := Subsingleton.elim _ _
    refine (kb_out (x_read m c t) (l_read m c t) (u_read m c t) (y_read m c t) (s_read m c t) (a_read m c t) x1 x2).trans (congrArg _ (?_ : ix3 (seqOf t) (tok (tileOf t) x1) ⟨768 + x2.val, by omega⟩ = ((View.whole main_v45_0).slice (win0_9.rect t)).emb y))
    blk_ext [idx t]
  case piece1 =>
    idx_vars x
    obtain rfl : x0 = 0 := Subsingleton.elim _ _
    refine (qb_out (x_read m c t) (l_read m c t) (u_read m c t) (y_read m c t) (s_read m c t) (a_read m c t) x1 x2).trans (congrArg _ (?_ : ix3 (seqOf t) (tok (tileOf t) x1) ⟨512 + x2.val, by omega⟩ = ((View.whole main_v45_0).slice (win0_9.rect t)).emb y))
    blk_ext [idx t]
  case piece2 =>
    idx_vars x
    obtain rfl : x0 = 0 := Subsingleton.elim _ _
    refine (kf_out (x_read m c t) (l_read m c t) (u_read m c t) (y_read m c t) (t_read m c t) (a_read m c t) x1 x2).trans (congrArg _ (?_ : ix3 (seqOf t) (tok (tileOf t) x1) ⟨256 + x2.val, by omega⟩ = ((View.whole main_v45_0).slice (win0_9.rect t)).emb y))
    blk_ext [idx t]
  case piece3 =>
    idx_vars x
    obtain rfl : x0 = 0 := Subsingleton.elim _ _
    refine (qf_out (x_read m c t) (l_read m c t) (u_read m c t) (y_read m c t) (t_read m c t) (a_read m c t) x1 x2).trans (congrArg _ (?_ : ix3 (seqOf t) (tok (tileOf t) x1) ⟨0 + x2.val, by omega⟩ = ((View.whole main_v45_0).slice (win0_9.rect t)).emb y))
    blk_ext [idx t]

set_option maxHeartbeats 2000000 in
/-- The attention's values. -/
theorem final10 (c : Dev nD) : (dats m 0 c).arrAt 10 cfg0.N = val_main_v63 (F := Ideal) (argX m c) (argW m c) := by
  refine (dats m 0 c).arrAt_eq_of_covers 10 _ (by decide +kernel) fun t _ y => ?_
  blk_simp
  rw [after0_10]
  unfold_out out0_10
  canon_tiles x h
  case piece0 =>
    idx_vars x
    obtain rfl : x0 = 0 := Subsingleton.elim _ _
    refine (v_out (x_read m c t) (a_read m c t) x1 x2).trans (congrArg _ (?_ : ix3 (seqOf t) (tok (tileOf t) x1) x2 = ((View.whole main_v45_1).slice (win0_10.rect t)).emb y))
    blk_ext [idx t]

set_option maxHeartbeats 2000000 in
/-- The attention's output gate. -/
theorem final11 (c : Dev nD) : (dats m 0 c).arrAt 11 cfg0.N = val_main_v64 (F := Ideal) (argX m c) (argW m c) := by
  refine (dats m 0 c).arrAt_eq_of_covers 11 _ (by decide +kernel) fun t _ y => ?_
  blk_simp
  rw [after0_11]
  unfold_out out0_11
  canon_tiles x h
  case piece0 =>
    idx_vars x
    obtain rfl : x0 = 0 := Subsingleton.elim _ _
    refine (og_out (x_read m c t) (a_read m c t) x1 x2).trans (congrArg _ (?_ : ix3 (seqOf t) (tok (tileOf t) x1) x2 = ((View.whole main_v45_2).slice (win0_11.rect t)).emb y))
    blk_ext [idx t]

set_option maxHeartbeats 2000000 in
/-- The chunks' decays. -/
theorem final12 (c : Dev nD) : (dats m 0 c).arrAt 12 cfg0.N = val_main_v61 (F := Ideal) (argX m c) (argW m c) (argUf m c) (argUb m c) (argYf m c) (argYb m c) := by
  refine (dats m 0 c).arrAt_eq_of_covers 12 _ (by decide +kernel) fun t _ y => ?_
  blk_simp
  rw [after0_12]
  unfold_out out0_12
  canon_tiles x h
  case piece0 =>
    idx_vars x
    obtain rfl : x0 = 0 := Subsingleton.elim _ _
    refine (db_out (x_read m c t) (l_read m c t) (u_read m c t) (y_read m c t) (s_read m c t) x1 x2).trans (congrArg _ (?_ : ix3 (seqOf t) (⟨(tileOf t).val * 8 + x1.val, by omega⟩ : Fin 64) ⟨256 + x2.val, by omega⟩ = ((View.whole main_v45_3).slice (win0_12.rect t)).emb y))
    blk_ext [idx t]
  case piece1 =>
    idx_vars x
    obtain rfl : x0 = 0 := Subsingleton.elim _ _
    refine (df_out (x_read m c t) (l_read m c t) (u_read m c t) (y_read m c t) (t_read m c t) x1 x2).trans (congrArg _ (?_ : ix3 (seqOf t) (⟨(tileOf t).val * 8 + x1.val, by omega⟩ : Fin 64) ⟨0 + x2.val, by omega⟩ = ((View.whole main_v45_3).slice (win0_12.rect t)).emb y))
    blk_ext [idx t]

set_option maxHeartbeats 2000000 in
/-- The pooling's input. -/
theorem final13 (c : Dev nD) : (dats m 0 c).arrAt 13 cfg0.N = val_main_v65 (F := Ideal) (argX m c) (argW m c) := by
  refine (dats m 0 c).arrAt_eq_of_covers 13 _ (by decide +kernel) fun t _ y => ?_
  blk_simp
  rw [after0_13]
  unfold_out out0_13
  canon_tiles x h
  case piece0 =>
    idx_vars x
    obtain rfl : x0 = 0 := Subsingleton.elim _ _
    refine (p_out (x_read m c t) (b_read m c t) x1 x2).trans (congrArg _ (?_ : ix3 (seqOf t) (tok (tileOf t) x1) x2 = ((View.whole main_v45_4).slice (win0_13.rect t)).emb y))
    blk_ext [idx t]

set_option maxHeartbeats 2000000 in
/-- The neighbourhood attention's input. -/
theorem final14 (c : Dev nD) : (dats m 0 c).arrAt 14 cfg0.N = val_main_v66 (F := Ideal) (argX m c) (argW m c) := by
  refine (dats m 0 c).arrAt_eq_of_covers 14 _ (by decide +kernel) fun t _ y => ?_
  blk_simp
  rw [after0_14]
  unfold_out out0_14
  canon_tiles x h
  case piece0 =>
    idx_vars x
    obtain rfl : x0 = 0 := Subsingleton.elim _ _
    refine (qkv_out (x_read m c t) (b_read m c t) x1 x2).trans (congrArg _ (?_ : ix3 (seqOf t) (tok (tileOf t) x1) x2 = ((View.whole main_v45_5).slice (win0_14.rect t)).emb y))
    blk_ext [idx t]

set_option maxHeartbeats 2000000 in
/-- The branch gates. -/
theorem final15 (c : Dev nD) : (dats m 0 c).arrAt 15 cfg0.N = val_main_v67 (F := Ideal) (argX m c) (argW m c) := by
  refine (dats m 0 c).arrAt_eq_of_covers 15 _ (by decide +kernel) fun t _ y => ?_
  blk_simp
  rw [after0_15]
  unfold_out out0_15
  canon_tiles x h
  case piece0 =>
    idx_vars x
    obtain rfl : x0 = 0 := Subsingleton.elim _ _
    refine (gates_out (x_read m c t) (g_read m c t) x1 x2).trans (congrArg _ (?_ : ix3 (seqOf t) (tok (tileOf t) x1) x2 = ((View.whole main_v45_6).slice (win0_15.rect t)).emb y))
    blk_ext [idx t]

set_option maxHeartbeats 2000000 in
/-- The kernel's result arrays are the reference's. -/
theorem algebraic : Cert.algebraic_InprojKernelIdeal_InprojReferenceIdeal := by
  pair_intro
  · run_from Cert.InprojKernelIdeal.Value.run_blocks m g
  · run_from Cert.InprojReferenceIdeal.Value.run m' g'
    all_goals obtain ⟨h0, h1, h2, h3, h4, h5⟩ := hagree c
    · rw [final9 m c, Cert.InprojReferenceIdeal.Read.val_main_v62_eq, h0, h1, h2, h3, h4, h5]
    · exact (final10 m c).symm
    · exact (final11 m c).symm
    · rw [final12 m c, Cert.InprojReferenceIdeal.Read.val_main_v61_eq, h0, h1, h2, h3, h4, h5]
    · exact (final13 m c).symm
    · exact (final14 m c).symm
    · exact (final15 m c).symm

end Cert.Proof.Inproj

end
-- ==== Proof.lean ====
/- The frames, the idealizations and the values of the four calls: the gated linear attention, the feed-forward part, the merge and the input projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Step
public import proofs.«01_k».proof.Proof.Gla.Final
public import proofs.«01_k».proof.Proof.Gla.FrameBits
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Ffn.Final
public import proofs.«01_k».proof.Proof.Gen.FfnReferenceIdeal
public import proofs.«01_k».proof.Proof.Gen.Pre_finite_inputs
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.Pre_finite_gate
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Merge.Final
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojReferenceIdeal
public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.Inproj.Final
public import Idealize.ShloMosaic.Adequacy
public import Idealize.ShloMosaic.Init

@[expose] public section

noncomputable section

namespace Cert.Proof

open Idealize.ShloMosaic Idealize.SL.Sem Cert.FfnKernel

/-- The attention reference terminates, leaves its arguments as they were and has no semaphore to leave raised. -/
theorem attention_reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1)
        ∧ r.2.mem ((c.tc : Thread Cert.ReferenceIdeal.nD Cert.ReferenceIdeal.τ).loc Cert.ReferenceIdeal.main_arg2) = m (c.tc.loc Cert.ReferenceIdeal.main_arg2)
        ∧ r.2.mem ((c.tc : Thread Cert.ReferenceIdeal.nD Cert.ReferenceIdeal.τ).loc Cert.ReferenceIdeal.main_arg3) = m (c.tc.loc Cert.ReferenceIdeal.main_arg3))
        ∧ r.2.sem = fun _ => 0) :=
  (θ_run _ _ _).mono (fun r h => ⟨fun c => (h c).2, sem_eq_zero_of_no_sems rfl _⟩) (Cert.ReferenceIdeal.Value.run m ρ)

/-- The feed-forward reference terminates, leaves its arguments as they were and has no semaphore to leave raised. -/
theorem ffn_reference_frame (m : (ℓ : Loc Cert.FfnReferenceIdeal.nD Cert.FfnReferenceIdeal.τ Cert.FfnReferenceIdeal.sig) → Buf (Elt Ideal) ℓ)
    (ρ : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, ρ⟩
      (fun r => (∀ c : Dev Cert.FfnReferenceIdeal.nD,
        r.2.mem ((c.tc : Thread Cert.FfnReferenceIdeal.nD Cert.FfnReferenceIdeal.τ).loc Cert.FfnReferenceIdeal.main_arg0) = m (c.tc.loc Cert.FfnReferenceIdeal.main_arg0)
        ∧ r.2.mem ((c.tc : Thread Cert.FfnReferenceIdeal.nD Cert.FfnReferenceIdeal.τ).loc Cert.FfnReferenceIdeal.main_arg1) = m (c.tc.loc Cert.FfnReferenceIdeal.main_arg1)
        ∧ r.2.mem ((c.tc : Thread Cert.FfnReferenceIdeal.nD Cert.FfnReferenceIdeal.τ).loc Cert.FfnReferenceIdeal.main_arg2) = m (c.tc.loc Cert.FfnReferenceIdeal.main_arg2)
        ∧ r.2.mem ((c.tc : Thread Cert.FfnReferenceIdeal.nD Cert.FfnReferenceIdeal.τ).loc Cert.FfnReferenceIdeal.main_arg3) = m (c.tc.loc Cert.FfnReferenceIdeal.main_arg3)
        ∧ r.2.mem ((c.tc : Thread Cert.FfnReferenceIdeal.nD Cert.FfnReferenceIdeal.τ).loc Cert.FfnReferenceIdeal.main_arg4) = m (c.tc.loc Cert.FfnReferenceIdeal.main_arg4)
        ∧ r.2.mem ((c.tc : Thread Cert.FfnReferenceIdeal.nD Cert.FfnReferenceIdeal.τ).loc Cert.FfnReferenceIdeal.main_arg5) = m (c.tc.loc Cert.FfnReferenceIdeal.main_arg5))
        ∧ r.2.sem = fun _ => 0) :=
  (θ_run _ _ _).mono (fun r h => ⟨fun c => (h c).2, sem_eq_zero_of_no_sems rfl _⟩) (Cert.FfnReferenceIdeal.Value.run m ρ)

/-- The merge reference terminates, leaves its arguments as they were and has no semaphore to leave raised. -/
theorem merge_reference_frame (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩
      (fun r => (∀ c : Dev Cert.MergeReferenceIdeal.nD,
        r.2.mem ((c.tc : Thread Cert.MergeReferenceIdeal.nD Cert.MergeReferenceIdeal.τ).loc Cert.MergeReferenceIdeal.main_arg0) = m (c.tc.loc Cert.MergeReferenceIdeal.main_arg0)
        ∧ r.2.mem ((c.tc : Thread Cert.MergeReferenceIdeal.nD Cert.MergeReferenceIdeal.τ).loc Cert.MergeReferenceIdeal.main_arg1) = m (c.tc.loc Cert.MergeReferenceIdeal.main_arg1)
        ∧ r.2.mem ((c.tc : Thread Cert.MergeReferenceIdeal.nD Cert.MergeReferenceIdeal.τ).loc Cert.MergeReferenceIdeal.main_arg2) = m (c.tc.loc Cert.MergeReferenceIdeal.main_arg2)
        ∧ r.2.mem ((c.tc : Thread Cert.MergeReferenceIdeal.nD Cert.MergeReferenceIdeal.τ).loc Cert.MergeReferenceIdeal.main_arg3) = m (c.tc.loc Cert.MergeReferenceIdeal.main_arg3)
        ∧ r.2.mem ((c.tc : Thread Cert.MergeReferenceIdeal.nD Cert.MergeReferenceIdeal.τ).loc Cert.MergeReferenceIdeal.main_arg4) = m (c.tc.loc Cert.MergeReferenceIdeal.main_arg4)
        ∧ r.2.mem ((c.tc : Thread Cert.MergeReferenceIdeal.nD Cert.MergeReferenceIdeal.τ).loc Cert.MergeReferenceIdeal.main_arg5) = m (c.tc.loc Cert.MergeReferenceIdeal.main_arg5)
        ∧ r.2.mem ((c.tc : Thread Cert.MergeReferenceIdeal.nD Cert.MergeReferenceIdeal.τ).loc Cert.MergeReferenceIdeal.main_arg6) = m (c.tc.loc Cert.MergeReferenceIdeal.main_arg6)
        ∧ r.2.mem ((c.tc : Thread Cert.MergeReferenceIdeal.nD Cert.MergeReferenceIdeal.τ).loc Cert.MergeReferenceIdeal.main_arg7) = m (c.tc.loc Cert.MergeReferenceIdeal.main_arg7)
        ∧ r.2.mem ((c.tc : Thread Cert.MergeReferenceIdeal.nD Cert.MergeReferenceIdeal.τ).loc Cert.MergeReferenceIdeal.main_arg8) = m (c.tc.loc Cert.MergeReferenceIdeal.main_arg8)
        ∧ r.2.mem ((c.tc : Thread Cert.MergeReferenceIdeal.nD Cert.MergeReferenceIdeal.τ).loc Cert.MergeReferenceIdeal.main_arg9) = m (c.tc.loc Cert.MergeReferenceIdeal.main_arg9)
        ∧ r.2.mem ((c.tc : Thread Cert.MergeReferenceIdeal.nD Cert.MergeReferenceIdeal.τ).loc Cert.MergeReferenceIdeal.main_arg10) = m (c.tc.loc Cert.MergeReferenceIdeal.main_arg10)
        ∧ r.2.mem ((c.tc : Thread Cert.MergeReferenceIdeal.nD Cert.MergeReferenceIdeal.τ).loc Cert.MergeReferenceIdeal.main_arg11) = m (c.tc.loc Cert.MergeReferenceIdeal.main_arg11))
        ∧ r.2.sem = fun _ => 0) :=
  (θ_run _ _ _).mono (fun r h => ⟨fun c => (h c).2, sem_eq_zero_of_no_sems rfl _⟩) (Cert.MergeReferenceIdeal.Value.run m ρ)

/-- The input projection's reference terminates, leaves its arguments as they were and has no semaphore to leave raised. -/
theorem inproj_reference_frame (m : (ℓ : Loc Cert.InprojReferenceIdeal.nD Cert.InprojReferenceIdeal.τ Cert.InprojReferenceIdeal.sig) → Buf (Elt Ideal) ℓ)
    (ρ : Dev Cert.InprojReferenceIdeal.nD → PrngReg) :
    θ_run (Cert.InprojReferenceIdeal.defs (F := Ideal)) (onTc (τ := Cert.InprojReferenceIdeal.τ) (Cert.InprojReferenceIdeal.main (F := Ideal))) ⟨m, fun _ => 0, ρ⟩
      (fun r => (∀ c : Dev Cert.InprojReferenceIdeal.nD,
        r.2.mem ((c.tc : Thread Cert.InprojReferenceIdeal.nD Cert.InprojReferenceIdeal.τ).loc Cert.InprojReferenceIdeal.main_arg0) = m (c.tc.loc Cert.InprojReferenceIdeal.main_arg0)
        ∧ r.2.mem ((c.tc : Thread Cert.InprojReferenceIdeal.nD Cert.InprojReferenceIdeal.τ).loc Cert.InprojReferenceIdeal.main_arg1) = m (c.tc.loc Cert.InprojReferenceIdeal.main_arg1)
        ∧ r.2.mem ((c.tc : Thread Cert.InprojReferenceIdeal.nD Cert.InprojReferenceIdeal.τ).loc Cert.InprojReferenceIdeal.main_arg2) = m (c.tc.loc Cert.InprojReferenceIdeal.main_arg2)
        ∧ r.2.mem ((c.tc : Thread Cert.InprojReferenceIdeal.nD Cert.InprojReferenceIdeal.τ).loc Cert.InprojReferenceIdeal.main_arg3) = m (c.tc.loc Cert.InprojReferenceIdeal.main_arg3)
        ∧ r.2.mem ((c.tc : Thread Cert.InprojReferenceIdeal.nD Cert.InprojReferenceIdeal.τ).loc Cert.InprojReferenceIdeal.main_arg4) = m (c.tc.loc Cert.InprojReferenceIdeal.main_arg4)
        ∧ r.2.mem ((c.tc : Thread Cert.InprojReferenceIdeal.nD Cert.InprojReferenceIdeal.τ).loc Cert.InprojReferenceIdeal.main_arg5) = m (c.tc.loc Cert.InprojReferenceIdeal.main_arg5))
        ∧ r.2.sem = fun _ => 0) :=
  (θ_run _ _ _).mono (fun r h => ⟨fun c => (h c).2.2.2.2.2.2.2, sem_eq_zero_of_no_sems rfl _⟩) (Cert.InprojReferenceIdeal.Value.run m ρ)

/-- The frames, the idealizations and the values of the four calls. -/
theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.MergeKernel.Gen.facts, Cert.MergeKernelIdeal.Gen.facts, Cert.MergeReferenceIdeal.Gen.facts,
  Cert.InprojKernel.Gen.facts, Cert.InprojKernelIdeal.Gen.facts, Cert.InprojReferenceIdeal.Gen.facts,
  Cert.Pre_finite_inputs.Gen.facts, Cert.Pre_finite_gate.Gen.facts,
  fun m ρ _ => Cert.Proof.Gla.frame_bits m ρ,
  fun m ρ _ => Cert.Proof.Gla.frame m ρ,
  fun m ρ _ => attention_reference_frame m ρ,
  fun m ρ _ => Cert.FfnKernel.Gen.frame m ρ,
  fun m ρ _ => Cert.FfnKernelIdeal.Gen.frame m ρ,
  fun m ρ _ => Cert.FfnKernelIdeal.Gen.frame m ρ,
  fun m ρ _ => ffn_reference_frame m ρ,
  fun m ρ _ => ffn_reference_frame m ρ,
  fun m ρ _ => Cert.MergeKernel.Gen.frame m ρ,
  fun m ρ _ => Cert.MergeKernelIdeal.Gen.frame m ρ,
  fun m ρ _ => Cert.MergeKernelIdeal.Gen.frame m ρ,
  fun m ρ _ => merge_reference_frame m ρ,
  fun m ρ _ => merge_reference_frame m ρ,
  fun m ρ _ => Cert.InprojKernel.Gen.frame m ρ,
  fun m ρ _ => Cert.InprojKernelIdeal.Gen.frame m ρ,
  fun m ρ _ => inproj_reference_frame m ρ,
  trivial, Cert.Proof.Gla.algebraic,
  trivial, @Cert.Proof.Ffn.algebraic Cert.Pre_finite_inputs.Gen.facts,
  trivial, @Cert.Proof.Merge.algebraic Cert.Pre_finite_gate.Gen.facts,
  trivial, Cert.Proof.Inproj.algebraic⟩

end Cert.Proof

end
